-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prepared [hPre_prepared : Cert.Pre_prepared.Facts] (m : (ℓ : Loc Cert.KernelIdeal.nD Cert.KernelIdeal.τ Cert.KernelIdeal.sig) → Buf (Elt Ideal) ℓ) : Prop :=
  ∀ c : Dev Cert.KernelIdeal.nD,
    (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prepared [hPre_prepared : Cert.Pre_prepared.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_prepared [hKernelIdeal : Cert.KernelIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prepared m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_prepared [hReferenceIdeal : Cert.ReferenceIdeal.Facts] [hPre_prepared : Cert.Pre_prepared.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prepared m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_prepared [hKernelIdeal : Cert.KernelIdeal.Facts] [hReferenceIdeal : Cert.ReferenceIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prepared m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "query_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_prepared : Cert.Pre_prepared.Facts),
    quiescent_Kernel (hKernel := hKernel)
    ∧ quiescent_KernelIdeal (hKernelIdeal := hKernelIdeal)
    ∧ quiescent_KernelIdeal_pre_prepared (hKernelIdeal := hKernelIdeal) (hPre_prepared := hPre_prepared)
    ∧ quiescent_ReferenceIdeal (hReferenceIdeal := hReferenceIdeal)
    ∧ quiescent_ReferenceIdeal_pre_prepared (hReferenceIdeal := hReferenceIdeal) (hPre_prepared := hPre_prepared)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_prepared (hKernelIdeal := hKernelIdeal) (hReferenceIdeal := hReferenceIdeal) (hPre_prepared := hPre_prepared)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_prepared.lean ====
abbrev S512x32768 : Shape := ⟨2, ![512, 32768]⟩
abbrev S8x4096x512 : Shape := ⟨3, ![8, 4096, 512]⟩
abbrev S128x4x128x256 : Shape := ⟨4, ![128, 4, 128, 256]⟩
abbrev S4x3x512x512 : Shape := ⟨4, ![4, 3, 512, 512]⟩
abbrev S2x128 : Shape := ⟨2, ![2, 128]⟩
abbrev S128 : Shape := ⟨1, ![128]⟩
abbrev S4x512x512 : Shape := ⟨3, ![4, 512, 512]⟩
abbrev S4x1x512x512 : Shape := ⟨4, ![4, 1, 512, 512]⟩
abbrev S_ : Shape := ⟨0, ![]⟩

class Facts : Prop where
  slices_S4x3x512x512_S4x1x512x512_0_2_0_0 : S4x3x512x512.Slices ![0, 2, 0, 0] S4x1x512x512
  shapeCasts_S4x1x512x512_S4x512x512 : S4x1x512x512.ShapeCasts S4x512x512
  slices_S4x3x512x512_S4x1x512x512_0_1_0_0 : S4x3x512x512.Slices ![0, 1, 0, 0] S4x1x512x512
  bcast_S_S4x512x512 : S_.BroadcastsInDim S4x512x512 (![] : Fin 0 → Fin S4x512x512.rank)
  bitsLt_bf16_f32 : FTy.bits .bf16 < FTy.bits .f32
  bcast_S_S512x32768 : S_.BroadcastsInDim S512x32768 (![] : Fin 0 → Fin S512x32768.rank)
  bcast_S_S8x4096x512 : S_.BroadcastsInDim S8x4096x512 (![] : Fin 0 → Fin S8x4096x512.rank)
  bcast_S_S128x4x128x256 : S_.BroadcastsInDim S128x4x128x256 (![] : Fin 0 → Fin S128x4x128x256.rank)
  bcast_S_S2x128 : S_.BroadcastsInDim S2x128 (![] : Fin 0 → Fin S2x128.rank)

variable [Facts]

def fn_part2 {F : FTy → Type} [FloatOps F] (main_v3 : FVec F S4x512x512 .f32) (main_v5 : FVec F S4x512x512 .f32) (main_v15 : IVec S4x512x512 1) (main_v19 : IVec S512x32768 1) (main_v23 : IVec S8x4096x512 1) (main_v27 : IVec S128x4x128x256 1) (main_v30 : IVec S2x128 1) (main_v34 : IVec S4x512x512 1) (main_v35 : IVec S4x512x512 1) (main_v37 : FVec F S4x512x512 .f32) : IVec S512x32768 1 × IVec S8x4096x512 1 × IVec S128x4x128x256 1 × IVec S2x128 1 × IVec S4x512x512 1 × IVec S4x512x512 1 :=
  let main_v38 : IVec S4x512x512 1 := cmpf .oeq main_v3 main_v37
  let main_v39 : IVec S4x512x512 1 := andi main_v35 main_v38
  let main_v40 : IVec S4x512x512 1 := ori main_v34 main_v39
  let main_v41 : FVec F S4x512x512 .f32 := Host.absf main_v5
  let main_cst_8 : FVec F S_ .f32 := constant S_ .f32 0x7F800000#32
  let main_v42 : FVec F S4x512x512 .f32 := broadcastInDim S4x512x512 ![] bcast_S_S4x512x512 main_cst_8
  let main_v43 : IVec S4x512x512 1 := cmpf .olt main_v41 main_v42
  let main_v44 : IVec S4x512x512 1 := andi main_v15 main_v43
  let main_v45 : IVec S4x512x512 1 := noti main_v15
  let main_cst_9 : FVec F S_ .f32 := constant S_ .f32 0x00000000#32
  let main_v46 : FVec F S4x512x512 .f32 := broadcastInDim S4x512x512 ![] bcast_S_S4x512x512 main_cst_9
  let main_v47 : IVec S4x512x512 1 := cmpf .oeq main_v5 main_v46
  let main_v48 : IVec S4x512x512 1 := andi main_v45 main_v47
  let main_v49 : IVec S4x512x512 1 := ori main_v44 main_v48
  (main_v19, main_v23, main_v27, main_v30, main_v40, main_v49)

def fn_part1 {F : FTy → Type} [FloatOps F] (main_arg1 : FVec F S8x4096x512 .bf16) (main_arg2 : FVec F S128x4x128x256 .bf16) (main_arg4 : FVec F S2x128 .f32) (main_v3 : FVec F S4x512x512 .f32) (main_v5 : FVec F S4x512x512 .f32) (main_v10 : IVec S4x512x512 1) (main_v15 : IVec S4x512x512 1) (main_v17 : FVec F S512x32768 .f32) (main_v18 : FVec F S512x32768 .f32) : IVec S512x32768 1 × IVec S8x4096x512 1 × IVec S128x4x128x256 1 × IVec S2x128 1 × IVec S4x512x512 1 × IVec S4x512x512 1 :=
  let main_v19 : IVec S512x32768 1 := cmpf .olt main_v17 main_v18
  let main_v20 : FVec F S8x4096x512 .f32 := (extf .f32 · bitsLt_bf16_f32) main_arg1
  let main_v21 : FVec F S8x4096x512 .f32 := Host.absf main_v20
  let main_cst_3 : FVec F S_ .f32 := constant S_ .f32 0x7F800000#32
  let main_v22 : FVec F S8x4096x512 .f32 := broadcastInDim S8x4096x512 ![] bcast_S_S8x4096x512 main_cst_3
  let main_v23 : IVec S8x4096x512 1 := cmpf .olt main_v21 main_v22
  let main_v24 : FVec F S128x4x128x256 .f32 := (extf .f32 · bitsLt_bf16_f32) main_arg2
  let main_v25 : FVec F S128x4x128x256 .f32 := Host.absf main_v24
  let main_cst_4 : FVec F S_ .f32 := constant S_ .f32 0x7F800000#32
  let main_v26 : FVec F S128x4x128x256 .f32 := broadcastInDim S128x4x128x256 ![] bcast_S_S128x4x128x256 main_cst_4
  let main_v27 : IVec S128x4x128x256 1 := cmpf .olt main_v25 main_v26
  let main_v28 : FVec F S2x128 .f32 := Host.absf main_arg4
  let main_cst_5 : FVec F S_ .f32 := constant S_ .f32 0x7F800000#32
  let main_v29 : FVec F S2x128 .f32 := broadcastInDim S2x128 ![] bcast_S_S2x128 main_cst_5
  let main_v30 : IVec S2x128 1 := cmpf .olt main_v28 main_v29
  let main_v31 : FVec F S4x512x512 .f32 := Host.absf main_v3
  let main_cst_6 : FVec F S_ .f32 := constant S_ .f32 0x7F800000#32
  let main_v32 : FVec F S4x512x512 .f32 := broadcastInDim S4x512x512 ![] bcast_S_S4x512x512 main_cst_6
  let main_v33 : IVec S4x512x512 1 := cmpf .olt main_v31 main_v32
  let main_v34 : IVec S4x512x512 1 := andi main_v10 main_v33
  let main_v35 : IVec S4x512x512 1 := noti main_v10
  let main_cst_7 : FVec F S_ .f32 := constant S_ .f32 0x7F800000#32
  let main_v36 : FVec F S_ .f32 := Host.negf main_cst_7
  let main_v37 : FVec F S4x512x512 .f32 := broadcastInDim S4x512x512 ![] bcast_S_S4x512x512 main_v36
  fn_part2 (F := F) main_v3 main_v5 main_v15 main_v19 main_v23 main_v27 main_v30 main_v34 main_v35 main_v37

def fn {F : FTy → Type} [FloatOps F] (main_arg0 : FVec F S512x32768 .bf16) (main_arg1 : FVec F S8x4096x512 .bf16) (main_arg2 : FVec F S128x4x128x256 .bf16) (main_arg3 : FVec F S4x3x512x512 .f32) (main_arg4 : FVec F S2x128 .f32) (main_arg5 : FVec F S128 .f32) : IVec S512x32768 1 × IVec S8x4096x512 1 × IVec S128x4x128x256 1 × IVec S2x128 1 × IVec S4x512x512 1 × IVec S4x512x512 1 :=
  let main_v0 : IVec S4x512x512 32 := iotaInDim S4x512x512 32 1
  let main_v1 : IVec S4x512x512 32 := iotaInDim S4x512x512 32 2
  let main_v2 : FVec F S4x1x512x512 .f32 := (extractStridedSlice S4x1x512x512 ![0, 2, 0, 0] · slices_S4x3x512x512_S4x1x512x512_0_2_0_0) main_arg3
  let main_v3 : FVec F S4x512x512 .f32 := shapeCast S4x512x512 main_v2 shapeCasts_S4x1x512x512_S4x512x512
  let main_v4 : FVec F S4x1x512x512 .f32 := (extractStridedSlice S4x1x512x512 ![0, 1, 0, 0] · slices_S4x3x512x512_S4x1x512x512_0_1_0_0) main_arg3
  let main_v5 : FVec F S4x512x512 .f32 := shapeCast S4x512x512 main_v4 shapeCasts_S4x1x512x512_S4x512x512
  let main_c : IVec S_ 32 := constantI S_ 32 64#32
  let main_v6 : IVec S4x512x512 32 := broadcastInDim S4x512x512 ![] bcast_S_S4x512x512 main_c
  let main_v7 : IVec S4x512x512 32 := Host.divsi main_v0 main_v6
  let main_c_0 : IVec S_ 32 := constantI S_ 32 64#32
  let main_v8 : IVec S4x512x512 32 := broadcastInDim S4x512x512 ![] bcast_S_S4x512x512 main_c_0
  let main_v9 : IVec S4x512x512 32 := Host.divsi main_v1 main_v8
  let main_v10 : IVec S4x512x512 1 := cmpi .sle main_v7 main_v9
  let main_c_1 : IVec S_ 32 := constantI S_ 32 384#32
  let main_v11 : IVec S4x512x512 32 := broadcastInDim S4x512x512 ![] bcast_S_S4x512x512 main_c_1
  let main_v12 : IVec S4x512x512 1 := cmpi .sge main_v0 main_v11
  let main_c_2 : IVec S_ 32 := constantI S_ 32 128#32
  let main_v13 : IVec S4x512x512 32 := broadcastInDim S4x512x512 ![] bcast_S_S4x512x512 main_c_2
  let main_v14 : IVec S4x512x512 1 := cmpi .slt main_v1 main_v13
  let main_v15 : IVec S4x512x512 1 := andi main_v12 main_v14
  let main_v16 : FVec F S512x32768 .f32 := (extf .f32 · bitsLt_bf16_f32) main_arg0
  let main_v17 : FVec F S512x32768 .f32 := Host.absf main_v16
  let main_cst : FVec F S_ .f32 := constant S_ .f32 0x7F800000#32
  let main_v18 : FVec F S512x32768 .f32 := broadcastInDim S512x32768 ![] bcast_S_S512x32768 main_cst
  fn_part1 (F := F) main_arg1 main_arg2 main_arg4 main_v3 main_v5 main_v10 main_v15 main_v17 main_v18
-- ==== Kernel.lean ====
abbrev S512x32768 : Shape := ⟨2, ![512, 32768]⟩
abbrev S8x4096x512 : Shape := ⟨3, ![8, 4096, 512]⟩
abbrev S128x4x128x256 : Shape := ⟨4, ![128, 4, 128, 256]⟩
abbrev S4x3x512x512 : Shape := ⟨4, ![4, 3, 512, 512]⟩
abbrev S2x128 : Shape := ⟨2, ![2, 128]⟩
abbrev S128 : Shape := ⟨1, ![128]⟩
abbrev S_ : Shape := ⟨0, ![]⟩
abbrev S128x1 : Shape := ⟨2, ![128, 1]⟩
abbrev S128x512 : Shape := ⟨2, ![128, 512]⟩
abbrev S128x4096 : Shape := ⟨2, ![128, 4096]⟩
abbrev S1x4096x128 : Shape := ⟨3, ![1, 4096, 128]⟩
abbrev S16x1x128x256 : Shape := ⟨4, ![16, 1, 128, 256]⟩
abbrev S1x3x512x512 : Shape := ⟨4, ![1, 3, 512, 512]⟩
abbrev S8x128x1024 : Shape := ⟨3, ![8, 128, 1024]⟩
abbrev S8x8x1024 : Shape := ⟨3, ![8, 8, 1024]⟩
abbrev S1x128x512 : Shape := ⟨3, ![1, 128, 512]⟩
abbrev S1x1x512x512 : Shape := ⟨4, ![1, 1, 512, 512]⟩
abbrev S512x512 : Shape := ⟨2, ![512, 512]⟩
abbrev S1x256x128 : Shape := ⟨3, ![1, 256, 128]⟩
abbrev S256x128 : Shape := ⟨2, ![256, 128]⟩
abbrev S1x128x1024 : Shape := ⟨3, ![1, 128, 1024]⟩
abbrev S128x1024 : Shape := ⟨2, ![128, 1024]⟩
abbrev S256x1024 : Shape := ⟨2, ![256, 1024]⟩
abbrev S256x512 : Shape := ⟨2, ![256, 512]⟩
abbrev S1x8x1024 : Shape := ⟨3, ![1, 8, 1024]⟩
abbrev S8x1024 : Shape := ⟨2, ![8, 1024]⟩
abbrev S32x8x512 : Shape := ⟨3, ![32, 8, 512]⟩
abbrev S8x512 : Shape := ⟨2, ![8, 512]⟩
abbrev S1x128x256 : Shape := ⟨3, ![1, 128, 256]⟩
abbrev S128x256 : Shape := ⟨2, ![128, 256]⟩
abbrev S256x256 : Shape := ⟨2, ![256, 256]⟩
abbrev S1x1x128x256 : Shape := ⟨4, ![1, 1, 128, 256]⟩
abbrev S1x8x256 : Shape := ⟨3, ![1, 8, 256]⟩
abbrev S8x256 : Shape := ⟨2, ![8, 256]⟩
abbrev S32x8x256 : Shape := ⟨3, ![32, 8, 256]⟩
abbrev S128x2048 : Shape := ⟨2, ![128, 2048]⟩
abbrev S1x512x128 : Shape := ⟨3, ![1, 512, 128]⟩
abbrev S512x128 : Shape := ⟨2, ![512, 128]⟩
abbrev S512x2048 : Shape := ⟨2, ![512, 2048]⟩
abbrev S1x1x128x128 : Shape := ⟨4, ![1, 1, 128, 128]⟩
abbrev S128x128 : Shape := ⟨2, ![128, 128]⟩
abbrev S128x384 : Shape := ⟨2, ![128, 384]⟩
abbrev S128x1408 : Shape := ⟨2, ![128, 1408]⟩
abbrev S384x2048 : Shape := ⟨2, ![384, 2048]⟩
abbrev S256x2048 : Shape := ⟨2, ![256, 2048]⟩
abbrev S512x1024 : Shape := ⟨2, ![512, 1024]⟩
abbrev S64x8x1024 : Shape := ⟨3, ![64, 8, 1024]⟩
abbrev S384x1024 : Shape := ⟨2, ![384, 1024]⟩
abbrev S1024 : Shape := ⟨1, ![1024]⟩
abbrev S1x1024 : Shape := ⟨2, ![1, 1024]⟩
abbrev S1x1 : Shape := ⟨2, ![1, 1]⟩
abbrev S512 : Shape := ⟨1, ![512]⟩
abbrev S1x512 : Shape := ⟨2, ![1, 512]⟩

abbrev nBuf : Space → Nat
  | .hbm => 12
  | .vmem => 15
  | .smem => 0
  | _ => 0

abbrev bufTy : (tb : Table) → Fin (tcTables nBuf tb) → BufTy
  | .hbm, ⟨0, _⟩ => ⟨S512x32768, .bf16⟩
  | .hbm, ⟨1, _⟩ => ⟨S8x4096x512, .bf16⟩
  | .hbm, ⟨2, _⟩ => ⟨S128x4x128x256, .bf16⟩
  | .hbm, ⟨3, _⟩ => ⟨S4x3x512x512, .f32⟩
  | .hbm, ⟨4, _⟩ => ⟨S2x128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128x1, .f32⟩
  | .hbm, ⟨10, _⟩ => ⟨S128x512, .f32⟩
  | .hbm, ⟨11, _⟩ => ⟨S8x4096x512, .bf16⟩
  | .local _ .vmem, ⟨0, _⟩ => ⟨S128x4096, .bf16⟩
  | .local _ .vmem, ⟨1, _⟩ => ⟨S128x4096, .bf16⟩
  | .local _ .vmem, ⟨2, _⟩ => ⟨S1x4096x128, .bf16⟩
  | .local _ .vmem, ⟨3, _⟩ => ⟨S1x4096x128, .bf16⟩
  | .local _ .vmem, ⟨4, _⟩ => ⟨S16x1x128x256, .bf16⟩
  | .local _ .vmem, ⟨5, _⟩ => ⟨S16x1x128x256, .bf16⟩
  | .local _ .vmem, ⟨6, _⟩ => ⟨S1x3x512x512, .f32⟩
  | .local _ .vmem, ⟨7, _⟩ => ⟨S1x3x512x512, .f32⟩
  | .local _ .vmem, ⟨8, _⟩ => ⟨S2x128, .f32⟩
  | .local _ .vmem, ⟨9, _⟩ => ⟨S128x512, .f32⟩
  | .local _ .vmem, ⟨10, _⟩ => ⟨S1x4096x128, .bf16⟩
  | .local _ .vmem, ⟨11, _⟩ => ⟨S1x4096x128, .bf16⟩
  | .local _ .vmem, ⟨12, _⟩ => ⟨S8x128x1024, .bf16⟩
  | .local _ .vmem, ⟨13, _⟩ => ⟨S8x128x1024, .f32⟩
  | .local _ .vmem, ⟨14, _⟩ => ⟨S8x8x1024, .f32⟩
  | _, _ => ⟨S512x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S512x32768 : Shape := ⟨2, ![512, 32768]⟩
abbrev S8x4096x512 : Shape := ⟨3, ![8, 4096, 512]⟩
abbrev S128x4x128x256 : Shape := ⟨4, ![128, 4, 128, 256]⟩
abbrev S4x3x512x512 : Shape := ⟨4, ![4, 3, 512, 512]⟩
abbrev S2x128 : Shape := ⟨2, ![2, 128]⟩
abbrev S128 : Shape := ⟨1, ![128]⟩
abbrev S4x2x64x8x4096 : Shape := ⟨5, ![4, 2, 64, 8, 4096]⟩
abbrev S8x4096x4x2x64 : Shape := ⟨5, ![8, 4096, 4, 2, 64]⟩
abbrev S8x16x4x128x256 : Shape := ⟨5, ![8, 16, 4, 128, 256]⟩
abbrev S8x16x256x4x128 : Shape := ⟨5, ![8, 16, 256, 4, 128]⟩
abbrev S8x4096x4x128 : Shape := ⟨4, ![8, 4096, 4, 128]⟩
abbrev S8 : Shape := ⟨1, ![8]⟩
abbrev S8x1x1x1 : Shape := ⟨4, ![8, 1, 1, 1]⟩
abbrev S1x1x8x1 : Shape := ⟨4, ![1, 1, 8, 1]⟩
abbrev S8x1x8x1 : Shape := ⟨4, ![8, 1, 8, 1]⟩
abbrev S4x1x512x512 : Shape := ⟨4, ![4, 1, 512, 512]⟩
abbrev S4x512x512 : Shape := ⟨3, ![4, 512, 512]⟩
abbrev S4x1x512x1x512 : Shape := ⟨5, ![4, 1, 512, 1, 512]⟩
abbrev S_ : Shape := ⟨0, ![]⟩
abbrev S4x8x512x8x512 : Shape := ⟨5, ![4, 8, 512, 8, 512]⟩
abbrev S4x4096x4096 : Shape := ⟨3, ![4, 4096, 4096]⟩
abbrev S8x4x2x4096x4096 : Shape := ⟨5, ![8, 4, 2, 4096, 4096]⟩
abbrev S1x4x1x4096x4096 : Shape := ⟨5, ![1, 4, 1, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S1x1 : Shape := ⟨2, ![1, 1]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 112
  | .vmem => 0
  | .smem => 0
  | _ => 0

abbrev bufTy : (tb : Table) → Fin (tcTables nBuf tb) → BufTy
  | .hbm, ⟨0, _⟩ => ⟨S512x32768, .bf16⟩
  | .hbm, ⟨1, _⟩ => ⟨S8x4096x512, .bf16⟩
  | .hbm, ⟨2, _⟩ => ⟨S128x4x128x256, .bf16⟩
  | .hbm, ⟨3, _⟩ => ⟨S4x3x512x512, .f32⟩
  | .hbm, ⟨4, _⟩ => ⟨S2x128, .f32⟩
  | .hbm, ⟨5, _⟩ => ⟨S128, .f32⟩
  | .hbm, ⟨6, _⟩ => ⟨S512x32768, .f32⟩
  | .hbm, ⟨7, _⟩ => ⟨S4x2x64x8x4096, .f32⟩
  | .hbm, ⟨8, _⟩ => ⟨S8x4096x512, .f32⟩
  | .hbm, ⟨9, _⟩ => ⟨S8x4096x4x2x64, .f32⟩
  | .hbm, ⟨10, _⟩ => ⟨S128x4x128x256, .f32⟩
  | .hbm, ⟨11, _⟩ => ⟨S8x16x4x128x256, .f32⟩
  | .hbm, ⟨12, _⟩ => ⟨S8x16x256x4x128, .f32⟩
  | .hbm, ⟨13, _⟩ => ⟨S8x4096x4x128, .f32⟩
  | .hbm, ⟨14, _⟩ => ⟨S8, .i32⟩
  | .hbm, ⟨15, _⟩ => ⟨S8x1x1x1, .i32⟩
  | .hbm, ⟨16, _⟩ => ⟨S1x1x8x1, .i32⟩
  | .hbm, ⟨17, _⟩ => ⟨S8x1x8x1, .i32⟩
  | .hbm, ⟨18, _⟩ => ⟨S8x1x8x1, .i32⟩
  | .hbm, ⟨19, _⟩ => ⟨S8x1x8x1, .i1⟩
  | .hbm, ⟨20, _⟩ => ⟨S4x1x512x512, .f32⟩
  | .hbm, ⟨21, _⟩ => ⟨S4x512x512, .f32⟩
  | .hbm, ⟨22, _⟩ => ⟨S4x512x512, .f32⟩
  | .hbm, ⟨23, _⟩ => ⟨S4x1x512x1x512, .f32⟩
  | .hbm, ⟨24, _⟩ => ⟨S_, .i32⟩
  | .hbm, ⟨25, _⟩ => ⟨S1x1x8x1, .i32⟩
  | .hbm, ⟨26, _⟩ => ⟨S1x1x8x1, .i32⟩
  | .hbm, ⟨27, _⟩ => ⟨S8x1x8x1, .i32⟩
  | .hbm, ⟨28, _⟩ => ⟨S8x1x8x1, .i32⟩
  | .hbm, ⟨29, _⟩ => ⟨S8x1x8x1, .i1⟩
  | .hbm, ⟨30, _⟩ => ⟨S4x1x512x512, .f32⟩
  | .hbm, ⟨31, _⟩ => ⟨S4x512x512, .f32⟩
  | .hbm, ⟨32, _⟩ => ⟨S4x512x512, .f32⟩
  | .hbm, ⟨33, _⟩ => ⟨S4x1x512x1x512, .f32⟩
  | .hbm, ⟨34, _⟩ => ⟨S_, .f32⟩
  | .hbm, ⟨35, _⟩ => ⟨S_, .f32⟩
  | .hbm, ⟨36, _⟩ => ⟨S4x8x512x8x512, .i1⟩
  | .hbm, ⟨37, _⟩ => ⟨S4x8x512x8x512, .f32⟩
  | .hbm, ⟨38, _⟩ => ⟨S4x8x512x8x512, .f32⟩
  | .hbm, ⟨39, _⟩ => ⟨S4x8x512x8x512, .f32⟩
  | .hbm, ⟨40, _⟩ => ⟨S4x8x512x8x512, .i1⟩
  | .hbm, ⟨41, _⟩ => ⟨S4x8x512x8x512, .f32⟩
  | .hbm, ⟨42, _⟩ => ⟨S4x8x512x8x512, .f32⟩
  | .hbm, ⟨43, _⟩ => ⟨S4x4096x4096, .f32⟩
  | .hbm, ⟨44, _⟩ => ⟨S8x4x2x4096x4096, .f32⟩
  | .hbm, ⟨45, _⟩ => ⟨S1x4x1x4096x4096, .f32⟩
  | .hbm, ⟨46, _⟩ => ⟨S8x4x2x4096x4096, .f32⟩
  | .hbm, ⟨47, _⟩ => ⟨S8x4x2x4096x4096, .f32⟩
  | .hbm, ⟨48, _⟩ => ⟨S_, .f32⟩
  | .hbm, ⟨49, _⟩ => ⟨S_, .f32⟩
  | .hbm, ⟨50, _⟩ => ⟨S8x4x2x4096x4096, .f32⟩
  | .hbm, ⟨51, _⟩ => ⟨S8x4x2x4096x4096, .f32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S1x4096, .i32⟩
  | .hbm, ⟨57, _⟩ => ⟨S4096x1, .i32⟩
  | .hbm, ⟨58, _⟩ => ⟨S4096x4096, .i32⟩
  | .hbm, ⟨59, _⟩ => ⟨S4096x4096, .i32⟩
  | .hbm, ⟨60, _⟩ => ⟨S4096x4096, .i1⟩
  | .hbm, ⟨61, _⟩ => ⟨S_, .f32⟩
  | .hbm, ⟨62, _⟩ => ⟨S_, .f32⟩
  | .hbm, ⟨63, _⟩ => ⟨S8x4x2x4096x4096, .i1⟩
  | .hbm, ⟨64, _⟩ => ⟨S8x4x2x4096x4096, .f32⟩
  | .hbm, ⟨65, _⟩ => ⟨S8x4x2x4096x4096, .f32⟩
  | .hbm, ⟨66, _⟩ => ⟨S_, .f32⟩
  | .hbm, ⟨67, _⟩ => ⟨S8x4x2x4096, .f32⟩
  | .hbm, ⟨68, _⟩ => ⟨S_, .f32⟩
  | .hbm, ⟨69, _⟩ => ⟨S8x4x2x4096, .f32⟩
  | .hbm, ⟨70, _⟩ => ⟨S8x4x2x4096, .f32⟩
  | .hbm, ⟨71, _⟩ => ⟨S8x4x2x4096x1, .f32⟩
  | .hbm, ⟨72, _⟩ => ⟨S8x4x2x4096x4096, .f32⟩
  | .hbm, ⟨73, _⟩ => ⟨S8x4x2x4096x4096, .f32⟩
  | .hbm, ⟨74, _⟩ => ⟨S8x4x2x4096x4096, .f32⟩
  | .hbm, ⟨75, _⟩ => ⟨S_, .f32⟩
  | .hbm, ⟨76, _⟩ => ⟨S8x4x2x4096, .f32⟩
  | .hbm, ⟨77, _⟩ => ⟨S8x4x2x4096x1, .f32⟩
  | .hbm, ⟨78, _⟩ => ⟨S8x4x2x4096x4096, .f32⟩
  | .hbm, ⟨79, _⟩ => ⟨S8x4x2x4096x4096, .f32⟩
  | .hbm, ⟨80, _⟩ => ⟨S8x4x1x4096x4096, .f32⟩
  | .hbm, ⟨81, _⟩ => ⟨S8x4x4096x4096, .f32⟩
  | .hbm, ⟨82, _⟩ => ⟨S1x1, .f32⟩
  | .hbm, ⟨83, _⟩ => ⟨S_, .f32⟩
  | .hbm, ⟨84, _⟩ => ⟨S8x4x1x4096x4096, .f32⟩
  | .hbm, ⟨85, _⟩ => ⟨S8x4x4096x4096, .f32⟩
  | .hbm, ⟨86, _⟩ => ⟨S8x4x4096x4096, .f32⟩
  | .hbm, ⟨87, _⟩ => ⟨S8x4x4096x4096, .f32⟩
  | .hbm, ⟨88, _⟩ => ⟨S8x4x4096x4096, .f32⟩
  | .hbm, ⟨89, _⟩ => ⟨S8x4x128x4096, .f32⟩
  | .hbm, ⟨90, _⟩ => ⟨S8x4096x4x128, .f32⟩
  | .hbm, ⟨91, _⟩ => ⟨S8x4096x4x128, .f32⟩
  | .hbm, ⟨92, _⟩ => ⟨S_, .f32⟩
  | .hbm, ⟨93, _⟩ => ⟨S8x4096x4, .f32⟩
  | .hbm, ⟨94, _⟩ => ⟨S8x4096x4x1, .f32⟩
  | .hbm, ⟨95, _⟩ => ⟨S_, .f32⟩
  | .hbm, ⟨96, _⟩ => ⟨S8x4096x4x1, .f32⟩
  | .hbm, ⟨97, _⟩ => ⟨S8x4096x4x1, .f32⟩
  | .hbm, ⟨98, _⟩ => ⟨S_, .f32⟩
  | .hbm, ⟨99, _⟩ => ⟨S8x4096x4x1, .f32⟩
  | .hbm, ⟨100, _⟩ => ⟨S8x4096x4x1, .f32⟩
  | .hbm, ⟨101, _⟩ => ⟨S8x4096x4x1, .f32⟩
  | .hbm, ⟨102, _⟩ => ⟨S8x4096x4x128, .f32⟩
  | .hbm, ⟨103, _⟩ => ⟨S8x4096x4x128, .f32⟩
  | .hbm, ⟨104, _⟩ => ⟨S1x1x1x128, .f32⟩
  | .hbm, ⟨105, _⟩ => ⟨S8x4096x4x128, .f32⟩
  | .hbm, ⟨106, _⟩ => ⟨S8x4096x4x128, .f32⟩
  | .hbm, ⟨107, _⟩ => ⟨S_, .f32⟩
  | .hbm, ⟨108, _⟩ => ⟨S8x4096x4x128, .f32⟩
  | .hbm, ⟨109, _⟩ => ⟨S8x4096x4x128, .f32⟩
  | .hbm, ⟨110, _⟩ => ⟨S8x4096x512, .f32⟩
  | .hbm, ⟨111, _⟩ => ⟨S8x4096x512, .bf16⟩
  | _, _ => ⟨S512x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_v27 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_cst_7 : Ref sig .tc := ⟨.hbm, 95, rfl⟩
abbrev main_v71 : Ref sig .tc := ⟨.hbm, 96, rfl⟩
abbrev main_v72 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_9 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x5120 : Shape := ⟨2, ![1024, 5120]⟩
abbrev S2048 : Shape := ⟨1, ![2048]⟩
abbrev S8x4096x512 : Shape := ⟨3, ![8, 4096, 512]⟩
abbrev S512x1024 : Shape := ⟨2, ![512, 1024]⟩
abbrev S1024x1024 : Shape := ⟨2, ![1024, 1024]⟩
abbrev S32768x1024 : Shape := ⟨2, ![32768, 1024]⟩
abbrev S1x1024 : Shape := ⟨2, ![1, 1024]⟩
abbrev S1024x512 : Shape := ⟨2, ![1024, 512]⟩
abbrev S1024x2560 : Shape := ⟨2, ![1024, 2560]⟩
abbrev S1024x3072 : Shape := ⟨2, ![1024, 3072]⟩
abbrev S1x2048 : Shape := ⟨2, ![1, 2048]⟩
abbrev S32768x512 : Shape := ⟨2, ![32768, 512]⟩
abbrev S1024x1 : Shape := ⟨2, ![1024, 1]⟩
abbrev S1024x2048 : Shape := ⟨2, ![1024, 2048]⟩

abbrev nBuf : Space → Nat
  | .hbm => 22
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5120, .f32⟩
  | .hbm, ⟨3, _⟩ => ⟨S2048, .f32⟩
  | .hbm, ⟨4, _⟩ => ⟨S8x4096x512, .bf16⟩
  | .hbm, ⟨5, _⟩ => ⟨S8x4096x512, .bf16⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S32768x1024, .f32⟩
  | .hbm, ⟨10, _⟩ => ⟨S1x1024, .f32⟩
  | .hbm, ⟨11, _⟩ => ⟨S1024x512, .f32⟩
  | .hbm, ⟨12, _⟩ => ⟨S1024x2560, .f32⟩
  | .hbm, ⟨13, _⟩ => ⟨S1024x3072, .f32⟩
  | .hbm, ⟨14, _⟩ => ⟨S1024x3072, .bf16⟩
  | .hbm, ⟨15, _⟩ => ⟨S1x2048, .f32⟩
  | .hbm, ⟨16, _⟩ => ⟨S32768x512, .bf16⟩
  | .hbm, ⟨17, _⟩ => ⟨S32768x512, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x2048, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S1024 : Shape := ⟨1, ![1024]⟩
abbrev S1024x5120 : Shape := ⟨2, ![1024, 5120]⟩
abbrev S2048 : Shape := ⟨1, ![2048]⟩
abbrev S8x4096x512 : Shape := ⟨3, ![8, 4096, 512]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩
abbrev S8x4096x2048 : Shape := ⟨3, ![8, 4096, 2048]⟩
abbrev S1x1x2048 : Shape := ⟨3, ![1, 1, 2048]⟩
abbrev S32768x1024 : Shape := ⟨2, ![32768, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5120, .f32⟩
  | .hbm, ⟨3, _⟩ => ⟨S2048, .f32⟩
  | .hbm, ⟨4, _⟩ => ⟨S8x4096x512, .bf16⟩
  | .hbm, ⟨5, _⟩ => ⟨S8x4096x512, .bf16⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x5120, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x2048, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S_, .f32⟩
  | .hbm, ⟨37, _⟩ => ⟨S8x4096x512, .f32⟩
  | .hbm, ⟨38, _⟩ => ⟨S8x4096x512, .f32⟩
  | .hbm, ⟨39, _⟩ => ⟨S_, .f32⟩
  | .hbm, ⟨40, _⟩ => ⟨S8x4096x512, .f32⟩
  | .hbm, ⟨41, _⟩ => ⟨S8x4096x512, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | .hbm, ⟨46, _⟩ => ⟨S8x4096x512, .f32⟩
  | .hbm, ⟨47, _⟩ => ⟨S_, .f32⟩
  | .hbm, ⟨48, _⟩ => ⟨S8x4096x512, .f32⟩
  | .hbm, ⟨49, _⟩ => ⟨S8x4096x512, .f32⟩
  | .hbm, ⟨50, _⟩ => ⟨S_, .f32⟩
  | .hbm, ⟨51, _⟩ => ⟨S8x4096x512, .f32⟩
  | .hbm, ⟨52, _⟩ => ⟨S8x4096x512, .f32⟩
  | .hbm, ⟨53, _⟩ => ⟨S8x4096x512, .f32⟩
  | .hbm, ⟨54, _⟩ => ⟨S8x4096x512, .f32⟩
  | .hbm, ⟨55, _⟩ => ⟨S1x1x2048, .f32⟩
  | .hbm, ⟨56, _⟩ => ⟨S8x4096x2048, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S_, .f32⟩
  | .hbm, ⟨61, _⟩ => ⟨S8x4096x2048, .f32⟩
  | .hbm, ⟨62, _⟩ => ⟨S8x4096x2048, .f32⟩
  | .hbm, ⟨63, _⟩ => ⟨S_, .f32⟩
  | .hbm, ⟨64, _⟩ => ⟨S8x4096x2048, .f32⟩
  | .hbm, ⟨65, _⟩ => ⟨S8x4096x2048, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_cst_3 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x5120 : Shape := ⟨2, ![1024, 5120]⟩
abbrev S64 : Shape := ⟨1, ![64]⟩
abbrev S256x256 : Shape := ⟨2, ![256, 256]⟩
abbrev S32768x1024 : Shape := ⟨2, ![32768, 1024]⟩
abbrev S1x1024 : Shape := ⟨2, ![1, 1024]⟩
abbrev S1024x512 : Shape := ⟨2, ![1024, 512]⟩
abbrev S1024x1024 : Shape := ⟨2, ![1024, 1024]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S512x1024 : Shape := ⟨2, ![512, 1024]⟩
abbrev S1x512 : Shape := ⟨2, ![1, 512]⟩
abbrev S512x32768 : Shape := ⟨2, ![512, 32768]⟩
abbrev S32768x512 : Shape := ⟨2, ![32768, 512]⟩
abbrev S128x4x128x256 : Shape := ⟨4, ![128, 4, 128, 256]⟩
abbrev S4x4x128x256 : Shape := ⟨4, ![4, 4, 128, 256]⟩
abbrev S1024x1 : Shape := ⟨2, ![1024, 1]⟩
abbrev S1024x256 : Shape := ⟨2, ![1024, 256]⟩
abbrev S8x64x1024 : Shape := ⟨3, ![8, 64, 1024]⟩
abbrev S8x1024 : Shape := ⟨2, ![8, 1024]⟩
abbrev S8x1x1024 : Shape := ⟨3, ![8, 1, 1024]⟩
abbrev S128x256 : Shape := ⟨2, ![128, 256]⟩
abbrev S1x1x128x256 : Shape := ⟨4, ![1, 1, 128, 256]⟩

abbrev nBuf : Space → Nat
  | .hbm => 30
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5120, .f32⟩
  | .hbm, ⟨3, _⟩ => ⟨S64, .f32⟩
  | .hbm, ⟨4, _⟩ => ⟨S64, .f32⟩
  | .hbm, ⟨5, _⟩ => ⟨S256x256, .bf16⟩
  | .hbm, ⟨6, _⟩ => ⟨S32768x1024, .f32⟩
  | .hbm, ⟨7, _⟩ => ⟨S1x1024, .f32⟩
  | .hbm, ⟨8, _⟩ => ⟨S1024x512, .f32⟩
  | .hbm, ⟨9, _⟩ => ⟨S1024x512, .f32⟩
  | .hbm, ⟨10, _⟩ => ⟨S1024x1024, .f32⟩
  | .hbm, ⟨11, _⟩ => ⟨S1024x1024, .bf16⟩
  | .hbm, ⟨12, _⟩ => ⟨S1024x512, .f32⟩
  | .hbm, ⟨13, _⟩ => ⟨S1024x512, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S512x1, .f32⟩
  | .hbm, ⟨21, _⟩ => ⟨S512x1024, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S512x32768, .bf16⟩
  | .hbm, ⟨27, _⟩ => ⟨S32768x512, .bf16⟩
  | .hbm, ⟨28, _⟩ => ⟨S128x4x128x256, .bf16⟩
  | .hbm, ⟨29, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S1x512, .f32⟩
  | .local _ .vmem, ⟨7, _⟩ => ⟨S256x256, .bf16⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S4x4x128x256, .bf16⟩
  | .local _ .vmem, ⟨13, _⟩ => ⟨S4x4x128x256, .bf16⟩
  | .local _ .vmem, ⟨14, _⟩ => ⟨S1024x512, .bf16⟩
  | .local _ .vmem, ⟨15, _⟩ => ⟨S1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v20_2 : Ref sig .tc := ⟨.hbm, 28, rfl⟩
abbrev main_v20_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel3Ideal.lean ====
variable {F : FTy → Type} [FloatOps F] [Named F]
def κ : String → Option EReal := fun
  | "query_scale" => some (((8 * (Real.log 2))⁻¹ : ℝ) : EReal)
  | _ => none
-- ==== Reference3Ideal.lean ====
abbrev S8x4096x1024 : Shape := ⟨3, ![8, 4096, 1024]⟩
abbrev S1024 : Shape := ⟨1, ![1024]⟩
abbrev S1024x5120 : Shape := ⟨2, ![1024, 5120]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩
abbrev S8x4096x512 : Shape := ⟨3, ![8, 4096, 512]⟩
abbrev S8x4096x2048 : Shape := ⟨3, ![8, 4096, 2048]⟩
abbrev S8x4096x4x2x64 : Shape := ⟨5, ![8, 4096, 4, 2, 64]⟩
abbrev S8x4096x4x2 : Shape := ⟨4, ![8, 4096, 4, 2]⟩
abbrev S8x4096x4x2x1 : Shape := ⟨5, ![8, 4096, 4, 2, 1]⟩
abbrev S1x1x1x1x64 : Shape := ⟨5, ![1, 1, 1, 1, 64]⟩
abbrev S4x2x64x8x4096 : Shape := ⟨5, ![4, 2, 64, 8, 4096]⟩
abbrev S512x32768 : Shape := ⟨2, ![512, 32768]⟩
abbrev S128x256x4x128 : Shape := ⟨4, ![128, 256, 4, 128]⟩
abbrev S128x4x128x256 : Shape := ⟨4, ![128, 4, 128, 256]⟩
abbrev S32768x512 : Shape := ⟨2, ![32768, 512]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5120, .f32⟩
  | .hbm, ⟨3, _⟩ => ⟨S64, .f32⟩
  | .hbm, ⟨4, _⟩ => ⟨S64, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x5120, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x2048, .f32⟩
  | .hbm, ⟨29, _⟩ => ⟨S8x4096x4x2x64, .f32⟩
  | .hbm, ⟨30, _⟩ => ⟨S8x4096x4x2x64, .f32⟩
  | .hbm, ⟨31, _⟩ => ⟨S_, .f32⟩
  | .hbm, ⟨32, _⟩ => ⟨S8x4096x4x2, .f32⟩
  | .hbm, ⟨33, _⟩ => ⟨S8x4096x4x2x1, .f32⟩
  | .hbm, ⟨34, _⟩ => ⟨S_, .f32⟩
  | .hbm, ⟨35, _⟩ => ⟨S8x4096x4x2x1, .f32⟩
  | .hbm, ⟨36, _⟩ => ⟨S8x4096x4x2x1, .f32⟩
  | .hbm, ⟨37, _⟩ => ⟨S_, .f32⟩
  | .hbm, ⟨38, _⟩ => ⟨S8x4096x4x2x1, .f32⟩
  | .hbm, ⟨39, _⟩ => ⟨S8x4096x4x2x1, .f32⟩
  | .hbm, ⟨40, _⟩ => ⟨S8x4096x4x2x1, .f32⟩
  | .hbm, ⟨41, _⟩ => ⟨S8x4096x4x2x64, .f32⟩
  | .hbm, ⟨42, _⟩ => ⟨S8x4096x4x2x64, .f32⟩
  | .hbm, ⟨43, _⟩ => ⟨S1x1x1x1x64, .f32⟩
  | .hbm, ⟨44, _⟩ => ⟨S8x4096x4x2x64, .f32⟩
  | .hbm, ⟨45, _⟩ => ⟨S8x4096x4x2x64, .f32⟩
  | .hbm, ⟨46, _⟩ => ⟨S8x4096x4x2x64, .f32⟩
  | .hbm, ⟨47, _⟩ => ⟨S8x4096x4x2x64, .f32⟩
  | .hbm, ⟨48, _⟩ => ⟨S_, .f32⟩
  | .hbm, ⟨49, _⟩ => ⟨S8x4096x4x2, .f32⟩
  | .hbm, ⟨50, _⟩ => ⟨S8x4096x4x2x1, .f32⟩
  | .hbm, ⟨51, _⟩ => ⟨S_, .f32⟩
  | .hbm, ⟨52, _⟩ => ⟨S8x4096x4x2x1, .f32⟩
  | .hbm, ⟨53, _⟩ => ⟨S8x4096x4x2x1, .f32⟩
  | .hbm, ⟨54, _⟩ => ⟨S_, .f32⟩
  | .hbm, ⟨55, _⟩ => ⟨S8x4096x4x2x1, .f32⟩
  | .hbm, ⟨56, _⟩ => ⟨S8x4096x4x2x1, .f32⟩
  | .hbm, ⟨57, _⟩ => ⟨S8x4096x4x2x1, .f32⟩
  | .hbm, ⟨58, _⟩ => ⟨S8x4096x4x2x64, .f32⟩
  | .hbm, ⟨59, _⟩ => ⟨S8x4096x4x2x64, .f32⟩
  | .hbm, ⟨60, _⟩ => ⟨S1x1x1x1x64, .f32⟩
  | .hbm, ⟨61, _⟩ => ⟨S8x4096x4x2x64, .f32⟩
  | .hbm, ⟨62, _⟩ => ⟨S8x4096x4x2x64, .f32⟩
  | .hbm, ⟨63, _⟩ => ⟨S_, .f32⟩
  | .hbm, ⟨64, _⟩ => ⟨S8x4096x4x2x64, .f32⟩
  | .hbm, ⟨65, _⟩ => ⟨S8x4096x4x2x64, .f32⟩
  | .hbm, ⟨66, _⟩ => ⟨S_, .f32⟩
  | .hbm, ⟨67, _⟩ => ⟨S_, .f32⟩
  | .hbm, ⟨68, _⟩ => ⟨S8x4096x4x2x64, .f32⟩
  | .hbm, ⟨69, _⟩ => ⟨S8x4096x4x2x64, .f32⟩
  | .hbm, ⟨70, _⟩ => ⟨S4x2x64x8x4096, .f32⟩
  | .hbm, ⟨71, _⟩ => ⟨S512x32768, .f32⟩
  | .hbm, ⟨72, _⟩ => ⟨S128x256x4x128, .f32⟩
  | .hbm, ⟨73, _⟩ => ⟨S128x4x128x256, .f32⟩
  | .hbm, ⟨74, _⟩ => ⟨S512x32768, .bf16⟩
  | .hbm, ⟨75, _⟩ => ⟨S32768x512, .f32⟩
  | .hbm, ⟨76, _⟩ => ⟨S32768x512, .bf16⟩
  | .hbm, ⟨77, _⟩ => ⟨S128x4x128x256, .bf16⟩
  | .hbm, ⟨78, _⟩ => ⟨S32768x512, .f32⟩
  | .hbm, ⟨79, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Proof.Steps.lean ====
/- The kernel body's accumulator as a sequence of tile steps. -/
module

public import proofs.«01_k».proof.Proof.Gen.KernelIdeal.Frame.RunA

/-!
The body adds, for every key tile `kj`, the key tile's share to the rows of the query tiles that see it: first
to its own query tile (`diagAcc`, `diagDen`), then to the later query tiles, two at a time (`nearAcc` for the pair
starting right after the key tile, `farAcc` for the others; `lastFarAcc` and `lastNearAcc` for a tile left alone).
This module names these steps as functions on the list of writes an accumulator holds and states that the
run's own lists are these steps applied one after the other.
-/

@[expose] public section

set_option maxRecDepth 16384
set_option maxHeartbeats 4000000

noncomputable section

namespace Cert.Attn

open Idealize.ShloMosaic Idealize.ShloMosaic.TcCoe
open Cert.KernelIdeal Cert.KernelIdeal.Gen

variable {F : FTy → Type} [FloatOps F]

/-- What the body loads at a grid point: the keys of a key tile (its halves and the whole), the values of its
    halves, the two bias blocks, and the widened queries of a query tile (whole, and the late lanes of either half). -/
structure Loads (F : FTy → Type) where
  kFirst : Fin 8 → Vec F S1x256x128 .bf16
  kSecond : Fin 8 → Vec F S1x256x128 .bf16
  kWhole : Fin 8 → Vec F S1x512x128 .bf16
  vFirst : Fin 8 → Vec F S1x1x128x256 .bf16
  vSecond : Fin 8 → Vec F S1x1x128x256 .bf16
  own : Vec F S1x1x512x512 .f32
  corner : Vec F S1x1x128x128 .f32
  qw : Fin 8 → Vec F S1x128x1024 .bf16
  qwA : Fin 8 → Vec F S1x128x256 .bf16
  qwB : Fin 8 → Vec F S1x128x256 .bf16

theorem inbRow {n0 n1 n2 m1 m2 : ℕ} (q : Fin n0) (o : ℕ) (h1 : m1 ≤ n1) (h2 : o + m2 ≤ n2) :
    ∀ a, (![(q : ℕ), 0, o] : Fin 3 → ℕ) a + (⟨3, ![1, m1, m2]⟩ : Shape).size a ≤ (⟨3, ![n0, n1, n2]⟩ : Shape).size a := by
  intro a; have := q.isLt
  fin_cases a
  · show (q : ℕ) + 1 ≤ n0; omega
  · show 0 + m1 ≤ n1; omega
  · show o + m2 ≤ n2; omega

theorem inbMid {n1 n2 m1 : ℕ} (o : ℕ) (h : o + m1 ≤ n1) :
    ∀ a, (![0, o, 0] : Fin 3 → ℕ) a + (⟨3, ![1, m1, n2]⟩ : Shape).size a ≤ (⟨3, ![1, n1, n2]⟩ : Shape).size a := by
  intro a
  fin_cases a
  · show 0 + 1 ≤ 1; omega
  · show o + m1 ≤ n1; omega
  · show 0 + n2 ≤ n2; omega

theorem inbGran (g : Fin 16) :
    ∀ a, (![(g : ℕ), 0, 0, 0] : Fin 4 → ℕ) a + S1x1x128x256.size a ≤ S16x1x128x256.size a := by
  intro a; have := g.isLt
  fin_cases a
  · show (g : ℕ) + 1 ≤ 16; omega
  · show 0 + 1 ≤ 1; omega
  · show 0 + 128 ≤ 128; omega
  · show 0 + 256 ≤ 256; omega

/-- The rows of query tile `q` in the value accumulator: all lanes, the late lanes of the first half, and those
    of the second. -/
abbrev rows (q : Fin 8) : Rect S8x128x1024 := Rect.unit ![(q : ℕ), 0, 0] S1x128x1024.size (inbRow q 0 (by decide) (by decide))
abbrev rowsA (q : Fin 8) : Rect S8x128x1024 := Rect.unit ![(q : ℕ), 0, 256] S1x128x256.size (inbRow q 256 (by decide) (by decide))
abbrev rowsB (q : Fin 8) : Rect S8x128x1024 := Rect.unit ![(q : ℕ), 0, 768] S1x128x256.size (inbRow q 768 (by decide) (by decide))
/-- The same for the denominators' accumulator. -/
abbrev dens (q : Fin 8) : Rect S8x8x1024 := Rect.unit ![(q : ℕ), 0, 0] S1x8x1024.size (inbRow q 0 (by decide) (by decide))
abbrev densA (q : Fin 8) : Rect S8x8x1024 := Rect.unit ![(q : ℕ), 0, 256] S1x8x256.size (inbRow q 256 (by decide) (by decide))
abbrev densB (q : Fin 8) : Rect S8x8x1024 := Rect.unit ![(q : ℕ), 0, 768] S1x8x256.size (inbRow q 768 (by decide) (by decide))

/-- The loads of a run over staging buffers holding `x0` … `x3`, with the widened queries in the scratch `arg9`. -/
def loads (c : Dev nD) (arg2 : Memref sig .tc .vmem S128x4096 .bf16) (harg2 : arg2.IsWhole) (arg3 : Memref sig .tc .vmem S1x4096x128 .bf16) (harg3 : arg3.IsWhole)
    (arg4 : Memref sig .tc .vmem S16x1x128x256 .bf16) (harg4 : arg4.IsWhole) (arg5 : Memref sig .tc .vmem S1x3x512x512 .f32) (harg5 : arg5.IsWhole)
    (arg9 : Memref sig .tc .vmem S8x128x1024 .bf16)
    (x0 : Vec F S128x4096 .bf16) (x1 : Vec F S1x4096x128 .bf16) (x2 : Vec F S16x1x128x256 .bf16) (x3 : Vec F S1x3x512x512 .f32) : Loads F where
  kFirst kj := View.readAt (Elt F) arg3.view (Rect.unit (s := S1x4096x128) ![0, 512 * (kj : ℕ), 0] S1x256x128.size (inbMid _ (by omega))).toLoadRect (harg3.unread x1)
  kSecond kj := View.readAt (Elt F) arg3.view (Rect.unit (s := S1x4096x128) ![0, 512 * (kj : ℕ) + 256, 0] S1x256x128.size (inbMid _ (by omega))).toLoadRect (harg3.unread x1)
  kWhole kj := View.readAt (Elt F) arg3.view (Rect.unit (s := S1x4096x128) ![0, 512 * (kj : ℕ), 0] S1x512x128.size (inbMid _ (by omega))).toLoadRect (harg3.unread x1)
  vFirst kj := View.readAt (Elt F) arg4.view (Rect.unit (s := S16x1x128x256) ![2 * (kj : ℕ), 0, 0, 0] S1x1x128x256.size (inbGran ⟨2 * kj, by omega⟩)).toLoadRect (harg4.unread x2)
  vSecond kj := View.readAt (Elt F) arg4.view (Rect.unit (s := S16x1x128x256) ![2 * (kj : ℕ) + 1, 0, 0, 0] S1x1x128x256.size (inbGran ⟨2 * kj + 1, by omega⟩)).toLoadRect (harg4.unread x2)
  own := View.readAt (Elt F) arg5.view (Rect.unit (s := S1x3x512x512) ![0, 2, 0, 0] S1x1x512x512.size inb_S1x3x512x512_S1x1x512x512_0_2_0_0).toLoadRect (harg5.unread x3)
  corner := View.readAt (Elt F) arg5.view (Rect.unit (s := S1x3x512x512) ![0, 1, 384, 0] S1x1x128x128.size inb_S1x3x512x512_S1x1x128x128_0_1_384_0).toLoadRect (harg5.unread x3)
  qw q := arg9.view.readCov (kernelRun0_A.sl.HS0_16 c arg2 harg2 x0) (rows q).toLoadRect
  qwA q := arg9.view.readCov (kernelRun0_A.sl.HS0_16 c arg2 harg2 x0) (rowsA q).toLoadRect
  qwB q := arg9.view.readCov (kernelRun0_A.sl.HS0_16 c arg2 harg2 x0) (rowsB q).toLoadRect

/-- The writes of a value accumulator, and of a denominators' accumulator. -/
abbrev AccL (F : FTy → Type) := List (View.Piece (Elt F) S8x128x1024 .f32)
abbrev DenL (F : FTy → Type) := List (View.Piece (Elt F) S8x8x1024 .f32)

variable (v : View sig .tc .vmem S8x128x1024 .f32) (w : View sig .tc .vmem S8x8x1024 .f32) (T : Loads F)

/-- A key tile's own queries: the first 256 keys for all lanes, the other 256 keys for the late lanes. -/
def diagAcc (q : Fin 8) (L : AccL F) : AccL F :=
  let L1 : AccL F := ⟨rows q, k0_pay39 (k0_pay34 T.own (T.kFirst q) (T.qw q)) (v.readCov L (rows q).toLoadRect) (T.vFirst q)⟩ :: L
  let L2 : AccL F := ⟨rowsA q, k0_pay41 (k0_pay29 T.own) (k0_pay35 (T.qwA q) (T.qwB q)) (T.kSecond q) (T.vSecond q) (v.readCov L1 (rowsA q).toLoadRect)⟩ :: L1
  ⟨rowsB q, k0_pay43 (k0_pay40 (k0_pay29 T.own) (k0_pay35 (T.qwA q) (T.qwB q)) (T.kSecond q) (T.vSecond q)) (v.readCov L2 (rowsB q).toLoadRect)⟩ :: L2

def diagDen (q : Fin 8) (L : DenL F) : DenL F :=
  let L1 : DenL F := ⟨dens q, k0_pay33 T.own (T.kFirst q) (T.qw q) (w.readCov L (dens q).toLoadRect)⟩ :: L
  let L2 : DenL F := ⟨densA q, k0_pay42 (k0_pay37 (k0_pay29 T.own) (k0_pay35 (T.qwA q) (T.qwB q)) (T.kSecond q)) (w.readCov L1 (densA q).toLoadRect)⟩ :: L1
  ⟨densB q, k0_pay44 (k0_pay38 (k0_pay29 T.own) (k0_pay35 (T.qwA q) (T.qwB q)) (T.kSecond q)) (w.readCov L2 (densB q).toLoadRect)⟩ :: L2

/-- The pair of query tiles starting right after the key tile: the bias of the tile before reaches its corner. -/
def nearAcc (kj q q' : Fin 8) (L : AccL F) : AccL F :=
  let pv := k0_pay48 (k0_pay45 (T.qw q) (T.qw q')) (k0_pay46 (T.kWhole kj)) T.corner (T.vFirst kj) (T.vSecond kj)
  let L1 : AccL F := ⟨rows q, k0_pay50 pv (v.readCov L (rows q).toLoadRect)⟩ :: L
  ⟨rows q', k0_pay52 pv (v.readCov L1 (rows q').toLoadRect)⟩ :: L1

def nearDen (kj q q' : Fin 8) (L : DenL F) : DenL F :=
  let L1 : DenL F := ⟨dens q, k0_pay49 (k0_pay45 (T.qw q) (T.qw q')) (k0_pay46 (T.kWhole kj)) T.corner (w.readCov L (dens q).toLoadRect)⟩ :: L
  ⟨dens q', k0_pay51 (k0_pay47 (k0_pay45 (T.qw q) (T.qw q')) (k0_pay46 (T.kWhole kj)) T.corner) (w.readCov L1 (dens q').toLoadRect)⟩ :: L1

/-- A pair of query tiles further away: no bias. -/
def farAcc (kj q q' : Fin 8) (L : AccL F) : AccL F :=
  let L1 : AccL F := ⟨rows q, k0_pay57 (k0_pay53 (T.qw q) (T.qw q') (T.kWhole kj)) (T.vFirst kj) (T.vSecond kj) (v.readCov L (rows q).toLoadRect)⟩ :: L
  ⟨rows q', k0_pay61 (k0_pay55 (k0_pay53 (T.qw q) (T.qw q') (T.kWhole kj)) (T.vFirst kj) (T.vSecond kj)) (v.readCov L1 (rows q').toLoadRect)⟩ :: L1

def farDen (kj q q' : Fin 8) (L : DenL F) : DenL F :=
  let L1 : DenL F := ⟨dens q, k0_pay56 (k0_pay53 (T.qw q) (T.qw q') (T.kWhole kj)) (w.readCov L (dens q).toLoadRect)⟩ :: L
  ⟨dens q', k0_pay60 (k0_pay58 (w.readCov L1 (dens q').toLoadRect)) (k0_pay59 (k0_pay53 (T.qw q) (T.qw q') (T.kWhole kj)))⟩ :: L1

/-- A single query tile left over, further away. -/
def lastFarAcc (kj q : Fin 8) (L : AccL F) : AccL F :=
  ⟨rows q, k0_pay75 (k0_pay73 (T.qw q) (T.kWhole kj) (T.vFirst kj) (T.vSecond kj)) (v.readCov L (rows q).toLoadRect)⟩ :: L

def lastFarDen (kj q : Fin 8) (L : DenL F) : DenL F :=
  ⟨dens q, k0_pay74 (T.qw q) (T.kWhole kj) (w.readCov L (dens q).toLoadRect)⟩ :: L

/-- A single query tile left over, right after the key tile. -/
def lastNearAcc (kj q : Fin 8) (L : AccL F) : AccL F :=
  ⟨rows q, k0_pay265 (k0_pay256 (T.qw q) (T.kWhole kj)) (k0_pay259 (T.qw q) (T.kWhole kj) T.corner) (k0_pay260 (T.qw q) (T.kWhole kj))
    (k0_pay261 (T.qw q) (T.kWhole kj) T.corner) (k0_pay262 (T.qw q) (T.kWhole kj)) (T.vFirst kj) (T.vSecond kj) (v.readCov L (rows q).toLoadRect)⟩ :: L

def lastNearDen (kj q : Fin 8) (L : DenL F) : DenL F :=
  ⟨dens q, k0_pay264 (k0_pay256 (T.qw q) (T.kWhole kj)) (k0_pay259 (T.qw q) (T.kWhole kj) T.corner) (k0_pay260 (T.qw q) (T.kWhole kj))
    (k0_pay261 (T.qw q) (T.kWhole kj) T.corner) (k0_pay262 (T.qw q) (T.kWhole kj)) (w.readCov L (dens q).toLoadRect)⟩ :: L

/-! ## The run's lists are these steps -/

section Run

variable (c : Dev nD) (arg2 : Memref sig .tc .vmem S128x4096 .bf16) (harg2 : arg2.IsWhole) (arg3 : Memref sig .tc .vmem S1x4096x128 .bf16) (harg3 : arg3.IsWhole)
    (arg4 : Memref sig .tc .vmem S16x1x128x256 .bf16) (harg4 : arg4.IsWhole) (arg5 : Memref sig .tc .vmem S1x3x512x512 .f32) (harg5 : arg5.IsWhole)
    (arg9 : Memref sig .tc .vmem S8x128x1024 .bf16) (arg10 : Memref sig .tc .vmem S8x128x1024 .f32) (arg11 : Memref sig .tc .vmem S8x8x1024 .f32)
    (x0 : Vec F S128x4096 .bf16) (x1 : Vec F S1x4096x128 .bf16) (x2 : Vec F S16x1x128x256 .bf16) (x3 : Vec F S1x3x512x512 .f32)

local notation "lds" => loads c arg2 harg2 arg3 harg3 arg4 harg4 arg5 harg5 arg9 x0 x1 x2 x3

/-- The values of key tile 0. -/
theorem stepsAcc0 :
    kernelRun0_A.sl.HS1_4 c arg2 harg2 arg3 harg3 arg4 harg4 arg5 harg5 arg9 arg10 x0 x1 x2 x3 = diagAcc arg10.view lds 0 (kernelRun0_A.sl.HS1_1 (F := F))
    ∧ kernelRun0_A.sl.HS1_6 c arg2 harg2 arg3 harg3 arg4 harg4 arg5 harg5 arg9 arg10 x0 x1 x2 x3 = nearAcc arg10.view lds 0 1 2 (kernelRun0_A.sl.HS1_4 c arg2 harg2 arg3 harg3 arg4 harg4 arg5 harg5 arg9 arg10 x0 x1 x2 x3)
    ∧ kernelRun0_A.sl.HS1_8 c arg2 harg2 arg3 harg3 arg4 harg4 arg5 harg5 arg9 arg10 x0 x1 x2 x3 = farAcc arg10.view lds 0 3 4 (kernelRun0_A.sl.HS1_6 c arg2 harg2 arg3 harg3 arg4 harg4 arg5 harg5 arg9 arg10 x0 x1 x2 x3)
    ∧ kernelRun0_A.sl.HS1_10 c arg2 harg2 arg3 harg3 arg4 harg4 arg5 harg5 arg9 arg10 x0 x1 x2 x3 = farAcc arg10.view lds 0 5 6 (kernelRun0_A.sl.HS1_8 c arg2 harg2 arg3 harg3 arg4 harg4 arg5 harg5 arg9 arg10 x0 x1 x2 x3)
    ∧ kernelRun0_A.sl.HS1_11 c arg2 harg2 arg3 harg3 arg4 harg4 arg5 harg5 arg9 arg10 x0 x1 x2 x3 = lastFarAcc arg10.view lds 0 7 (kernelRun0_A.sl.HS1_10 c arg2 harg2 arg3 harg3 arg4 harg4 arg5 harg5 arg9 arg10 x0 x1 x2 x3) :=
  ⟨rfl, rfl, rfl, rfl, rfl⟩

/-- The denominators of key tile 0. -/
theorem stepsDen0 :
    kernelRun0_A.sl.HS2_4 c arg2 harg2 arg3 harg3 arg5 harg5 arg9 arg11 x0 x1 x3 = diagDen arg11.view lds 0 (kernelRun0_A.sl.HS2_1 (F := F))
    ∧ kernelRun0_A.sl.HS2_6 c arg2 harg2 arg3 harg3 arg5 harg5 arg9 arg11 x0 x1 x3 = nearDen arg11.view lds 0 1 2 (kernelRun0_A.sl.HS2_4 c arg2 harg2 arg3 harg3 arg5 harg5 arg9 arg11 x0 x1 x3)
    ∧ kernelRun0_A.sl.HS2_8 c arg2 harg2 arg3 harg3 arg5 harg5 arg9 arg11 x0 x1 x3 = farDen arg11.view lds 0 3 4 (kernelRun0_A.sl.HS2_6 c arg2 harg2 arg3 harg3 arg5 harg5 arg9 arg11 x0 x1 x3)
    ∧ kernelRun0_A.sl.HS2_10 c arg2 harg2 arg3 harg3 arg5 harg5 arg9 arg11 x0 x1 x3 = farDen arg11.view lds 0 5 6 (kernelRun0_A.sl.HS2_8 c arg2 harg2 arg3 harg3 arg5 harg5 arg9 arg11 x0 x1 x3)
    ∧ kernelRun0_A.sl.HS2_11 c arg2 harg2 arg3 harg3 arg5 harg5 arg9 arg11 x0 x1 x3 = lastFarDen arg11.view lds 0 7 (kernelRun0_A.sl.HS2_10 c arg2 harg2 arg3 harg3 arg5 harg5 arg9 arg11 x0 x1 x3) :=
  ⟨rfl, rfl, rfl, rfl, rfl⟩

/-- The values of key tile 1. -/
theorem stepsAcc1 :
    kernelRun0_A.sl.HS1_14 c arg2 harg2 arg3 harg3 arg4 harg4 arg5 harg5 arg9 arg10 x0 x1 x2 x3 = diagAcc arg10.view lds 1 (kernelRun0_A.sl.HS1_11 c arg2 harg2 arg3 harg3 arg4 harg4 arg5 harg5 arg9 arg10 x0 x1 x2 x3)
    ∧ kernelRun0_A.sl.HS1_16 c arg2 harg2 arg3 harg3 arg4 harg4 arg5 harg5 arg9 arg10 x0 x1 x2 x3 = nearAcc arg10.view lds 1 2 3 (kernelRun0_A.sl.HS1_14 c arg2 harg2 arg3 harg3 arg4 harg4 arg5 harg5 arg9 arg10 x0 x1 x2 x3)
    ∧ kernelRun0_A.sl.HS1_18 c arg2 harg2 arg3 harg3 arg4 harg4 arg5 harg5 arg9 arg10 x0 x1 x2 x3 = farAcc arg10.view lds 1 4 5 (kernelRun0_A.sl.HS1_16 c arg2 harg2 arg3 harg3 arg4 harg4 arg5 harg5 arg9 arg10 x0 x1 x2 x3)
    ∧ kernelRun0_A.sl.HS1_20 c arg2 harg2 arg3 harg3 arg4 harg4 arg5 harg5 arg9 arg10 x0 x1 x2 x3 = farAcc arg10.view lds 1 6 7 (kernelRun0_A.sl.HS1_18 c arg2 harg2 arg3 harg3 arg4 harg4 arg5 harg5 arg9 arg10 x0 x1 x2 x3) :=
  ⟨rfl, rfl, rfl, rfl⟩

/-- The denominators of key tile 1. -/
theorem stepsDen1 :
    kernelRun0_A.sl.HS2_14 c arg2 harg2 arg3 harg3 arg5 harg5 arg9 arg11 x0 x1 x3 = diagDen arg11.view lds 1 (kernelRun0_A.sl.HS2_11 c arg2 harg2 arg3 harg3 arg5 harg5 arg9 arg11 x0 x1 x3)
    ∧ kernelRun0_A.sl.HS2_16 c arg2 harg2 arg3 harg3 arg5 harg5 arg9 arg11 x0 x1 x3 = nearDen arg11.view lds 1 2 3 (kernelRun0_A.sl.HS2_14 c arg2 harg2 arg3 harg3 arg5 harg5 arg9 arg11 x0 x1 x3)
    ∧ kernelRun0_A.sl.HS2_18 c arg2 harg2 arg3 harg3 arg5 harg5 arg9 arg11 x0 x1 x3 = farDen arg11.view lds 1 4 5 (kernelRun0_A.sl.HS2_16 c arg2 harg2 arg3 harg3 arg5 harg5 arg9 arg11 x0 x1 x3)
    ∧ kernelRun0_A.sl.HS2_20 c arg2 harg2 arg3 harg3 arg5 harg5 arg9 arg11 x0 x1 x3 = farDen arg11.view lds 1 6 7 (kernelRun0_A.sl.HS2_18 c arg2 harg2 arg3 harg3 arg5 harg5 arg9 arg11 x0 x1 x3) :=
  ⟨rfl, rfl, rfl, rfl⟩

/-- The values of key tile 2. -/
theorem stepsAcc2 :
    kernelRun0_A.sl.HS1_23 c arg2 harg2 arg3 harg3 arg4 harg4 arg5 harg5 arg9 arg10 x0 x1 x2 x3 = diagAcc arg10.view lds 2 (kernelRun0_A.sl.HS1_20 c arg2 harg2 arg3 harg3 arg4 harg4 arg5 harg5 arg9 arg10 x0 x1 x2 x3)
    ∧ kernelRun0_A.sl.HS1_25 c arg2 harg2 arg3 harg3 arg4 harg4 arg5 harg5 arg9 arg10 x0 x1 x2 x3 = nearAcc arg10.view lds 2 3 4 (kernelRun0_A.sl.HS1_23 c arg2 harg2 arg3 harg3 arg4 harg4 arg5 harg5 arg9 arg10 x0 x1 x2 x3)
    ∧ kernelRun0_A.sl.HS1_27 c arg2 harg2 arg3 harg3 arg4 harg4 arg5 harg5 arg9 arg10 x0 x1 x2 x3 = farAcc arg10.view lds 2 5 6 (kernelRun0_A.sl.HS1_25 c arg2 harg2 arg3 harg3 arg4 harg4 arg5 harg5 arg9 arg10 x0 x1 x2 x3)
    ∧ kernelRun0_A.sl.HS1_28 c arg2 harg2 arg3 harg3 arg4 harg4 arg5 harg5 arg9 arg10 x0 x1 x2 x3 = lastFarAcc arg10.view lds 2 7 (kernelRun0_A.sl.HS1_27 c arg2 harg2 arg3 harg3 arg4 harg4 arg5 harg5 arg9 arg10 x0 x1 x2 x3) :=
  ⟨rfl, rfl, rfl, rfl⟩

/-- The denominators of key tile 2. -/
theorem stepsDen2 :
    kernelRun0_A.sl.HS2_23 c arg2 harg2 arg3 harg3 arg5 harg5 arg9 arg11 x0 x1 x3 = diagDen arg11.view lds 2 (kernelRun0_A.sl.HS2_20 c arg2 harg2 arg3 harg3 arg5 harg5 arg9 arg11 x0 x1 x3)
    ∧ kernelRun0_A.sl.HS2_25 c arg2 harg2 arg3 harg3 arg5 harg5 arg9 arg11 x0 x1 x3 = nearDen arg11.view lds 2 3 4 (kernelRun0_A.sl.HS2_23 c arg2 harg2 arg3 harg3 arg5 harg5 arg9 arg11 x0 x1 x3)
    ∧ kernelRun0_A.sl.HS2_27 c arg2 harg2 arg3 harg3 arg5 harg5 arg9 arg11 x0 x1 x3 = farDen arg11.view lds 2 5 6 (kernelRun0_A.sl.HS2_25 c arg2 harg2 arg3 harg3 arg5 harg5 arg9 arg11 x0 x1 x3)
    ∧ kernelRun0_A.sl.HS2_28 c arg2 harg2 arg3 harg3 arg5 harg5 arg9 arg11 x0 x1 x3 = lastFarDen arg11.view lds 2 7 (kernelRun0_A.sl.HS2_27 c arg2 harg2 arg3 harg3 arg5 harg5 arg9 arg11 x0 x1 x3) :=
  ⟨rfl, rfl, rfl, rfl⟩

/-- The values of key tile 3. -/
theorem stepsAcc3 :
    kernelRun0_A.sl.HS1_31 c arg2 harg2 arg3 harg3 arg4 harg4 arg5 harg5 arg9 arg10 x0 x1 x2 x3 = diagAcc arg10.view lds 3 (kernelRun0_A.sl.HS1_28 c arg2 harg2 arg3 harg3 arg4 harg4 arg5 harg5 arg9 arg10 x0 x1 x2 x3)
    ∧ kernelRun0_A.sl.HS1_33 c arg2 harg2 arg3 harg3 arg4 harg4 arg5 harg5 arg9 arg10 x0 x1 x2 x3 = nearAcc arg10.view lds 3 4 5 (kernelRun0_A.sl.HS1_31 c arg2 harg2 arg3 harg3 arg4 harg4 arg5 harg5 arg9 arg10 x0 x1 x2 x3)
    ∧ kernelRun0_A.sl.HS1_35 c arg2 harg2 arg3 harg3 arg4 harg4 arg5 harg5 arg9 arg10 x0 x1 x2 x3 = farAcc arg10.view lds 3 6 7 (kernelRun0_A.sl.HS1_33 c arg2 harg2 arg3 harg3 arg4 harg4 arg5 harg5 arg9 arg10 x0 x1 x2 x3) :=
  ⟨rfl, rfl, rfl⟩

/-- The denominators of key tile 3. -/
theorem stepsDen3 :
    kernelRun0_A.sl.HS2_31 c arg2 harg2 arg3 harg3 arg5 harg5 arg9 arg11 x0 x1 x3 = diagDen arg11.view lds 3 (kernelRun0_A.sl.HS2_28 c arg2 harg2 arg3 harg3 arg5 harg5 arg9 arg11 x0 x1 x3)
    ∧ kernelRun0_A.sl.HS2_33 c arg2 harg2 arg3 harg3 arg5 harg5 arg9 arg11 x0 x1 x3 = nearDen arg11.view lds 3 4 5 (kernelRun0_A.sl.HS2_31 c arg2 harg2 arg3 harg3 arg5 harg5 arg9 arg11 x0 x1 x3)
    ∧ kernelRun0_A.sl.HS2_35 c arg2 harg2 arg3 harg3 arg5 harg5 arg9 arg11 x0 x1 x3 = farDen arg11.view lds 3 6 7 (kernelRun0_A.sl.HS2_33 c arg2 harg2 arg3 harg3 arg5 harg5 arg9 arg11 x0 x1 x3) :=
  ⟨rfl, rfl, rfl⟩

/-- The values of key tile 4. -/
theorem stepsAcc4 :
    kernelRun0_A.sl.HS1_38 c arg2 harg2 arg3 harg3 arg4 harg4 arg5 harg5 arg9 arg10 x0 x1 x2 x3 = diagAcc arg10.view lds 4 (kernelRun0_A.sl.HS1_35 c arg2 harg2 arg3 harg3 arg4 harg4 arg5 harg5 arg9 arg10 x0 x1 x2 x3)
    ∧ kernelRun0_A.sl.HS1_40 c arg2 harg2 arg3 harg3 arg4 harg4 arg5 harg5 arg9 arg10 x0 x1 x2 x3 = nearAcc arg10.view lds 4 5 6 (kernelRun0_A.sl.HS1_38 c arg2 harg2 arg3 harg3 arg4 harg4 arg5 harg5 arg9 arg10 x0 x1 x2 x3)
    ∧ kernelRun0_A.sl.HS1_41 c arg2 harg2 arg3 harg3 arg4 harg4 arg5 harg5 arg9 arg10 x0 x1 x2 x3 = lastFarAcc arg10.view lds 4 7 (kernelRun0_A.sl.HS1_40 c arg2 harg2 arg3 harg3 arg4 harg4 arg5 harg5 arg9 arg10 x0 x1 x2 x3) :=
  ⟨rfl, rfl, rfl⟩

/-- The denominators of key tile 4. -/
theorem stepsDen4 :
    kernelRun0_A.sl.HS2_38 c arg2 harg2 arg3 harg3 arg5 harg5 arg9 arg11 x0 x1 x3 = diagDen arg11.view lds 4 (kernelRun0_A.sl.HS2_35 c arg2 harg2 arg3 harg3 arg5 harg5 arg9 arg11 x0 x1 x3)
    ∧ kernelRun0_A.sl.HS2_40 c arg2 harg2 arg3 harg3 arg5 harg5 arg9 arg11 x0 x1 x3 = nearDen arg11.view lds 4 5 6 (kernelRun0_A.sl.HS2_38 c arg2 harg2 arg3 harg3 arg5 harg5 arg9 arg11 x0 x1 x3)
    ∧ kernelRun0_A.sl.HS2_41 c arg2 harg2 arg3 harg3 arg5 harg5 arg9 arg11 x0 x1 x3 = lastFarDen arg11.view lds 4 7 (kernelRun0_A.sl.HS2_40 c arg2 harg2 arg3 harg3 arg5 harg5 arg9 arg11 x0 x1 x3) :=
  ⟨rfl, rfl, rfl⟩

/-- The values of key tile 5. -/
theorem stepsAcc5 :
    kernelRun0_A.sl.HS1_44 c arg2 harg2 arg3 harg3 arg4 harg4 arg5 harg5 arg9 arg10 x0 x1 x2 x3 = diagAcc arg10.view lds 5 (kernelRun0_A.sl.HS1_41 c arg2 harg2 arg3 harg3 arg4 harg4 arg5 harg5 arg9 arg10 x0 x1 x2 x3)
    ∧ kernelRun0_A.sl.HS1_46 c arg2 harg2 arg3 harg3 arg4 harg4 arg5 harg5 arg9 arg10 x0 x1 x2 x3 = nearAcc arg10.view lds 5 6 7 (kernelRun0_A.sl.HS1_44 c arg2 harg2 arg3 harg3 arg4 harg4 arg5 harg5 arg9 arg10 x0 x1 x2 x3) :=
  ⟨rfl, rfl⟩

/-- The denominators of key tile 5. -/
theorem stepsDen5 :
    kernelRun0_A.sl.HS2_44 c arg2 harg2 arg3 harg3 arg5 harg5 arg9 arg11 x0 x1 x3 = diagDen arg11.view lds 5 (kernelRun0_A.sl.HS2_41 c arg2 harg2 arg3 harg3 arg5 harg5 arg9 arg11 x0 x1 x3)
    ∧ kernelRun0_A.sl.HS2_46 c arg2 harg2 arg3 harg3 arg5 harg5 arg9 arg11 x0 x1 x3 = nearDen arg11.view lds 5 6 7 (kernelRun0_A.sl.HS2_44 c arg2 harg2 arg3 harg3 arg5 harg5 arg9 arg11 x0 x1 x3) :=
  ⟨rfl, rfl⟩

/-- The values of key tile 6. -/
theorem stepsAcc6 :
    kernelRun0_A.sl.HS1_49 c arg2 harg2 arg3 harg3 arg4 harg4 arg5 harg5 arg9 arg10 x0 x1 x2 x3 = diagAcc arg10.view lds 6 (kernelRun0_A.sl.HS1_46 c arg2 harg2 arg3 harg3 arg4 harg4 arg5 harg5 arg9 arg10 x0 x1 x2 x3)
    ∧ kernelRun0_A.sl.HS1_50 c arg2 harg2 arg3 harg3 arg4 harg4 arg5 harg5 arg9 arg10 x0 x1 x2 x3 = lastNearAcc arg10.view lds 6 7 (kernelRun0_A.sl.HS1_49 c arg2 harg2 arg3 harg3 arg4 harg4 arg5 harg5 arg9 arg10 x0 x1 x2 x3) :=
  ⟨rfl, rfl⟩

/-- The denominators of key tile 6. -/
theorem stepsDen6 :
    kernelRun0_A.sl.HS2_49 c arg2 harg2 arg3 harg3 arg5 harg5 arg9 arg11 x0 x1 x3 = diagDen arg11.view lds 6 (kernelRun0_A.sl.HS2_46 c arg2 harg2 arg3 harg3 arg5 harg5 arg9 arg11 x0 x1 x3)
    ∧ kernelRun0_A.sl.HS2_50 c arg2 harg2 arg3 harg3 arg5 harg5 arg9 arg11 x0 x1 x3 = lastNearDen arg11.view lds 6 7 (kernelRun0_A.sl.HS2_49 c arg2 harg2 arg3 harg3 arg5 harg5 arg9 arg11 x0 x1 x3) :=
  ⟨rfl, rfl⟩

/-- The values of key tile 7. -/
theorem stepsAcc7 :
    kernelRun0_A.sl.HS1_53 c arg2 harg2 arg3 harg3 arg4 harg4 arg5 harg5 arg9 arg10 x0 x1 x2 x3 = diagAcc arg10.view lds 7 (kernelRun0_A.sl.HS1_50 c arg2 harg2 arg3 harg3 arg4 harg4 arg5 harg5 arg9 arg10 x0 x1 x2 x3) :=
  rfl

/-- The denominators of key tile 7. -/
theorem stepsDen7 :
    kernelRun0_A.sl.HS2_53 c arg2 harg2 arg3 harg3 arg5 harg5 arg9 arg11 x0 x1 x3 = diagDen arg11.view lds 7 (kernelRun0_A.sl.HS2_50 c arg2 harg2 arg3 harg3 arg5 harg5 arg9 arg11 x0 x1 x3) :=
  rfl

end Run

end Cert.Attn
-- ==== Proof.Lists.lean ====
/- Reading the lists of writes of the body's scratch buffers. -/
module

public import proofs.«01_k».proof.Proof.Steps
public import Idealize.ShloMosaic.Lib.Pointwise

/-!
What a buffer of rows holds at an index after one more write of (part of the lanes of) one row, and what a load of a
row reads.
-/

@[expose] public section

noncomputable section

namespace Cert.Attn

open Idealize.ShloMosaic
open Cert.KernelIdeal Cert.KernelIdeal.Gen

variable {F : FTy → Type} [FloatOps F] {n0 n1 n2 m2 : ℕ} {e : EltTy}

/-- Lanes `o … o + m2` of row `q` of a buffer of `n0` rows. -/
abbrev part (n1 n2 m2 : ℕ) (q : Fin n0) (o : ℕ) (h : o + m2 ≤ n2) : Rect ⟨3, ![n0, n1, n2]⟩ :=
  Rect.unit ![(q : ℕ), 0, o] (⟨3, ![1, n1, m2]⟩ : Shape).size (inbRow q o le_rfl h)

theorem part_emb (q : Fin n0) (o : ℕ) (h : o + m2 ≤ n2) (d : Fin n1) (l : Fin m2) :
    (part n1 n2 m2 q o h).emb (ix3 (0 : Fin 1) d l) = ix3 q d (⟨o + l, by omega⟩ : Fin n2) := by
  funext a
  apply Fin.ext
  fin_cases a
  · show (q : ℕ) + 1 * 0 = q; omega
  · show 0 + 1 * (d : ℕ) = d; omega
  · show o + 1 * (l : ℕ) = o + l; omega

theorem part_idx (q : Fin n0) (o : ℕ) (h : o + m2 ≤ n2) (d : Fin n1) (l : Fin m2) :
    (part n1 n2 m2 q o h).toLoadRect.idx (ix3 (0 : Fin 1) d l) = ix3 q d (⟨o + l, by omega⟩ : Fin n2) :=
  part_emb q o h d l

/-- What a load of part of a row reads. -/
theorem read_part [∀ e, Nonempty (Elt F e)] {κ : Kind} {sp : Space} (v : View sig κ sp ⟨3, ![n0, n1, n2]⟩ e) (L : List (View.Piece (Elt F) ⟨3, ![n0, n1, n2]⟩ e))
    (q : Fin n0) (o : ℕ) (h : o + m2 ≤ n2) (d : Fin n1) (l : Fin m2) :
    v.readCov L (part n1 n2 m2 q o h).toLoadRect (ix3 (0 : Fin 1) d l) = View.canon L (ix3 q d (⟨o + l, by omega⟩ : Fin n2)) := by
  rw [View.readCov_eq_canon']
  exact congrArg (View.canon L) (part_idx q o h d l)

/-- What the buffer holds after one more write: the write's value on its lanes of its row, what it held elsewhere. -/
theorem canon_part [∀ e, Nonempty (Elt F e)] (L : List (View.Piece (Elt F) ⟨3, ![n0, n1, n2]⟩ e)) (q : Fin n0) (o : ℕ) (h : o + m2 ≤ n2)
    (P : (part n1 n2 m2 q o h).shape.Idx → Elt F e) (q' : Fin n0) (d : Fin n1) (l : Fin n2) :
    View.canon (⟨part n1 n2 m2 q o h, P⟩ :: L) (ix3 q' d l)
      = if hl : q' = q ∧ o ≤ (l : ℕ) ∧ (l : ℕ) < o + m2 then P (ix3 (0 : Fin 1) d (⟨(l : ℕ) - o, by omega⟩ : Fin m2)) else View.canon L (ix3 q' d l) := by
  split
  · rename_i hl
    obtain ⟨rfl, h1, h2⟩ := hl
    have := View.canon_cons_emb (part n1 n2 m2 q' o h) P L (ix3 (0 : Fin 1) d (⟨(l : ℕ) - o, by omega⟩ : Fin m2))
    rw [part_emb] at this
    have e1 : (⟨o + ((l : ℕ) - o), by omega⟩ : Fin n2) = l := Fin.ext (by show o + ((l : ℕ) - o) = l; omega)
    simpa only [e1] using this
  · rename_i hl
    refine View.canon_cons_of_not_mem _ _ fun hm => hl ?_
    rw [Rect.mem_set_unit] at hm
    have h0 : (q : ℕ) ≤ q' ∧ (q' : ℕ) < q + 1 := hm 0
    have h2 : o ≤ (l : ℕ) ∧ (l : ℕ) < o + m2 := hm 2
    exact ⟨Fin.ext (by omega), h2⟩

/-- A write of a whole row. -/
theorem canon_row [∀ e, Nonempty (Elt F e)] (L : List (View.Piece (Elt F) ⟨3, ![n0, n1, n2]⟩ e)) (q : Fin n0) (h : 0 + n2 ≤ n2)
    (P : (part n1 n2 n2 q 0 h).shape.Idx → Elt F e) (q' : Fin n0) (d : Fin n1) (l : Fin n2) :
    View.canon (⟨part n1 n2 n2 q 0 h, P⟩ :: L) (ix3 q' d l)
      = if q' = q then P (ix3 (0 : Fin 1) d l) else View.canon L (ix3 q' d l) := by
  rw [canon_part]
  by_cases hq : q' = q
  · have : q' = q ∧ 0 ≤ (l : ℕ) ∧ (l : ℕ) < 0 + n2 := ⟨hq, by omega, by omega⟩
    rw [dif_pos this, if_pos hq]; rfl
  · rw [dif_neg (fun t => hq t.1), if_neg hq]

/-- A load of a whole row. -/
theorem read_row [∀ e, Nonempty (Elt F e)] {κ : Kind} {sp : Space} (v : View sig κ sp ⟨3, ![n0, n1, n2]⟩ e) (L : List (View.Piece (Elt F) ⟨3, ![n0, n1, n2]⟩ e))
    (q : Fin n0) (h : 0 + n2 ≤ n2) (d : Fin n1) (l : Fin n2) :
    v.readCov L (part n1 n2 n2 q 0 h).toLoadRect (ix3 (0 : Fin 1) d l) = View.canon L (ix3 q d l) := by
  rw [read_part]
  have e1 : (⟨0 + (l : ℕ), by omega⟩ : Fin n2) = l := Fin.ext (by show 0 + (l : ℕ) = l; omega)
  rw [e1]

end Cert.Attn
-- ==== Proof.Tile.lean ====
/- What the kernel body's pure values are, element by element. -/
module

public import proofs.«01_k».proof.Proof.Gen.KernelIdeal.Skeleton
public import Idealize.ShloMosaic.Lib.Pointwise

/-! The pure values of one tile step read at an index over the extended reals. -/

@[expose] public section

set_option maxRecDepth 16384
set_option maxHeartbeats 1000000

noncomputable section

namespace Cert.Attn

open Idealize.ShloMosaic
open Cert.KernelIdeal Cert.KernelIdeal.Gen

/-- The score of key `x` of a block of `n` keys against lane `l` of a query tile. -/
def score {n m : ℕ} (k : (⟨3, ![1, n, 128]⟩ : Shape).Idx → EReal) (a : (⟨3, ![1, 128, m]⟩ : Shape).Idx → EReal) (x : Fin n) (l : Fin m) : EReal :=
  ∑ r : Fin 128, k (ix3 (0 : Fin 1) x r) * a (ix3 (0 : Fin 1) r l)

/-- The bias of the tile before, at key `x` and query column `y` of their tiles: only the last 128 keys by the
    first 128 queries have one. -/
def cornerBias (c : S1x1x128x128.Idx → EReal) (x : ℕ) (y : ℕ) : EReal :=
  if h : 384 ≤ x ∧ x < 512 ∧ y < 128 then c (ix4 (0 : Fin 1) (0 : Fin 1) (⟨x - 384, by omega⟩ : Fin 128) (⟨y, by omega⟩ : Fin 128)) else 0

section Far
variable (a b : Vec Ideal S1x128x1024 .bf16) (k : Vec Ideal S1x512x128 .bf16)

theorem farScore_fst (x : Fin 512) (l : Fin 1024) :
    k0_pay53 (F := Ideal) a b k (ix2 x (⟨l, by omega⟩ : Fin 2048)) = score k a x l := by
  pointwise [k0_pay53, score]

theorem farScore_snd (x : Fin 512) (l : Fin 1024) :
    k0_pay53 (F := Ideal) a b k (ix2 x (⟨1024 + l, by omega⟩ : Fin 2048)) = score k b x l := by
  pointwise [k0_pay53, score]

theorem nearExp_fst (c : Vec Ideal S1x1x128x128 .f32) (x : Fin 512) (l : Fin 1024) :
    k0_pay47 (F := Ideal) (k0_pay45 a b) (k0_pay46 k) c (ix2 x (⟨l, by omega⟩ : Fin 2048)) = Ideal.exp2 (score k a x l + cornerBias c x ((l : ℕ) % 512)) := by
  pointwise [k0_pay47, k0_pay46, k0_pay45, score, cornerBias]
  refine congrArg Ideal.exp2 ?_
  by_cases hx : (x : ℕ) < 384
  · have hx' : ¬ (384 ≤ (x : ℕ)) := by omega
    simp only [hx, hx', false_and, dite_true, dite_false, add_zero]
  · have hx' : 384 ≤ (x : ℕ) := by omega
    have hx2 : 384 + ((x : ℕ) - 384) = x := by omega
    simp only [hx, hx', hx2, true_and, dite_false, Fin.eta]
    by_cases h1 : (l : ℕ) < 128
    · have e : (l : ℕ) % 512 = l := by omega
      simp only [e, h1, dite_true]
    by_cases h2 : (l : ℕ) < 512
    · have e : (l : ℕ) % 512 = l := by omega
      have e2 : (l : ℕ) - 128 < 384 := by omega
      have e3 : 128 + ((l : ℕ) - 128) = l := by omega
      simp only [e, e2, e3, h1, l.isLt, dite_true, dite_false, add_zero, Fin.eta]
    by_cases h3 : (l : ℕ) < 640
    · have e : (l : ℕ) % 512 = l - 512 := by omega
      have e0 : (l : ℕ) - 512 < 128 := by omega
      have e2 : ¬ ((l : ℕ) - 128 < 384) := by omega
      have e3 : (l : ℕ) - 128 - 384 < 128 := by omega
      have e4 : 512 + ((l : ℕ) - 128 - 384) = l := by omega
      have e5 : (l : ℕ) - 128 - 384 = l - 512 := by omega
      simp only [e, e0, e2, e3, e4, h1, l.isLt, dite_true, dite_false, Fin.eta]
      simp only [e5]
    · have e : ¬ ((l : ℕ) % 512 < 128) := by omega
      have e2 : ¬ ((l : ℕ) - 128 < 384) := by omega
      have e3 : ¬ ((l : ℕ) - 128 - 384 < 128) := by omega
      have e4 : 640 + ((l : ℕ) - 128 - 384 - 128) = l := by omega
      simp only [e, e2, e3, e4, h1, l.isLt, dite_true, dite_false, add_zero, Fin.eta]

theorem nearExp_snd (c : Vec Ideal S1x1x128x128 .f32) (x : Fin 512) (l : Fin 1024) :
    k0_pay47 (F := Ideal) (k0_pay45 a b) (k0_pay46 k) c (ix2 x (⟨1024 + l, by omega⟩ : Fin 2048)) = Ideal.exp2 (score k b x l) := by
  pointwise [k0_pay47, k0_pay46, k0_pay45, score]
  refine congrArg Ideal.exp2 ?_
  have h1 : ¬ (1024 + (l : ℕ) < 128) := by omega
  have h2 : ¬ (1024 + (l : ℕ) - 128 < 384) := by omega
  have h3 : ¬ (1024 + (l : ℕ) - 128 - 384 < 128) := by omega
  have h4 : 640 + (1024 + (l : ℕ) - 128 - 384 - 128) = 1024 + l := by omega
  have h5 : ¬ (1024 + (l : ℕ) < 1024) := by omega
  have h6 : 1024 + (l : ℕ) - 1024 = l := by omega
  have hx2 : ¬ ((x : ℕ) < 384) → 384 + ((x : ℕ) - 384) = x := by omega
  by_cases hx : (x : ℕ) < 384
  · simp only [hx, dite_true]
  · simp only [hx, h1, h2, h3, h4, h5, h6, hx2 hx, dite_false, Fin.eta]

theorem oneExp (x : Fin 512) (l : Fin 1024) :
    k0_pay72 (F := Ideal) a k (ix2 x l) = Ideal.exp2 (score k a x l) := by
  pointwise [k0_pay72, score]
  rfl

theorem oneNearExp (c : Vec Ideal S1x1x128x128 .f32) (x : Fin 512) (l : Fin 1024) :
    k0_pay263 (F := Ideal) (k0_pay256 a k) (k0_pay259 a k c) (k0_pay260 a k) (k0_pay261 a k c) (k0_pay262 a k) (ix2 x l)
      = Ideal.exp2 (score k a x l + cornerBias c x ((l : ℕ) % 512)) := by
  rw [← nearExp_fst a a k c x l]
  have e4 : 640 + ((l : ℕ) - 128 - 384 - 128) < 1024 := by omega
  have e5 : 512 + ((l : ℕ) - 128 - 384) < 1024 := by omega
  have e6 : 128 + ((l : ℕ) - 128) < 1024 := by omega
  pointwise [k0_pay263, k0_pay262, k0_pay261, k0_pay260, k0_pay259, k0_pay258, k0_pay257, k0_pay256, k0_pay47, k0_pay46, k0_pay45]
  by_cases h2 : (l : ℕ) - 128 < 384
  · simp only [h2, dite_true, e6]
  · by_cases h3 : (l : ℕ) - 128 - 384 < 128
    · simp only [h2, h3, dite_true, dite_false, e5]
    · simp only [h2, h3, dite_false, e4, dite_true]

/-! What the steps add to a row of either accumulator, from the keys, the widened queries and the bias. -/

/-- The share of a key tile in row `d` of a query tile's value accumulator, at lane `l`: its values times the
    exponentials of its scores, the two halves of the tile apart. -/
def share (v1 v2 : S1x1x128x256.Idx → EReal) (e : Fin 512 → EReal) (d : Fin 128) : EReal :=
  ∑ x : Fin 256, v1 (ix4 (0 : Fin 1) (0 : Fin 1) d x) * e ⟨x, by omega⟩
    + ∑ x : Fin 256, v2 (ix4 (0 : Fin 1) (0 : Fin 1) d x) * e ⟨256 + x, by omega⟩

/-- Its share in sublane `u` of the denominators' accumulator: every eighth key. -/
def denShare (e : Fin 512 → EReal) (u : Fin 8) : EReal := ∑ i : Fin 64, e ⟨(i : ℕ) * 8 + u, by omega⟩

variable (c : Vec Ideal S1x1x128x128 .f32) (v1 v2 : Vec Ideal S1x1x128x256 .bf16) (old : Vec Ideal S1x128x1024 .f32) (oldD : Vec Ideal S1x8x1024 .f32)
  (d : Fin 128) (u : Fin 8) (l : Fin 1024)

theorem near_fst : k0_pay50 (F := Ideal) (k0_pay48 (k0_pay45 a b) (k0_pay46 k) c v1 v2) old (ix3 (0 : Fin 1) d l)
    = old (ix3 (0 : Fin 1) d l) + share v1 v2 (fun x => Ideal.exp2 (score k a x l + cornerBias c x ((l : ℕ) % 512))) d := by
  simp only [share, ← nearExp_fst a b]
  pointwise [k0_pay50, k0_pay48]

theorem near_snd : k0_pay52 (F := Ideal) (k0_pay48 (k0_pay45 a b) (k0_pay46 k) c v1 v2) old (ix3 (0 : Fin 1) d l)
    = old (ix3 (0 : Fin 1) d l) + share v1 v2 (fun x => Ideal.exp2 (score k b x l)) d := by
  simp only [share, ← nearExp_snd a b k c]
  pointwise [k0_pay52, k0_pay48]

theorem nearDen_fst : k0_pay49 (F := Ideal) (k0_pay45 a b) (k0_pay46 k) c oldD (ix3 (0 : Fin 1) u l)
    = oldD (ix3 (0 : Fin 1) u l) + denShare (fun x => Ideal.exp2 (score k a x l + cornerBias c x ((l : ℕ) % 512))) u := by
  simp only [denShare, ← nearExp_fst a b]
  pointwise [k0_pay49]

theorem nearDen_snd : k0_pay51 (F := Ideal) (k0_pay47 (k0_pay45 a b) (k0_pay46 k) c) oldD (ix3 (0 : Fin 1) u l)
    = oldD (ix3 (0 : Fin 1) u l) + denShare (fun x => Ideal.exp2 (score k b x l)) u := by
  simp only [denShare, ← nearExp_snd a b k c]
  pointwise [k0_pay51]

theorem far_fst : k0_pay57 (F := Ideal) (k0_pay53 a b k) v1 v2 old (ix3 (0 : Fin 1) d l)
    = old (ix3 (0 : Fin 1) d l) + share v1 v2 (fun x => Ideal.exp2 (score k a x l)) d := by
  simp only [share, ← farScore_fst a b]
  pointwise [k0_pay57, k0_pay55, k0_pay54]
  rfl

theorem far_snd : k0_pay61 (F := Ideal) (k0_pay55 (k0_pay53 a b k) v1 v2) old (ix3 (0 : Fin 1) d l)
    = old (ix3 (0 : Fin 1) d l) + share v1 v2 (fun x => Ideal.exp2 (score k b x l)) d := by
  simp only [share, ← farScore_snd a b]
  pointwise [k0_pay61, k0_pay55, k0_pay54]
  rfl

theorem farDen_fst : k0_pay56 (F := Ideal) (k0_pay53 a b k) oldD (ix3 (0 : Fin 1) u l)
    = oldD (ix3 (0 : Fin 1) u l) + denShare (fun x => Ideal.exp2 (score k a x l)) u := by
  simp only [denShare, ← farScore_fst a b]
  pointwise [k0_pay56, k0_pay54]
  rfl

theorem farDen_snd : k0_pay60 (F := Ideal) (k0_pay58 oldD) (k0_pay59 (k0_pay53 a b k)) (ix3 (0 : Fin 1) u l)
    = oldD (ix3 (0 : Fin 1) u l) + denShare (fun x => Ideal.exp2 (score k b x l)) u := by
  simp only [denShare, ← farScore_snd a b]
  pointwise [k0_pay60, k0_pay59, k0_pay58, k0_pay54]
  rfl

theorem lastFar : k0_pay75 (F := Ideal) (k0_pay73 a k v1 v2) old (ix3 (0 : Fin 1) d l)
    = old (ix3 (0 : Fin 1) d l) + share v1 v2 (fun x => Ideal.exp2 (score k a x l)) d := by
  simp only [share, ← oneExp]
  pointwise [k0_pay75, k0_pay73]

theorem lastFarDen' : k0_pay74 (F := Ideal) a k oldD (ix3 (0 : Fin 1) u l)
    = oldD (ix3 (0 : Fin 1) u l) + denShare (fun x => Ideal.exp2 (score k a x l)) u := by
  simp only [denShare, ← oneExp]
  pointwise [k0_pay74]

theorem lastNear : k0_pay265 (F := Ideal) (k0_pay256 a k) (k0_pay259 a k c) (k0_pay260 a k) (k0_pay261 a k c) (k0_pay262 a k) v1 v2 old (ix3 (0 : Fin 1) d l)
    = old (ix3 (0 : Fin 1) d l) + share v1 v2 (fun x => Ideal.exp2 (score k a x l + cornerBias c x ((l : ℕ) % 512))) d := by
  pointwise [k0_pay265]
  simp only [oneNearExp, share]

theorem lastNearDen' : k0_pay264 (F := Ideal) (k0_pay256 a k) (k0_pay259 a k c) (k0_pay260 a k) (k0_pay261 a k c) (k0_pay262 a k) oldD (ix3 (0 : Fin 1) u l)
    = oldD (ix3 (0 : Fin 1) u l) + denShare (fun x => Ideal.exp2 (score k a x l + cornerBias c x ((l : ℕ) % 512))) u := by
  pointwise [k0_pay264]
  simp only [oneNearExp, denShare]

end Far

section Diag

variable (o : Vec Ideal S1x1x512x512 .f32) (k : Vec Ideal S1x256x128 .bf16) (a : Vec Ideal S1x128x1024 .bf16) (qa qb : Vec Ideal S1x128x256 .bf16)
  (v : Vec Ideal S1x1x128x256 .bf16) (old : Vec Ideal S1x128x1024 .f32) (oldD : Vec Ideal S1x8x1024 .f32)
  (oldL : Vec Ideal S1x128x256 .f32) (oldDL : Vec Ideal S1x8x256 .f32)
  (d : Fin 128) (u : Fin 8) (l : Fin 1024) (y : Fin 256)

/-- The exponentials of the first 256 keys of a tile against its own queries, and of the other 256 against the late
    lanes of either half. -/
def ownExp (x : Fin 256) (l : Fin 1024) : EReal :=
  Ideal.exp2 (score k a x l + o (ix4 (0 : Fin 1) (0 : Fin 1) (⟨x, by omega⟩ : Fin 512) (⟨(l : ℕ) % 512, by omega⟩ : Fin 512)))

def lateExp (x y : Fin 256) : EReal :=
  Ideal.exp2 (score k qa x y + o (ix4 (0 : Fin 1) (0 : Fin 1) (⟨256 + x, by omega⟩ : Fin 512) (⟨256 + y, by omega⟩ : Fin 512)))

theorem ownExp_lo (x : Fin 256) (l : Fin 512) :
    k0_pay31 (F := Ideal) o k a (ix2 x l) = ownExp o k a x ⟨l, by omega⟩ := by
  have e : (l : ℕ) % 512 = l := by omega
  pointwise [k0_pay31, k0_pay30, k0_pay29, ownExp, score]
  simp only [e]
  rfl

theorem ownExp_hi (x : Fin 256) (l : Fin 512) :
    k0_pay32 (F := Ideal) o k a (ix2 x l) = ownExp o k a x ⟨512 + l, by omega⟩ := by
  have e : (512 + (l : ℕ)) % 512 = l := by omega
  pointwise [k0_pay32, k0_pay30, k0_pay29, ownExp, score]
  simp only [e]
  rfl

theorem own_all : k0_pay39 (F := Ideal) (k0_pay34 o k a) old v (ix3 (0 : Fin 1) d l)
    = old (ix3 (0 : Fin 1) d l) + ∑ x : Fin 256, v (ix4 (0 : Fin 1) (0 : Fin 1) d x) * ownExp o k a x l := by
  pointwise [k0_pay39, k0_pay34]
  simp only [ownExp_lo, ownExp_hi]
  by_cases h : (l : ℕ) < 512
  · simp only [h, dite_true, Fin.eta]
  · have e : 512 + ((l : ℕ) - 512) = l := by omega
    simp only [h, dite_false, e, Fin.eta]

theorem ownDen_all : k0_pay33 (F := Ideal) o k a oldD (ix3 (0 : Fin 1) u l)
    = oldD (ix3 (0 : Fin 1) u l) + ∑ i : Fin 32, ownExp o k a ⟨(i : ℕ) * 8 + u, by omega⟩ l := by
  pointwise [k0_pay33]
  simp only [ownExp_lo, ownExp_hi]
  by_cases h : (l : ℕ) < 512
  · simp only [h, dite_true, Fin.eta]
  · have e : 512 + ((l : ℕ) - 512) = l := by omega
    simp only [h, dite_false, e, Fin.eta]

theorem lateExp_A (x y : Fin 256) : k0_pay37 (F := Ideal) (k0_pay29 o) (k0_pay35 qa qb) k (ix2 x y) = lateExp o k qa x y := by
  pointwise [k0_pay37, k0_pay36, k0_pay35, k0_pay29, lateExp, score]
  rfl

theorem lateExp_B (x y : Fin 256) : k0_pay38 (F := Ideal) (k0_pay29 o) (k0_pay35 qa qb) k (ix2 x y) = lateExp o k qb x y := by
  pointwise [k0_pay38, k0_pay36, k0_pay35, k0_pay29, lateExp, score]
  rfl

theorem late_A : k0_pay41 (F := Ideal) (k0_pay29 o) (k0_pay35 qa qb) k v oldL (ix3 (0 : Fin 1) d y)
    = oldL (ix3 (0 : Fin 1) d y) + ∑ x : Fin 256, v (ix4 (0 : Fin 1) (0 : Fin 1) d x) * lateExp o k qa x y := by
  simp only [← lateExp_A o k qa qb]
  pointwise [k0_pay41, k0_pay40]

theorem late_B : k0_pay43 (F := Ideal) (k0_pay40 (k0_pay29 o) (k0_pay35 qa qb) k v) oldL (ix3 (0 : Fin 1) d y)
    = oldL (ix3 (0 : Fin 1) d y) + ∑ x : Fin 256, v (ix4 (0 : Fin 1) (0 : Fin 1) d x) * lateExp o k qb x y := by
  simp only [← lateExp_B o k qa qb]
  pointwise [k0_pay43, k0_pay40]

theorem lateDen_A : k0_pay42 (F := Ideal) (k0_pay37 (k0_pay29 o) (k0_pay35 qa qb) k) oldDL (ix3 (0 : Fin 1) u y)
    = oldDL (ix3 (0 : Fin 1) u y) + ∑ i : Fin 32, lateExp o k qa ⟨(i : ℕ) * 8 + u, by omega⟩ y := by
  simp only [← lateExp_A o k qa qb]
  pointwise [k0_pay42]

theorem lateDen_B : k0_pay44 (F := Ideal) (k0_pay38 (k0_pay29 o) (k0_pay35 qa qb) k) oldDL (ix3 (0 : Fin 1) u y)
    = oldDL (ix3 (0 : Fin 1) u y) + ∑ i : Fin 32, lateExp o k qb ⟨(i : ℕ) * 8 + u, by omega⟩ y := by
  simp only [← lateExp_B o k qa qb]
  pointwise [k0_pay44]

end Diag

section Queries

variable (x : Vec Ideal S128x512 .bf16) (r : Fin 128) (y : Fin 512)

theorem slt_64 : ∀ r : Fin 128, IntOp.cmpi CmpIPredicate.slt (BitVec.ofNat 32 (r : ℕ)) 64#32 = if (r : ℕ) < 64 then 1#1 else 0#1 := by decide

theorem sge_64 : ∀ r : Fin 128, IntOp.cmpi CmpIPredicate.sge (BitVec.ofNat 32 (r : ℕ)) 64#32 = if (r : ℕ) < 64 then 0#1 else 1#1 := by decide

/-- The widened queries: the first half keeps the rows of the first sub-head, the second half those of the second. -/
theorem widened_lo : k0_pay3 (F := Ideal) x (ix3 (0 : Fin 1) r y) = if (r : ℕ) < 64 then x (ix2 r y) else 0 := by
  pointwise [k0_pay3, k0_pay2]
  rw [slt_64]
  split <;> rfl

theorem widened_hi : k0_pay4 (F := Ideal) x (ix3 (0 : Fin 1) r y) = if (r : ℕ) < 64 then 0 else x (ix2 r y) := by
  pointwise [k0_pay4, k0_pay2]
  rw [sge_64]
  split <;> rfl

end Queries

end Cert.Attn
-- ==== Proof.Add.lean ====
/- What one tile step adds to the accumulators. -/
module

public import proofs.«01_k».proof.Proof.Lists
public import proofs.«01_k».proof.Proof.Tile

/-!
Over the extended reals every step of the body adds, to the rows of the query tiles it names, the key tile's share
(`share`, `denShare`) of the exponentials `tileExp`, and leaves the other rows alone.
-/

@[expose] public section

set_option maxRecDepth 16384

noncomputable section

namespace Cert.Attn

open Idealize.ShloMosaic
open Cert.KernelIdeal Cert.KernelIdeal.Gen

/-! ## Loads and writes of the body's rows -/

section Rows

variable {v : View sig .tc .vmem S8x128x1024 .f32} {w : View sig .tc .vmem S8x8x1024 .f32}
  (L : AccL Ideal) (M : DenL Ideal) (q q' : Fin 8) (d : Fin 128) (u : Fin 8) (l : Fin 1024) (y : Fin 256)

theorem canon_rows (P : (rows q).shape.Idx → EReal) :
    View.canon (Val := Elt Ideal) (e := .f32) (⟨rows q, P⟩ :: L) (ix3 q' d l) = if q' = q then P (ix3 (0 : Fin 1) d l) else View.canon L (ix3 q' d l) :=
  canon_row (F := Ideal) (e := .f32) L q (by omega) P q' d l

theorem canon_dens (P : (dens q).shape.Idx → EReal) :
    View.canon (Val := Elt Ideal) (e := .f32) (⟨dens q, P⟩ :: M) (ix3 q' u l) = if q' = q then P (ix3 (0 : Fin 1) u l) else View.canon M (ix3 q' u l) :=
  canon_row (F := Ideal) (e := .f32) M q (by omega) P q' u l

theorem canon_rowsA (P : (rowsA q).shape.Idx → EReal) :
    View.canon (Val := Elt Ideal) (e := .f32) (⟨rowsA q, P⟩ :: L) (ix3 q' d l)
      = if hl : q' = q ∧ 256 ≤ (l : ℕ) ∧ (l : ℕ) < 256 + 256 then P (ix3 (0 : Fin 1) d (⟨(l : ℕ) - 256, by omega⟩ : Fin 256)) else View.canon L (ix3 q' d l) :=
  canon_part (F := Ideal) (e := .f32) L q 256 (by omega) P q' d l

theorem canon_rowsB (P : (rowsB q).shape.Idx → EReal) :
    View.canon (Val := Elt Ideal) (e := .f32) (⟨rowsB q, P⟩ :: L) (ix3 q' d l)
      = if hl : q' = q ∧ 768 ≤ (l : ℕ) ∧ (l : ℕ) < 768 + 256 then P (ix3 (0 : Fin 1) d (⟨(l : ℕ) - 768, by omega⟩ : Fin 256)) else View.canon L (ix3 q' d l) :=
  canon_part (F := Ideal) (e := .f32) L q 768 (by omega) P q' d l

theorem canon_densA (P : (densA q).shape.Idx → EReal) :
    View.canon (Val := Elt Ideal) (e := .f32) (⟨densA q, P⟩ :: M) (ix3 q' u l)
      = if hl : q' = q ∧ 256 ≤ (l : ℕ) ∧ (l : ℕ) < 256 + 256 then P (ix3 (0 : Fin 1) u (⟨(l : ℕ) - 256, by omega⟩ : Fin 256)) else View.canon M (ix3 q' u l) :=
  canon_part (F := Ideal) (e := .f32) M q 256 (by omega) P q' u l

theorem canon_densB (P : (densB q).shape.Idx → EReal) :
    View.canon (Val := Elt Ideal) (e := .f32) (⟨densB q, P⟩ :: M) (ix3 q' u l)
      = if hl : q' = q ∧ 768 ≤ (l : ℕ) ∧ (l : ℕ) < 768 + 256 then P (ix3 (0 : Fin 1) u (⟨(l : ℕ) - 768, by omega⟩ : Fin 256)) else View.canon M (ix3 q' u l) :=
  canon_part (F := Ideal) (e := .f32) M q 768 (by omega) P q' u l

theorem read_rows : v.readCov (Val := Elt Ideal) L (rows q).toLoadRect (ix3 (0 : Fin 1) d l) = View.canon L (ix3 q d l) :=
  read_row (F := Ideal) v L q (by omega) d l

theorem read_dens : w.readCov (Val := Elt Ideal) M (dens q).toLoadRect (ix3 (0 : Fin 1) u l) = View.canon M (ix3 q u l) :=
  read_row (F := Ideal) w M q (by omega) u l

theorem read_rowsA : v.readCov (Val := Elt Ideal) L (rowsA q).toLoadRect (ix3 (0 : Fin 1) d y) = View.canon L (ix3 q d (⟨256 + (y : ℕ), by omega⟩ : Fin 1024)) :=
  read_part (F := Ideal) v L q 256 (by omega) d y

theorem read_rowsB : v.readCov (Val := Elt Ideal) L (rowsB q).toLoadRect (ix3 (0 : Fin 1) d y) = View.canon L (ix3 q d (⟨768 + (y : ℕ), by omega⟩ : Fin 1024)) :=
  read_part (F := Ideal) v L q 768 (by omega) d y

theorem read_densA : w.readCov (Val := Elt Ideal) M (densA q).toLoadRect (ix3 (0 : Fin 1) u y) = View.canon M (ix3 q u (⟨256 + (y : ℕ), by omega⟩ : Fin 1024)) :=
  read_part (F := Ideal) w M q 256 (by omega) u y

theorem read_densB : w.readCov (Val := Elt Ideal) M (densB q).toLoadRect (ix3 (0 : Fin 1) u y) = View.canon M (ix3 q u (⟨768 + (y : ℕ), by omega⟩ : Fin 1024)) :=
  read_part (F := Ideal) w M q 768 (by omega) u y

end Rows

/-! ## The exponentials of a key tile -/

variable (v : View sig .tc .vmem S8x128x1024 .f32) (w : View sig .tc .vmem S8x8x1024 .f32) (T : Loads Ideal)

/-- The exponential the body takes of key `x` of a tile's second half against lane `l` of the tile's own queries; nothing
    (0) for the early lanes, whose queries do not see these keys. -/
def secondExp (q : Fin 8) (x : Fin 256) (l : Fin 1024) : EReal :=
  if h : 256 ≤ (l : ℕ) ∧ (l : ℕ) < 256 + 256 then lateExp T.own (T.kSecond q) (T.qwA q) x ⟨(l : ℕ) - 256, by omega⟩
  else if h : 768 ≤ (l : ℕ) ∧ (l : ℕ) < 768 + 256 then lateExp T.own (T.kSecond q) (T.qwB q) x ⟨(l : ℕ) - 768, by omega⟩
  else 0

/-- The exponential of key `x` of key tile `kj` against lane `l` of query tile `q`. -/
def tileExp (kj q : Fin 8) (l : Fin 1024) (x : Fin 512) : EReal :=
  if q = kj then
    if h : (x : ℕ) < 256 then ownExp T.own (T.kFirst q) (T.qw q) ⟨x, h⟩ l else secondExp T q ⟨(x : ℕ) - 256, by omega⟩ l
  else if (kj : ℕ) + 1 = q then Ideal.exp2 (score (T.kWhole kj) (T.qw q) x l + cornerBias T.corner x ((l : ℕ) % 512))
  else Ideal.exp2 (score (T.kWhole kj) (T.qw q) x l)

/-- What key tile `kj` adds to query tile `q`'s row `d` at lane `l`, and to its denominators' sublane `u`. -/
def accAdd (kj q : Fin 8) (d : Fin 128) (l : Fin 1024) : EReal := share (T.vFirst kj) (T.vSecond kj) (tileExp T kj q l) d
def denAdd (kj q : Fin 8) (u : Fin 8) (l : Fin 1024) : EReal := denShare (tileExp T kj q l) u

theorem accAdd_own (q : Fin 8) (d : Fin 128) (l : Fin 1024) :
    accAdd T q q d l = ∑ x : Fin 256, T.vFirst q (ix4 (0 : Fin 1) (0 : Fin 1) d x) * ownExp T.own (T.kFirst q) (T.qw q) x l
      + ∑ x : Fin 256, T.vSecond q (ix4 (0 : Fin 1) (0 : Fin 1) d x) * secondExp T q x l := by
  unfold accAdd share tileExp
  congr 1
  · refine Finset.sum_congr rfl fun x _ => ?_
    rw [if_pos rfl, dif_pos x.isLt]
  · refine Finset.sum_congr rfl fun x _ => ?_
    have h : ¬ (256 + (x : ℕ) < 256) := by omega
    have e : 256 + (x : ℕ) - 256 = x := by omega
    rw [if_pos rfl, dif_neg h]
    simp only [e]

theorem denAdd_own (q : Fin 8) (u : Fin 8) (l : Fin 1024) :
    denAdd T q q u l = ∑ i : Fin 32, ownExp T.own (T.kFirst q) (T.qw q) ⟨(i : ℕ) * 8 + u, by omega⟩ l
      + ∑ i : Fin 32, secondExp T q ⟨(i : ℕ) * 8 + u, by omega⟩ l := by
  unfold denAdd denShare tileExp
  refine (Fin.sum_univ_add (a := 32) (b := 32) _).trans ?_
  congr 1
  · refine Finset.sum_congr rfl fun x _ => ?_
    have h : ((x : ℕ) * 8 + u) < 256 := by omega
    rw [if_pos rfl]; exact dif_pos h
  · refine Finset.sum_congr rfl fun x _ => ?_
    have h : ¬ ((32 + (x : ℕ)) * 8 + u < 256) := by omega
    have e : (32 + (x : ℕ)) * 8 + u - 256 = x * 8 + u := by omega
    rw [if_pos rfl]
    refine (dif_neg h).trans ?_
    simp only [Fin.val_natAdd, e]

/-! ## The steps -/

theorem diagAcc_apply (q : Fin 8) (L : AccL Ideal) (q' : Fin 8) (d : Fin 128) (l : Fin 1024) :
    View.canon (diagAcc v T q L) (ix3 q' d l) = View.canon L (ix3 q' d l) + if q' = q then accAdd T q q d l else 0 := by
  by_cases hq : q' = q
  · subst hq
    rw [if_pos rfl, accAdd_own]
    unfold diagAcc
    simp only [canon_rowsB, canon_rowsA, canon_rows, true_and, if_true]
    by_cases hB : 768 ≤ (l : ℕ) ∧ (l : ℕ) < 768 + 256
    · have hA : ¬ (256 ≤ (l : ℕ) ∧ (l : ℕ) < 256 + 256) := by omega
      have e : 768 + ((l : ℕ) - 768) = l := by omega
      rw [dif_pos hB, late_B, read_rowsB]
      simp only [e, Fin.eta, canon_rowsA, canon_rows, true_and, if_true, dif_neg hA]
      rw [own_all, read_rows, add_assoc]
      simp only [secondExp, dif_neg hA, dif_pos hB]
    · rw [dif_neg hB]
      by_cases hA : 256 ≤ (l : ℕ) ∧ (l : ℕ) < 256 + 256
      · have e : 256 + ((l : ℕ) - 256) = l := by omega
        rw [dif_pos hA, late_A, read_rowsA]
        simp only [e, Fin.eta, canon_rows, if_true]
        rw [own_all, read_rows, add_assoc]
        simp only [secondExp, dif_pos hA]
      · rw [dif_neg hA, own_all, read_rows]
        simp only [secondExp, dif_neg hA, dif_neg hB, mul_zero, Finset.sum_const_zero, add_zero]
  · rw [if_neg hq, add_zero]
    unfold diagAcc
    simp only [canon_rowsB, canon_rowsA, canon_rows, hq, false_and, dite_false, if_false]

theorem diagDen_apply (q : Fin 8) (L : DenL Ideal) (q' : Fin 8) (u : Fin 8) (l : Fin 1024) :
    View.canon (diagDen w T q L) (ix3 q' u l) = View.canon L (ix3 q' u l) + if q' = q then denAdd T q q u l else 0 := by
  by_cases hq : q' = q
  · subst hq
    rw [if_pos rfl, denAdd_own]
    unfold diagDen
    simp only [canon_densB, canon_densA, canon_dens, true_and, if_true]
    by_cases hB : 768 ≤ (l : ℕ) ∧ (l : ℕ) < 768 + 256
    · have hA : ¬ (256 ≤ (l : ℕ) ∧ (l : ℕ) < 256 + 256) := by omega
      have e : 768 + ((l : ℕ) - 768) = l := by omega
      rw [dif_pos hB, lateDen_B, read_densB]
      simp only [e, Fin.eta, canon_densA, canon_dens, true_and, if_true, dif_neg hA]
      rw [ownDen_all, read_dens, add_assoc]
      simp only [secondExp, dif_neg hA, dif_pos hB]
    · rw [dif_neg hB]
      by_cases hA : 256 ≤ (l : ℕ) ∧ (l : ℕ) < 256 + 256
      · have e : 256 + ((l : ℕ) - 256) = l := by omega
        rw [dif_pos hA, lateDen_A, read_densA]
        simp only [e, Fin.eta, canon_dens, if_true]
        rw [ownDen_all, read_dens, add_assoc]
        simp only [secondExp, dif_pos hA]
      · rw [dif_neg hA, ownDen_all, read_dens]
        simp only [secondExp, dif_neg hA, dif_neg hB, Finset.sum_const_zero, add_zero]
  · rw [if_neg hq, add_zero]
    unfold diagDen
    simp only [canon_densB, canon_densA, canon_dens, hq, false_and, dite_false, if_false]

section Later

variable (kj q q2 : Fin 8) (L : AccL Ideal) (M : DenL Ideal) (q' : Fin 8) (d : Fin 128) (u : Fin 8) (l : Fin 1024)

theorem tileExp_near (h : q ≠ kj) (h1 : (kj : ℕ) + 1 = q) :
    tileExp T kj q l = fun x => Ideal.exp2 (score (T.kWhole kj) (T.qw q) x l + cornerBias T.corner x ((l : ℕ) % 512)) := by
  funext x; unfold tileExp; rw [if_neg h, if_pos h1]

theorem tileExp_far (h : q ≠ kj) (h1 : (kj : ℕ) + 1 ≠ q) :
    tileExp T kj q l = fun x => Ideal.exp2 (score (T.kWhole kj) (T.qw q) x l) := by
  funext x; unfold tileExp; rw [if_neg h, if_neg h1]

theorem nearAcc_apply (h1 : (kj : ℕ) + 1 = q) (h2 : (q : ℕ) + 1 = q2) :
    View.canon (nearAcc v T kj q q2 L) (ix3 q' d l) = View.canon L (ix3 q' d l)
      + if q' = q then accAdd T kj q d l else if q' = q2 then accAdd T kj q2 d l else 0 := by
  have hq : q ≠ kj := fun e => by rw [e] at h1; omega
  have hq2 : q2 ≠ kj := fun e => by rw [e] at h2; omega
  have hqq : q ≠ q2 := fun e => by rw [e] at h2; omega
  unfold nearAcc accAdd
  rw [tileExp_near T kj q l hq h1, tileExp_far T kj q2 l hq2 (by omega)]
  simp only [canon_rows]
  by_cases e1 : q' = q
  · subst e1
    rw [if_neg hqq, if_pos rfl, if_pos rfl, near_fst, read_rows]
  · by_cases e2 : q' = q2
    · subst e2
      rw [if_pos rfl, if_neg e1, if_pos rfl, near_snd, read_rows, canon_rows, if_neg e1]
    · rw [if_neg e2, if_neg e1, if_neg e1, if_neg e2, add_zero]

theorem nearDen_apply (h1 : (kj : ℕ) + 1 = q) (h2 : (q : ℕ) + 1 = q2) :
    View.canon (nearDen w T kj q q2 M) (ix3 q' u l) = View.canon M (ix3 q' u l)
      + if q' = q then denAdd T kj q u l else if q' = q2 then denAdd T kj q2 u l else 0 := by
  have hq : q ≠ kj := fun e => by rw [e] at h1; omega
  have hq2 : q2 ≠ kj := fun e => by rw [e] at h2; omega
  have hqq : q ≠ q2 := fun e => by rw [e] at h2; omega
  unfold nearDen denAdd
  rw [tileExp_near T kj q l hq h1, tileExp_far T kj q2 l hq2 (by omega)]
  simp only [canon_dens]
  by_cases e1 : q' = q
  · subst e1
    rw [if_neg hqq, if_pos rfl, if_pos rfl, nearDen_fst, read_dens]
  · by_cases e2 : q' = q2
    · subst e2
      rw [if_pos rfl, if_neg e1, if_pos rfl, nearDen_snd, read_dens, canon_dens, if_neg e1]
    · rw [if_neg e2, if_neg e1, if_neg e1, if_neg e2, add_zero]

theorem farAcc_apply (h1 : (kj : ℕ) + 1 < q) (h2 : (q : ℕ) + 1 = q2) :
    View.canon (farAcc v T kj q q2 L) (ix3 q' d l) = View.canon L (ix3 q' d l)
      + if q' = q then accAdd T kj q d l else if q' = q2 then accAdd T kj q2 d l else 0 := by
  have hq : q ≠ kj := fun e => by rw [e] at h1; omega
  have hq2 : q2 ≠ kj := fun e => by rw [e] at h2; omega
  have hqq : q ≠ q2 := fun e => by rw [e] at h2; omega
  unfold farAcc accAdd
  rw [tileExp_far T kj q l hq (by omega), tileExp_far T kj q2 l hq2 (by omega)]
  simp only [canon_rows]
  by_cases e1 : q' = q
  · subst e1
    rw [if_neg hqq, if_pos rfl, if_pos rfl, far_fst, read_rows]
  · by_cases e2 : q' = q2
    · subst e2
      rw [if_pos rfl, if_neg e1, if_pos rfl, far_snd, read_rows, canon_rows, if_neg e1]
    · rw [if_neg e2, if_neg e1, if_neg e1, if_neg e2, add_zero]

theorem farDen_apply (h1 : (kj : ℕ) + 1 < q) (h2 : (q : ℕ) + 1 = q2) :
    View.canon (farDen w T kj q q2 M) (ix3 q' u l) = View.canon M (ix3 q' u l)
      + if q' = q then denAdd T kj q u l else if q' = q2 then denAdd T kj q2 u l else 0 := by
  have hq : q ≠ kj := fun e => by rw [e] at h1; omega
  have hq2 : q2 ≠ kj := fun e => by rw [e] at h2; omega
  have hqq : q ≠ q2 := fun e => by rw [e] at h2; omega
  unfold farDen denAdd
  rw [tileExp_far T kj q l hq (by omega), tileExp_far T kj q2 l hq2 (by omega)]
  simp only [canon_dens]
  by_cases e1 : q' = q
  · subst e1
    rw [if_neg hqq, if_pos rfl, if_pos rfl, farDen_fst, read_dens]
  · by_cases e2 : q' = q2
    · subst e2
      rw [if_pos rfl, if_neg e1, if_pos rfl, farDen_snd, read_dens, canon_dens, if_neg e1]
    · rw [if_neg e2, if_neg e1, if_neg e1, if_neg e2, add_zero]

theorem lastFarAcc_apply (h1 : (kj : ℕ) + 1 < q) :
    View.canon (lastFarAcc v T kj q L) (ix3 q' d l) = View.canon L (ix3 q' d l) + if q' = q then accAdd T kj q d l else 0 := by
  have hq : q ≠ kj := fun e => by rw [e] at h1; omega
  unfold lastFarAcc accAdd
  rw [tileExp_far T kj q l hq (by omega), canon_rows]
  by_cases e1 : q' = q
  · subst e1; rw [if_pos rfl, if_pos rfl, lastFar, read_rows]
  · rw [if_neg e1, if_neg e1, add_zero]

theorem lastFarDen_apply (h1 : (kj : ℕ) + 1 < q) :
    View.canon (lastFarDen w T kj q M) (ix3 q' u l) = View.canon M (ix3 q' u l) + if q' = q then denAdd T kj q u l else 0 := by
  have hq : q ≠ kj := fun e => by rw [e] at h1; omega
  unfold lastFarDen denAdd
  rw [tileExp_far T kj q l hq (by omega), canon_dens]
  by_cases e1 : q' = q
  · subst e1; rw [if_pos rfl, if_pos rfl, lastFarDen', read_dens]
  · rw [if_neg e1, if_neg e1, add_zero]

theorem lastNearAcc_apply (h1 : (kj : ℕ) + 1 = q) :
    View.canon (lastNearAcc v T kj q L) (ix3 q' d l) = View.canon L (ix3 q' d l) + if q' = q then accAdd T kj q d l else 0 := by
  have hq : q ≠ kj := fun e => by rw [e] at h1; omega
  unfold lastNearAcc accAdd
  rw [tileExp_near T kj q l hq h1, canon_rows]
  by_cases e1 : q' = q
  · subst e1; rw [if_pos rfl, if_pos rfl, lastNear, read_rows]
  · rw [if_neg e1, if_neg e1, add_zero]

theorem lastNearDen_apply (h1 : (kj : ℕ) + 1 = q) :
    View.canon (lastNearDen w T kj q M) (ix3 q' u l) = View.canon M (ix3 q' u l) + if q' = q then denAdd T kj q u l else 0 := by
  have hq : q ≠ kj := fun e => by rw [e] at h1; omega
  unfold lastNearDen denAdd
  rw [tileExp_near T kj q l hq h1, canon_dens]
  by_cases e1 : q' = q
  · subst e1; rw [if_pos rfl, if_pos rfl, lastNearDen', read_dens]
  · rw [if_neg e1, if_neg e1, add_zero]

end Later

end Cert.Attn
-- ==== Proof.Body.lean ====
/- What the body's accumulators hold in the end. -/
module

public import proofs.«01_k».proof.Proof.Add

/-!
Summing the steps: after the run, row `d` of query tile `q` holds the sum of the shares of the key tiles up to `q`,
and likewise the denominators.
-/

@[expose] public section

set_option maxRecDepth 16384

noncomputable section

namespace Cert.Attn

open Idealize.ShloMosaic Idealize.ShloMosaic.TcCoe
open Cert.KernelIdeal Cert.KernelIdeal.Gen

/-- Both accumulators start at zero. -/
theorem acc_start (y : S8x128x1024.Idx) : View.canon (Val := Elt Ideal) (e := .f32) (kernelRun0_A.sl.HS1_1 (F := Ideal)) y = (0 : EReal) := by
  have h := View.canon_cons_emb (Val := Elt Ideal) (e := .f32) (Rect.unit (s := S8x128x1024) ![0, 0, 0] S8x128x1024.size inb_S8x128x1024_S8x128x1024_0_0_0) (k0_pay27 (F := Ideal)) [] y
  have e : (Rect.unit (s := S8x128x1024) ![0, 0, 0] S8x128x1024.size inb_S8x128x1024_S8x128x1024_0_0_0).emb y = y := by
    funext a; apply Fin.ext
    fin_cases a <;> exact (Nat.zero_add _).trans (Nat.one_mul _)
  rw [e] at h
  refine h.trans ?_
  pointwise [k0_pay27]

theorem den_start (y : S8x8x1024.Idx) : View.canon (Val := Elt Ideal) (e := .f32) (kernelRun0_A.sl.HS2_1 (F := Ideal)) y = (0 : EReal) := by
  have h := View.canon_cons_emb (Val := Elt Ideal) (e := .f32) (Rect.unit (s := S8x8x1024) ![0, 0, 0] S8x8x1024.size inb_S8x8x1024_S8x8x1024_0_0_0) (k0_pay28 (F := Ideal)) [] y
  have e : (Rect.unit (s := S8x8x1024) ![0, 0, 0] S8x8x1024.size inb_S8x8x1024_S8x8x1024_0_0_0).emb y = y := by
    funext a; apply Fin.ext
    fin_cases a <;> exact (Nat.zero_add _).trans (Nat.one_mul _)
  rw [e] at h
  refine h.trans ?_
  pointwise [k0_pay28]

variable (c : Dev nD) (arg2 : Memref sig .tc .vmem S128x4096 .bf16) (harg2 : arg2.IsWhole) (arg3 : Memref sig .tc .vmem S1x4096x128 .bf16) (harg3 : arg3.IsWhole)
    (arg4 : Memref sig .tc .vmem S16x1x128x256 .bf16) (harg4 : arg4.IsWhole) (arg5 : Memref sig .tc .vmem S1x3x512x512 .f32) (harg5 : arg5.IsWhole)
    (arg9 : Memref sig .tc .vmem S8x128x1024 .bf16) (arg10 : Memref sig .tc .vmem S8x128x1024 .f32) (arg11 : Memref sig .tc .vmem S8x8x1024 .f32)
    (x0 : Vec Ideal S128x4096 .bf16) (x1 : Vec Ideal S1x4096x128 .bf16) (x2 : Vec Ideal S16x1x128x256 .bf16) (x3 : Vec Ideal S1x3x512x512 .f32)

local notation "lds" => loads c arg2 harg2 arg3 harg3 arg4 harg4 arg5 harg5 arg9 x0 x1 x2 x3

/-! ## One key tile -/

theorem tileAcc0 (q : Fin 8) (d : Fin 128) (l : Fin 1024) :
    View.canon (Val := Elt Ideal) (e := .f32) (kernelRun0_A.sl.HS1_11 c arg2 harg2 arg3 harg3 arg4 harg4 arg5 harg5 arg9 arg10 x0 x1 x2 x3) (ix3 q d l)
      = View.canon (Val := Elt Ideal) (e := .f32) (kernelRun0_A.sl.HS1_1) (ix3 q d l) + if 0 ≤ q then accAdd lds 0 q d l else (0 : EReal) := by
  obtain ⟨e0, e1, e2, e3, e4⟩ := stepsAcc0 c arg2 harg2 arg3 harg3 arg4 harg4 arg5 harg5 arg9 arg10 x0 x1 x2 x3
  rw [e4, lastFarAcc_apply (h1 := by decide), e3, farAcc_apply (h1 := by decide) (h2 := by decide), e2, farAcc_apply (h1 := by decide) (h2 := by decide), e1, nearAcc_apply (h1 := by decide) (h2 := by decide), e0, diagAcc_apply]
  generalize lds = T
  fin_cases q <;> simp

theorem tileDen0 (q : Fin 8) (d : Fin 8) (l : Fin 1024) :
    View.canon (Val := Elt Ideal) (e := .f32) (kernelRun0_A.sl.HS2_11 c arg2 harg2 arg3 harg3 arg5 harg5 arg9 arg11 x0 x1 x3) (ix3 q d l)
      = View.canon (Val := Elt Ideal) (e := .f32) (kernelRun0_A.sl.HS2_1) (ix3 q d l) + if 0 ≤ q then denAdd lds 0 q d l else (0 : EReal) := by
  obtain ⟨e0, e1, e2, e3, e4⟩ := stepsDen0 c arg2 harg2 arg3 harg3 arg4 harg4 arg5 harg5 arg9 arg11 x0 x1 x2 x3
  rw [e4, lastFarDen_apply (h1 := by decide), e3, farDen_apply (h1 := by decide) (h2 := by decide), e2, farDen_apply (h1 := by decide) (h2 := by decide), e1, nearDen_apply (h1 := by decide) (h2 := by decide), e0, diagDen_apply]
  generalize lds = T
  fin_cases q <;> simp

theorem tileAcc1 (q : Fin 8) (d : Fin 128) (l : Fin 1024) :
    View.canon (Val := Elt Ideal) (e := .f32) (kernelRun0_A.sl.HS1_20 c arg2 harg2 arg3 harg3 arg4 harg4 arg5 harg5 arg9 arg10 x0 x1 x2 x3) (ix3 q d l)
      = View.canon (Val := Elt Ideal) (e := .f32) (kernelRun0_A.sl.HS1_11 c arg2 harg2 arg3 harg3 arg4 harg4 arg5 harg5 arg9 arg10 x0 x1 x2 x3) (ix3 q d l) + if 1 ≤ q then accAdd lds 1 q d l else (0 : EReal) := by
  obtain ⟨e0, e1, e2, e3⟩ := stepsAcc1 c arg2 harg2 arg3 harg3 arg4 harg4 arg5 harg5 arg9 arg10 x0 x1 x2 x3
  rw [e3, farAcc_apply (h1 := by decide) (h2 := by decide), e2, farAcc_apply (h1 := by decide) (h2 := by decide), e1, nearAcc_apply (h1 := by decide) (h2 := by decide), e0, diagAcc_apply]
  generalize lds = T
  fin_cases q <;> simp

theorem tileDen1 (q : Fin 8) (d : Fin 8) (l : Fin 1024) :
    View.canon (Val := Elt Ideal) (e := .f32) (kernelRun0_A.sl.HS2_20 c arg2 harg2 arg3 harg3 arg5 harg5 arg9 arg11 x0 x1 x3) (ix3 q d l)
      = View.canon (Val := Elt Ideal) (e := .f32) (kernelRun0_A.sl.HS2_11 c arg2 harg2 arg3 harg3 arg5 harg5 arg9 arg11 x0 x1 x3) (ix3 q d l) + if 1 ≤ q then denAdd lds 1 q d l else (0 : EReal) := by
  obtain ⟨e0, e1, e2, e3⟩ := stepsDen1 c arg2 harg2 arg3 harg3 arg4 harg4 arg5 harg5 arg9 arg11 x0 x1 x2 x3
  rw [e3, farDen_apply (h1 := by decide) (h2 := by decide), e2, farDen_apply (h1 := by decide) (h2 := by decide), e1, nearDen_apply (h1 := by decide) (h2 := by decide), e0, diagDen_apply]
  generalize lds = T
  fin_cases q <;> simp

theorem tileAcc2 (q : Fin 8) (d : Fin 128) (l : Fin 1024) :
    View.canon (Val := Elt Ideal) (e := .f32) (kernelRun0_A.sl.HS1_28 c arg2 harg2 arg3 harg3 arg4 harg4 arg5 harg5 arg9 arg10 x0 x1 x2 x3) (ix3 q d l)
      = View.canon (Val := Elt Ideal) (e := .f32) (kernelRun0_A.sl.HS1_20 c arg2 harg2 arg3 harg3 arg4 harg4 arg5 harg5 arg9 arg10 x0 x1 x2 x3) (ix3 q d l) + if 2 ≤ q then accAdd lds 2 q d l else (0 : EReal) := by
  obtain ⟨e0, e1, e2, e3⟩ := stepsAcc2 c arg2 harg2 arg3 harg3 arg4 harg4 arg5 harg5 arg9 arg10 x0 x1 x2 x3
  rw [e3, lastFarAcc_apply (h1 := by decide), e2, farAcc_apply (h1 := by decide) (h2 := by decide), e1, nearAcc_apply (h1 := by decide) (h2 := by decide), e0, diagAcc_apply]
  generalize lds = T
  fin_cases q <;> simp

theorem tileDen2 (q : Fin 8) (d : Fin 8) (l : Fin 1024) :
    View.canon (Val := Elt Ideal) (e := .f32) (kernelRun0_A.sl.HS2_28 c arg2 harg2 arg3 harg3 arg5 harg5 arg9 arg11 x0 x1 x3) (ix3 q d l)
      = View.canon (Val := Elt Ideal) (e := .f32) (kernelRun0_A.sl.HS2_20 c arg2 harg2 arg3 harg3 arg5 harg5 arg9 arg11 x0 x1 x3) (ix3 q d l) + if 2 ≤ q then denAdd lds 2 q d l else (0 : EReal) := by
  obtain ⟨e0, e1, e2, e3⟩ := stepsDen2 c arg2 harg2 arg3 harg3 arg4 harg4 arg5 harg5 arg9 arg11 x0 x1 x2 x3
  rw [e3, lastFarDen_apply (h1 := by decide), e2, farDen_apply (h1 := by decide) (h2 := by decide), e1, nearDen_apply (h1 := by decide) (h2 := by decide), e0, diagDen_apply]
  generalize lds = T
  fin_cases q <;> simp

theorem tileAcc3 (q : Fin 8) (d : Fin 128) (l : Fin 1024) :
    View.canon (Val := Elt Ideal) (e := .f32) (kernelRun0_A.sl.HS1_35 c arg2 harg2 arg3 harg3 arg4 harg4 arg5 harg5 arg9 arg10 x0 x1 x2 x3) (ix3 q d l)
      = View.canon (Val := Elt Ideal) (e := .f32) (kernelRun0_A.sl.HS1_28 c arg2 harg2 arg3 harg3 arg4 harg4 arg5 harg5 arg9 arg10 x0 x1 x2 x3) (ix3 q d l) + if 3 ≤ q then accAdd lds 3 q d l else (0 : EReal) := by
  obtain ⟨e0, e1, e2⟩ := stepsAcc3 c arg2 harg2 arg3 harg3 arg4 harg4 arg5 harg5 arg9 arg10 x0 x1 x2 x3
  rw [e2, farAcc_apply (h1 := by decide) (h2 := by decide), e1, nearAcc_apply (h1 := by decide) (h2 := by decide), e0, diagAcc_apply]
  generalize lds = T
  fin_cases q <;> simp

theorem tileDen3 (q : Fin 8) (d : Fin 8) (l : Fin 1024) :
    View.canon (Val := Elt Ideal) (e := .f32) (kernelRun0_A.sl.HS2_35 c arg2 harg2 arg3 harg3 arg5 harg5 arg9 arg11 x0 x1 x3) (ix3 q d l)
      = View.canon (Val := Elt Ideal) (e := .f32) (kernelRun0_A.sl.HS2_28 c arg2 harg2 arg3 harg3 arg5 harg5 arg9 arg11 x0 x1 x3) (ix3 q d l) + if 3 ≤ q then denAdd lds 3 q d l else (0 : EReal) := by
  obtain ⟨e0, e1, e2⟩ := stepsDen3 c arg2 harg2 arg3 harg3 arg4 harg4 arg5 harg5 arg9 arg11 x0 x1 x2 x3
  rw [e2, farDen_apply (h1 := by decide) (h2 := by decide), e1, nearDen_apply (h1 := by decide) (h2 := by decide), e0, diagDen_apply]
  generalize lds = T
  fin_cases q <;> simp

theorem tileAcc4 (q : Fin 8) (d : Fin 128) (l : Fin 1024) :
    View.canon (Val := Elt Ideal) (e := .f32) (kernelRun0_A.sl.HS1_41 c arg2 harg2 arg3 harg3 arg4 harg4 arg5 harg5 arg9 arg10 x0 x1 x2 x3) (ix3 q d l)
      = View.canon (Val := Elt Ideal) (e := .f32) (kernelRun0_A.sl.HS1_35 c arg2 harg2 arg3 harg3 arg4 harg4 arg5 harg5 arg9 arg10 x0 x1 x2 x3) (ix3 q d l) + if 4 ≤ q then accAdd lds 4 q d l else (0 : EReal) := by
  obtain ⟨e0, e1, e2⟩ := stepsAcc4 c arg2 harg2 arg3 harg3 arg4 harg4 arg5 harg5 arg9 arg10 x0 x1 x2 x3
  rw [e2, lastFarAcc_apply (h1 := by decide), e1, nearAcc_apply (h1 := by decide) (h2 := by decide), e0, diagAcc_apply]
  generalize lds = T
  fin_cases q <;> simp

theorem tileDen4 (q : Fin 8) (d : Fin 8) (l : Fin 1024) :
    View.canon (Val := Elt Ideal) (e := .f32) (kernelRun0_A.sl.HS2_41 c arg2 harg2 arg3 harg3 arg5 harg5 arg9 arg11 x0 x1 x3) (ix3 q d l)
      = View.canon (Val := Elt Ideal) (e := .f32) (kernelRun0_A.sl.HS2_35 c arg2 harg2 arg3 harg3 arg5 harg5 arg9 arg11 x0 x1 x3) (ix3 q d l) + if 4 ≤ q then denAdd lds 4 q d l else (0 : EReal) := by
  obtain ⟨e0, e1, e2⟩ := stepsDen4 c arg2 harg2 arg3 harg3 arg4 harg4 arg5 harg5 arg9 arg11 x0 x1 x2 x3
  rw [e2, lastFarDen_apply (h1 := by decide), e1, nearDen_apply (h1 := by decide) (h2 := by decide), e0, diagDen_apply]
  generalize lds = T
  fin_cases q <;> simp

theorem tileAcc5 (q : Fin 8) (d : Fin 128) (l : Fin 1024) :
    View.canon (Val := Elt Ideal) (e := .f32) (kernelRun0_A.sl.HS1_46 c arg2 harg2 arg3 harg3 arg4 harg4 arg5 harg5 arg9 arg10 x0 x1 x2 x3) (ix3 q d l)
      = View.canon (Val := Elt Ideal) (e := .f32) (kernelRun0_A.sl.HS1_41 c arg2 harg2 arg3 harg3 arg4 harg4 arg5 harg5 arg9 arg10 x0 x1 x2 x3) (ix3 q d l) + if 5 ≤ q then accAdd lds 5 q d l else (0 : EReal) := by
  obtain ⟨e0, e1⟩ := stepsAcc5 c arg2 harg2 arg3 harg3 arg4 harg4 arg5 harg5 arg9 arg10 x0 x1 x2 x3
  rw [e1, nearAcc_apply (h1 := by decide) (h2 := by decide), e0, diagAcc_apply]
  generalize lds = T
  fin_cases q <;> simp

theorem tileDen5 (q : Fin 8) (d : Fin 8) (l : Fin 1024) :
    View.canon (Val := Elt Ideal) (e := .f32) (kernelRun0_A.sl.HS2_46 c arg2 harg2 arg3 harg3 arg5 harg5 arg9 arg11 x0 x1 x3) (ix3 q d l)
      = View.canon (Val := Elt Ideal) (e := .f32) (kernelRun0_A.sl.HS2_41 c arg2 harg2 arg3 harg3 arg5 harg5 arg9 arg11 x0 x1 x3) (ix3 q d l) + if 5 ≤ q then denAdd lds 5 q d l else (0 : EReal) := by
  obtain ⟨e0, e1⟩ := stepsDen5 c arg2 harg2 arg3 harg3 arg4 harg4 arg5 harg5 arg9 arg11 x0 x1 x2 x3
  rw [e1, nearDen_apply (h1 := by decide) (h2 := by decide), e0, diagDen_apply]
  generalize lds = T
  fin_cases q <;> simp

theorem tileAcc6 (q : Fin 8) (d : Fin 128) (l : Fin 1024) :
    View.canon (Val := Elt Ideal) (e := .f32) (kernelRun0_A.sl.HS1_50 c arg2 harg2 arg3 harg3 arg4 harg4 arg5 harg5 arg9 arg10 x0 x1 x2 x3) (ix3 q d l)
      = View.canon (Val := Elt Ideal) (e := .f32) (kernelRun0_A.sl.HS1_46 c arg2 harg2 arg3 harg3 arg4 harg4 arg5 harg5 arg9 arg10 x0 x1 x2 x3) (ix3 q d l) + if 6 ≤ q then accAdd lds 6 q d l else (0 : EReal) := by
  obtain ⟨e0, e1⟩ := stepsAcc6 c arg2 harg2 arg3 harg3 arg4 harg4 arg5 harg5 arg9 arg10 x0 x1 x2 x3
  rw [e1, lastNearAcc_apply (h1 := by decide), e0, diagAcc_apply]
  generalize lds = T
  fin_cases q <;> simp

theorem tileDen6 (q : Fin 8) (d : Fin 8) (l : Fin 1024) :
    View.canon (Val := Elt Ideal) (e := .f32) (kernelRun0_A.sl.HS2_50 c arg2 harg2 arg3 harg3 arg5 harg5 arg9 arg11 x0 x1 x3) (ix3 q d l)
      = View.canon (Val := Elt Ideal) (e := .f32) (kernelRun0_A.sl.HS2_46 c arg2 harg2 arg3 harg3 arg5 harg5 arg9 arg11 x0 x1 x3) (ix3 q d l) + if 6 ≤ q then denAdd lds 6 q d l else (0 : EReal) := by
  obtain ⟨e0, e1⟩ := stepsDen6 c arg2 harg2 arg3 harg3 arg4 harg4 arg5 harg5 arg9 arg11 x0 x1 x2 x3
  rw [e1, lastNearDen_apply (h1 := by decide), e0, diagDen_apply]
  generalize lds = T
  fin_cases q <;> simp

theorem tileAcc7 (q : Fin 8) (d : Fin 128) (l : Fin 1024) :
    View.canon (Val := Elt Ideal) (e := .f32) (kernelRun0_A.sl.HS1_53 c arg2 harg2 arg3 harg3 arg4 harg4 arg5 harg5 arg9 arg10 x0 x1 x2 x3) (ix3 q d l)
      = View.canon (Val := Elt Ideal) (e := .f32) (kernelRun0_A.sl.HS1_50 c arg2 harg2 arg3 harg3 arg4 harg4 arg5 harg5 arg9 arg10 x0 x1 x2 x3) (ix3 q d l) + if 7 ≤ q then accAdd lds 7 q d l else (0 : EReal) := by
  have e0 := stepsAcc7 c arg2 harg2 arg3 harg3 arg4 harg4 arg5 harg5 arg9 arg10 x0 x1 x2 x3
  rw [e0, diagAcc_apply]
  generalize lds = T
  fin_cases q <;> simp

theorem tileDen7 (q : Fin 8) (d : Fin 8) (l : Fin 1024) :
    View.canon (Val := Elt Ideal) (e := .f32) (kernelRun0_A.sl.HS2_53 c arg2 harg2 arg3 harg3 arg5 harg5 arg9 arg11 x0 x1 x3) (ix3 q d l)
      = View.canon (Val := Elt Ideal) (e := .f32) (kernelRun0_A.sl.HS2_50 c arg2 harg2 arg3 harg3 arg5 harg5 arg9 arg11 x0 x1 x3) (ix3 q d l) + if 7 ≤ q then denAdd lds 7 q d l else (0 : EReal) := by
  have e0 := stepsDen7 c arg2 harg2 arg3 harg3 arg4 harg4 arg5 harg5 arg9 arg11 x0 x1 x2 x3
  rw [e0, diagDen_apply]
  generalize lds = T
  fin_cases q <;> simp

/-! ## All key tiles -/

/-- What the value accumulator holds in the end. -/
theorem totalAcc (q : Fin 8) (d : Fin 128) (l : Fin 1024) :
    View.canon (Val := Elt Ideal) (e := .f32) (kernelRun0_A.sl.HS1_53 c arg2 harg2 arg3 harg3 arg4 harg4 arg5 harg5 arg9 arg10 x0 x1 x2 x3) (ix3 q d l)
      = ∑ kj : Fin 8, if kj ≤ q then accAdd lds kj q d l else (0 : EReal) := by
  rw [tileAcc7, tileAcc6, tileAcc5, tileAcc4, tileAcc3, tileAcc2, tileAcc1, tileAcc0, acc_start, zero_add, Fin.sum_univ_eight]

/-- What the denominators hold in the end. -/
theorem totalDen (q : Fin 8) (d : Fin 8) (l : Fin 1024) :
    View.canon (Val := Elt Ideal) (e := .f32) (kernelRun0_A.sl.HS2_53 c arg2 harg2 arg3 harg3 arg5 harg5 arg9 arg11 x0 x1 x3) (ix3 q d l)
      = ∑ kj : Fin 8, if kj ≤ q then denAdd lds kj q d l else (0 : EReal) := by
  rw [tileDen7, tileDen6, tileDen5, tileDen4, tileDen3, tileDen2, tileDen1, tileDen0, den_start, zero_add, Fin.sum_univ_eight]

end Cert.Attn
-- ==== Proof.Ends.lean ====
/- The kernel body's first writes (the widened queries) and its last (the output rows). -/
module

public import proofs.«01_k».proof.Proof.Steps
public import proofs.«01_k».proof.Proof.Gen.KernelIdeal.Frame
public import Idealize.ShloMosaic.Lib.Pointwise

/-!
Before the key tiles the body writes each query tile twice into a scratch, once for either sub-head; after them it
writes, per query tile, the normalised difference of the two attentions.
-/

@[expose] public section

set_option maxRecDepth 16384
set_option maxHeartbeats 4000000

noncomputable section

namespace Cert.Attn

open Idealize.ShloMosaic Idealize.ShloMosaic.TcCoe
open Cert.KernelIdeal Cert.KernelIdeal.Gen

variable {F : FTy → Type} [FloatOps F]

variable (c : Dev nD) (i : grid0.Coords) (arg2 : Memref sig .tc .vmem S128x4096 .bf16) (harg2 : arg2.IsWhole) (arg3 : Memref sig .tc .vmem S1x4096x128 .bf16) (harg3 : arg3.IsWhole)
    (arg4 : Memref sig .tc .vmem S16x1x128x256 .bf16) (harg4 : arg4.IsWhole) (arg5 : Memref sig .tc .vmem S1x3x512x512 .f32) (harg5 : arg5.IsWhole)
    (arg6 : Memref sig .tc .vmem S2x128 .f32) (harg6 : arg6.IsWhole) (arg7 : Memref sig .tc .vmem S128x512 .f32) (harg7 : arg7.IsWhole)
    (arg8 : Memref sig .tc .vmem S1x4096x128 .bf16) (harg8 : arg8.IsWhole)
    (arg9 : Memref sig .tc .vmem S8x128x1024 .bf16) (harg9 : arg9.IsWhole) (arg10 : Memref sig .tc .vmem S8x128x1024 .f32) (harg10 : arg10.IsWhole)
    (arg11 : Memref sig .tc .vmem S8x8x1024 .f32) (harg11 : arg11.IsWhole)
    (x0 : Vec F S128x4096 .bf16) (x1 : Vec F S1x4096x128 .bf16) (x2 : Vec F S16x1x128x256 .bf16) (x3 : Vec F S1x3x512x512 .f32)
    (x4 : Vec F S2x128 .f32) (x5 : Vec F S128x512 .f32)

theorem inbCols (q : Fin 8) : ∀ a, (![0, 512 * (q : ℕ)] : Fin 2 → ℕ) a + S128x512.size a ≤ S128x4096.size a := by
  intro a
  fin_cases a
  · show 0 + 128 ≤ 128; omega
  · show 512 * (q : ℕ) + 512 ≤ 4096; omega

/-- The queries of tile `q`, and the two halves of their widened form. -/
def queries (q : Fin 8) : Vec F S128x512 .bf16 :=
  View.readAt (Elt F) arg2.view (Rect.unit (s := S128x4096) ![0, 512 * (q : ℕ)] S128x512.size (inbCols q)).toLoadRect (harg2.unread x0)

def loPiece (q : Fin 8) : View.Piece (Elt F) S8x128x1024 .bf16 :=
  ⟨Rect.unit ![(q : ℕ), 0, 0] S1x128x512.size (inbRow q 0 (by decide) (by decide)), k0_pay3 (queries arg2 harg2 x0 q)⟩

def hiPiece (q : Fin 8) : View.Piece (Elt F) S8x128x1024 .bf16 :=
  ⟨Rect.unit ![(q : ℕ), 0, 512] S1x128x512.size (inbRow q 512 (by decide) (by decide)), k0_pay4 (queries arg2 harg2 x0 q)⟩

/-- The scratch of the widened queries holds both halves of all eight tiles. -/
theorem widened_list : kernelRun0_A.sl.HS0_16 c arg2 harg2 x0 =
    [hiPiece arg2 harg2 x0 7, loPiece arg2 harg2 x0 7, hiPiece arg2 harg2 x0 6, loPiece arg2 harg2 x0 6,
     hiPiece arg2 harg2 x0 5, loPiece arg2 harg2 x0 5, hiPiece arg2 harg2 x0 4, loPiece arg2 harg2 x0 4,
     hiPiece arg2 harg2 x0 3, loPiece arg2 harg2 x0 3, hiPiece arg2 harg2 x0 2, loPiece arg2 harg2 x0 2,
     hiPiece arg2 harg2 x0 1, loPiece arg2 harg2 x0 1, hiPiece arg2 harg2 x0 0, loPiece arg2 harg2 x0 0] := rfl

/-- The output rows of query tile `q`, from what the accumulators hold in the end. -/
def outPiece (q : Fin 8) : View.Piece (Elt F) S1x4096x128 .bf16 :=
  ⟨Rect.unit ![0, 512 * (q : ℕ), 0] S1x512x128.size (inbMid _ (by omega)),
    k0_pay293
      (arg10.view.readCov (kernelRun0_A.sl.HS1_53 c arg2 harg2 arg3 harg3 arg4 harg4 arg5 harg5 arg9 arg10 x0 x1 x2 x3) (rows q).toLoadRect)
      (arg11.view.readCov (kernelRun0_A.sl.HS2_53 c arg2 harg2 arg3 harg3 arg5 harg5 arg9 arg11 x0 x1 x3) (dens q).toLoadRect)
      (View.readAt (Elt F) arg6.view (Rect.unit (s := S2x128) ![0, 0] S1x1.size inb_S2x128_S1x1_0_0).toLoadRect (harg6.unread x4))
      (View.readAt (Elt F) arg7.view (Rect.unit (s := S128x512) ![0, 0] S128x512.size inb_S128x512_S128x512_0_0).toLoadRect (harg7.unread x5))⟩

/-- The run's output writes are these eight. -/
theorem out_list : (kernelRun0_A c i arg2 harg2 arg3 harg3 arg4 harg4 arg5 harg5 arg6 harg6 arg7 harg7 arg8 harg8 arg9 harg9 arg10 harg10 arg11 harg11 x0 x1 x2 x3 x4 x5).1 =
    [7, 6, 5, 4, 3, 2, 1, 0].map (outPiece c arg2 harg2 arg3 harg3 arg4 harg4 arg5 harg5 arg6 harg6 arg7 harg7 arg9 arg10 arg11 x0 x1 x2 x3 x4 x5) := by
  unfold kernelRun0_A
  dsimp only
  rfl

end Cert.Attn
-- ==== Proof.Loads.lean ====
/- What the kernel body's loads read. -/
module

public import proofs.«01_k».proof.Proof.Add
public import proofs.«01_k».proof.Proof.Ends

/-!
The loads of a run whose staging buffers hold `x0` … `x5`, element by element; in particular the widened queries, whose
two halves of lanes hold the query tile with the rows of the other sub-head zeroed.
-/

@[expose] public section

set_option maxRecDepth 16384
set_option maxHeartbeats 1000000

noncomputable section

namespace Cert.Attn

open Idealize.ShloMosaic
open Cert.KernelIdeal Cert.KernelIdeal.Gen

variable (c : Dev nD) (arg2 : Memref sig .tc .vmem S128x4096 .bf16) (harg2 : arg2.IsWhole) (arg3 : Memref sig .tc .vmem S1x4096x128 .bf16) (harg3 : arg3.IsWhole)
    (arg4 : Memref sig .tc .vmem S16x1x128x256 .bf16) (harg4 : arg4.IsWhole) (arg5 : Memref sig .tc .vmem S1x3x512x512 .f32) (harg5 : arg5.IsWhole)
    (arg9 : Memref sig .tc .vmem S8x128x1024 .bf16)
    (x0 : Vec Ideal S128x4096 .bf16) (x1 : Vec Ideal S1x4096x128 .bf16) (x2 : Vec Ideal S16x1x128x256 .bf16) (x3 : Vec Ideal S1x3x512x512 .f32)

local notation "T" => loads c arg2 harg2 arg3 harg3 arg4 harg4 arg5 harg5 arg9 x0 x1 x2 x3

theorem load_kFirst (q : Fin 8) (x : Fin 256) (r : Fin 128) :
    (T).kFirst q (ix3 (0 : Fin 1) x r) = x1 (ix3 (0 : Fin 1) (⟨512 * (q : ℕ) + x, by omega⟩ : Fin 4096) r) := by
  unfold loads
  dsimp only
  rw [View.readAt_eq_ld, harg3.read_unread]
  refine congrArg x1 ?_
  funext a; apply Fin.ext
  fin_cases a
  · rfl
  · show 512 * (q : ℕ) + 1 * (x : ℕ) = 512 * q + x; omega
  · show 0 + 1 * (r : ℕ) = r; omega

theorem load_kSecond (q : Fin 8) (x : Fin 256) (r : Fin 128) :
    (T).kSecond q (ix3 (0 : Fin 1) x r) = x1 (ix3 (0 : Fin 1) (⟨512 * (q : ℕ) + 256 + x, by omega⟩ : Fin 4096) r) := by
  unfold loads
  dsimp only
  rw [View.readAt_eq_ld, harg3.read_unread]
  refine congrArg x1 ?_
  funext a; apply Fin.ext
  fin_cases a
  · rfl
  · show 512 * (q : ℕ) + 256 + 1 * (x : ℕ) = 512 * q + 256 + x; omega
  · show 0 + 1 * (r : ℕ) = r; omega

theorem load_kWhole (q : Fin 8) (x : Fin 512) (r : Fin 128) :
    (T).kWhole q (ix3 (0 : Fin 1) x r) = x1 (ix3 (0 : Fin 1) (⟨512 * (q : ℕ) + x, by omega⟩ : Fin 4096) r) := by
  unfold loads
  dsimp only
  rw [View.readAt_eq_ld, harg3.read_unread]
  refine congrArg x1 ?_
  funext a; apply Fin.ext
  fin_cases a
  · rfl
  · show 512 * (q : ℕ) + 1 * (x : ℕ) = 512 * q + x; omega
  · show 0 + 1 * (r : ℕ) = r; omega

theorem load_vFirst (q : Fin 8) (d : Fin 128) (x : Fin 256) :
    (T).vFirst q (ix4 (0 : Fin 1) (0 : Fin 1) d x) = x2 (ix4 (⟨2 * (q : ℕ), by omega⟩ : Fin 16) (0 : Fin 1) d x) := by
  unfold loads
  dsimp only
  rw [View.readAt_eq_ld, harg4.read_unread]
  refine congrArg x2 ?_
  funext a; apply Fin.ext
  fin_cases a
  · show 2 * (q : ℕ) + 1 * 0 = 2 * q; omega
  · rfl
  · show 0 + 1 * (d : ℕ) = d; omega
  · show 0 + 1 * (x : ℕ) = x; omega

theorem load_vSecond (q : Fin 8) (d : Fin 128) (x : Fin 256) :
    (T).vSecond q (ix4 (0 : Fin 1) (0 : Fin 1) d x) = x2 (ix4 (⟨2 * (q : ℕ) + 1, by omega⟩ : Fin 16) (0 : Fin 1) d x) := by
  unfold loads
  dsimp only
  rw [View.readAt_eq_ld, harg4.read_unread]
  refine congrArg x2 ?_
  funext a; apply Fin.ext
  fin_cases a
  · show 2 * (q : ℕ) + 1 + 1 * 0 = 2 * q + 1; omega
  · rfl
  · show 0 + 1 * (d : ℕ) = d; omega
  · show 0 + 1 * (x : ℕ) = x; omega

theorem load_own (x y : Fin 512) :
    (T).own (ix4 (0 : Fin 1) (0 : Fin 1) x y) = x3 (ix4 (0 : Fin 1) (2 : Fin 3) x y) := by
  unfold loads
  dsimp only
  rw [View.readAt_eq_ld, harg5.read_unread]
  refine congrArg x3 ?_
  funext a; apply Fin.ext
  fin_cases a
  · rfl
  · rfl
  · show 0 + 1 * (x : ℕ) = x; omega
  · show 0 + 1 * (y : ℕ) = y; omega

theorem load_corner (x y : Fin 128) :
    (T).corner (ix4 (0 : Fin 1) (0 : Fin 1) x y) = x3 (ix4 (0 : Fin 1) (1 : Fin 3) (⟨384 + (x : ℕ), by omega⟩ : Fin 512) (⟨(y : ℕ), by omega⟩ : Fin 512)) := by
  unfold loads
  dsimp only
  rw [View.readAt_eq_ld, harg5.read_unread]
  refine congrArg x3 ?_
  funext a; apply Fin.ext
  fin_cases a
  · rfl
  · rfl
  · show 384 + 1 * (x : ℕ) = 384 + x; omega
  · show 0 + 1 * (y : ℕ) = y; omega

/-! ## The widened queries -/

theorem queries_apply (q : Fin 8) (r : Fin 128) (y : Fin 512) :
    queries arg2 harg2 x0 q (ix2 r y) = x0 (ix2 r (⟨512 * (q : ℕ) + y, by omega⟩ : Fin 4096)) := by
  unfold queries
  rw [View.readAt_eq_ld, harg2.read_unread]
  refine congrArg x0 ?_
  funext a; apply Fin.ext
  fin_cases a
  · show 0 + 1 * (r : ℕ) = r; omega
  · show 512 * (q : ℕ) + 1 * (y : ℕ) = 512 * q + y; omega

/-- A row of the widened queries: column `l % 512` of the query tile, kept on the rows of sub-head `l / 512`. -/
def wide (q : Fin 8) (r : Fin 128) (l : Fin 1024) : EReal :=
  if (r : ℕ) / 64 = (l : ℕ) / 512 then x0 (ix2 r (⟨512 * (q : ℕ) + (l : ℕ) % 512, by omega⟩ : Fin 4096)) else 0

theorem canon_lo (L : List (View.Piece (Elt Ideal) S8x128x1024 .bf16)) (q q' : Fin 8) (r : Fin 128) (l : Fin 1024) :
    View.canon (Val := Elt Ideal) (e := .bf16) (loPiece arg2 harg2 x0 q :: L) (ix3 q' r l)
      = if q' = q ∧ (l : ℕ) < 512 then wide x0 q' r l else View.canon (Val := Elt Ideal) (e := .bf16) L (ix3 q' r l) := by
  refine (canon_part (F := Ideal) (e := .bf16) (n0 := 8) (n1 := 128) (n2 := 1024) (m2 := 512) L q 0 (by decide) (k0_pay3 (queries arg2 harg2 x0 q)) q' r l).trans ?_
  by_cases h : q' = q ∧ (l : ℕ) < 512
  · obtain ⟨rfl, h⟩ := h
    have h0 : q' = q' ∧ 0 ≤ (l : ℕ) ∧ (l : ℕ) < 0 + 512 := ⟨rfl, by omega, by omega⟩
    rw [dif_pos h0, if_pos ⟨rfl, h⟩]
    refine (widened_lo _ _ _).trans ?_
    rw [queries_apply]
    unfold wide
    have e1 : (l : ℕ) / 512 = 0 := by omega
    have e2 : (l : ℕ) % 512 = l := by omega
    have e3 : (r : ℕ) < 64 ↔ (r : ℕ) / 64 = 0 := by omega
    simp only [e1, e2, e3, Nat.sub_zero]
  · rw [if_neg h, dif_neg (fun t => h ⟨t.1, by have := t.2.2; omega⟩)]

theorem canon_hi (L : List (View.Piece (Elt Ideal) S8x128x1024 .bf16)) (q q' : Fin 8) (r : Fin 128) (l : Fin 1024) :
    View.canon (Val := Elt Ideal) (e := .bf16) (hiPiece arg2 harg2 x0 q :: L) (ix3 q' r l)
      = if q' = q ∧ ¬ (l : ℕ) < 512 then wide x0 q' r l else View.canon (Val := Elt Ideal) (e := .bf16) L (ix3 q' r l) := by
  refine (canon_part (F := Ideal) (e := .bf16) (n0 := 8) (n1 := 128) (n2 := 1024) (m2 := 512) L q 512 (by decide) (k0_pay4 (queries arg2 harg2 x0 q)) q' r l).trans ?_
  by_cases h : q' = q ∧ ¬ (l : ℕ) < 512
  · obtain ⟨rfl, h⟩ := h
    have h0 : q' = q' ∧ 512 ≤ (l : ℕ) ∧ (l : ℕ) < 512 + 512 := ⟨rfl, by omega, by omega⟩
    rw [dif_pos h0, if_pos ⟨rfl, h⟩]
    refine (widened_hi _ _ _).trans ?_
    rw [queries_apply]
    unfold wide
    have e1 : (l : ℕ) / 512 = 1 := by omega
    have e2 : (l : ℕ) % 512 = (l : ℕ) - 512 := by omega
    have e3 : (r : ℕ) / 64 = 1 ↔ ¬ (r : ℕ) < 64 := by omega
    simp only [e1, e2, e3, ite_not]
  · rw [if_neg h, dif_neg (fun t => h ⟨t.1, by have := t.2.1; omega⟩)]

theorem canon_widened (q : Fin 8) (r : Fin 128) (l : Fin 1024) :
    View.canon (Val := Elt Ideal) (e := .bf16) (kernelRun0_A.sl.HS0_16 c arg2 harg2 x0) (ix3 q r l) = wide x0 q r l := by
  rw [widened_list]
  simp only [canon_lo, canon_hi]
  generalize wide x0 q r l = W
  by_cases h : (l : ℕ) < 512
  · fin_cases q <;> simp [h]
  · fin_cases q <;> simp [h]

theorem load_qw (q : Fin 8) (r : Fin 128) (l : Fin 1024) : (T).qw q (ix3 (0 : Fin 1) r l) = wide x0 q r l := by
  refine (read_row (F := Ideal) (e := .bf16) (n0 := 8) (n1 := 128) (n2 := 1024) arg9.view _ q (by omega) r l).trans ?_
  exact canon_widened c arg2 harg2 x0 q r l

theorem load_qwA (q : Fin 8) (r : Fin 128) (y : Fin 256) : (T).qwA q (ix3 (0 : Fin 1) r y) = wide x0 q r ⟨256 + y, by omega⟩ := by
  refine (read_part (F := Ideal) (e := .bf16) (n0 := 8) (n1 := 128) (n2 := 1024) (m2 := 256) arg9.view _ q 256 (by omega) r y).trans ?_
  exact canon_widened c arg2 harg2 x0 q r _

theorem load_qwB (q : Fin 8) (r : Fin 128) (y : Fin 256) : (T).qwB q (ix3 (0 : Fin 1) r y) = wide x0 q r ⟨768 + y, by omega⟩ := by
  refine (read_part (F := Ideal) (e := .bf16) (n0 := 8) (n1 := 128) (n2 := 1024) (m2 := 256) arg9.view _ q 768 (by omega) r y).trans ?_
  exact canon_widened c arg2 harg2 x0 q r _

end Cert.Attn
-- ==== Proof.Spec.lean ====
/- What the attention of one head computes. -/
module

public import Idealize.ShloMosaic.Lib.Pointwise

/-!
One head of one batch entry: 4096 positions, two sub-heads of depth 64, values of depth 128. `Head.out` is the layer's
differential attention with its weights written as powers of two; the kernel and the reference are both shown to be it.
-/

@[expose] public section

noncomputable section

namespace Cert.Attn

open Idealize.ShloMosaic

/-- The inputs of one head: queries and keys by sub-head, depth and position, values by position and depth, the bias of
    a query tile's own keys and of the tile before (by key and query within their tiles), the weight of the second
    softmax and the gain. -/
structure Head where
  Q : Fin 2 → Fin 64 → Fin 4096 → EReal
  K : Fin 2 → Fin 64 → Fin 4096 → EReal
  V : Fin 4096 → Fin 128 → EReal
  own : Fin 512 → Fin 512 → EReal
  before : Fin 512 → Fin 512 → EReal
  lam : EReal
  gain : Fin 128 → EReal

namespace Head

variable (H : Head)

/-- The score of key `k` for query `q` in sub-head `s`. -/
def score (s : Fin 2) (q k : Fin 4096) : EReal := ∑ r : Fin 64, H.Q s r q * H.K s r k

/-- The relative bias: by tiles of 512 positions. -/
def rel (q k : Fin 4096) : EReal :=
  if (k : ℕ) / 512 = (q : ℕ) / 512 then H.own ⟨(k : ℕ) % 512, Nat.mod_lt _ (by decide)⟩ ⟨(q : ℕ) % 512, Nat.mod_lt _ (by decide)⟩
  else if (k : ℕ) / 512 + 1 = (q : ℕ) / 512 then H.before ⟨(k : ℕ) % 512, Nat.mod_lt _ (by decide)⟩ ⟨(q : ℕ) % 512, Nat.mod_lt _ (by decide)⟩
  else 0

/-- The weight of key `k` for query `q`: two to its logit, nothing where the key's chunk of 64 comes after the query's. -/
def wt (s : Fin 2) (q k : Fin 4096) : EReal :=
  if (k : ℕ) / 64 ≤ (q : ℕ) / 64 then Ideal.exp2 (H.score s q k + H.rel q k) else 0

/-- The weighted values and the sum of the weights. -/
def num (s : Fin 2) (q : Fin 4096) (d : Fin 128) : EReal := ∑ k : Fin 4096, H.V k d * H.wt s q k
def den (s : Fin 2) (q : Fin 4096) : EReal := ∑ k : Fin 4096, H.wt s q k

/-- The difference of the two attentions. -/
def diff (q : Fin 4096) (d : Fin 128) : EReal :=
  Ideal.div (H.num 0 q d) (H.den 0 q) - H.lam * Ideal.div (H.num 1 q d) (H.den 1 q)

/-- Its normalisation over the depth, times the gain. -/
def out (q : Fin 4096) (d : Fin 128) : EReal :=
  H.diff q d * Ideal.rsqrt (Ideal.div (∑ e : Fin 128, H.diff q e * H.diff q e) (Ideal.ofBits .f32 0x43000000#32)
    + Ideal.ofBits .f32 0x358637BD#32) * H.gain d

/-- An extended real that is a real number. -/
def Real' (x : EReal) : Prop := x ≠ ⊤ ∧ x ≠ ⊥

/-- The inputs the layer prepares: real numbers, but for the bias of the own keys, which is `⊥` on the keys a query does
    not see; the bias of the tile before reaches its last 128 keys by the first 128 queries. -/
structure Ok : Prop where
  Q : ∀ s r q, Real' (H.Q s r q)
  K : ∀ s r q, Real' (H.K s r q)
  V : ∀ k d, Real' (H.V k d)
  lam : Real' H.lam
  own_seen : ∀ x y : Fin 512, (x : ℕ) / 64 ≤ (y : ℕ) / 64 → Real' (H.own x y)
  own_unseen : ∀ x y : Fin 512, ¬ (x : ℕ) / 64 ≤ (y : ℕ) / 64 → H.own x y = ⊥
  before_corner : ∀ x y : Fin 512, 384 ≤ (x : ℕ) ∧ (y : ℕ) < 128 → Real' (H.before x y)
  before_else : ∀ x y : Fin 512, ¬ (384 ≤ (x : ℕ) ∧ (y : ℕ) < 128) → H.before x y = 0

end Head

/-! ## Sums by tiles -/

/-- A sum over `m * n` positions by `m` tiles of `n`. -/
theorem sum_tiles {M : Type*} [AddCommMonoid M] (m n N : ℕ) (h : N = m * n) (f : Fin N → M) :
    ∑ i, f i = ∑ a : Fin m, ∑ b : Fin n, f ⟨(a : ℕ) * n + b, by
      have := a.isLt; have := b.isLt; subst h; calc (a : ℕ) * n + b < a * n + n := by omega
        _ = (a + 1) * n := by ring
        _ ≤ m * n := Nat.mul_le_mul_right _ (by omega)⟩ := by
  subst h
  rw [← Fintype.sum_prod_type' (f := fun (a : Fin m) (b : Fin n) => f ⟨(a : ℕ) * n + b, _⟩)]
  refine (Fintype.sum_equiv finProdFinEquiv _ _ fun x => ?_).symm
  congr 1
  apply Fin.ext
  simp only [finProdFinEquiv_apply_val]
  ring

end Cert.Attn
-- ==== Proof.Point.lean ====
/- The kernel body's accumulators hold the sums of the specification. -/
module

public import proofs.«01_k».proof.Proof.Body
public import proofs.«01_k».proof.Proof.Loads
public import proofs.«01_k».proof.Proof.Spec

/-!
At a grid point the staging buffers hold one head of one batch entry (`headOf`). Each exponential the body takes is the
specification's weight, so its accumulators hold the weighted values and the sums of the weights.
-/

@[expose] public section

set_option maxRecDepth 16384
set_option maxHeartbeats 1000000

noncomputable section

namespace Cert.Attn

open Idealize.ShloMosaic
open Cert.KernelIdeal Cert.KernelIdeal.Gen

/-- The head the six blocks of a grid point hold. -/
def headOf (x0 : S128x4096.Idx → EReal) (x1 : S1x4096x128.Idx → EReal) (x2 : S16x1x128x256.Idx → EReal) (x3 : S1x3x512x512.Idx → EReal)
    (x4 : S2x128.Idx → EReal) (x5 : S128x512.Idx → EReal) : Head where
  Q s r q := x0 (ix2 (⟨(s : ℕ) * 64 + r, by omega⟩ : Fin 128) q)
  K s r k := x1 (ix3 (0 : Fin 1) k (⟨(s : ℕ) * 64 + r, by omega⟩ : Fin 128))
  V k d := x2 (ix4 (⟨(k : ℕ) / 256, by omega⟩ : Fin 16) (0 : Fin 1) d (⟨(k : ℕ) % 256, by omega⟩ : Fin 256))
  own x y := x3 (ix4 (0 : Fin 1) (2 : Fin 3) x y)
  before x y := x3 (ix4 (0 : Fin 1) (1 : Fin 3) x y)
  lam := x4 (ix2 (0 : Fin 2) (0 : Fin 128))
  gain d := x5 (ix2 d (0 : Fin 512))

/-- A sum over 128 rows of which only one half counts. -/
theorem sum_half (s : Fin 2) (f g : Fin 128 → EReal) :
    ∑ r : Fin 128, f r * (if (r : ℕ) / 64 = (s : ℕ) then g r else 0)
      = ∑ r : Fin 64, g ⟨(s : ℕ) * 64 + r, by omega⟩ * f ⟨(s : ℕ) * 64 + r, by omega⟩ := by
  rw [sum_tiles 2 64 128 rfl]
  have key : ∀ a : Fin 2, ∀ b : Fin 64, ((a : ℕ) * 64 + b) / 64 = a := fun a b => by omega
  simp only [key]
  rw [Fin.sum_univ_two]
  fin_cases s <;> simp [mul_comm]

variable (c : Dev nD) (arg2 : Memref sig .tc .vmem S128x4096 .bf16) (harg2 : arg2.IsWhole) (arg3 : Memref sig .tc .vmem S1x4096x128 .bf16) (harg3 : arg3.IsWhole)
    (arg4 : Memref sig .tc .vmem S16x1x128x256 .bf16) (harg4 : arg4.IsWhole) (arg5 : Memref sig .tc .vmem S1x3x512x512 .f32) (harg5 : arg5.IsWhole)
    (arg9 : Memref sig .tc .vmem S8x128x1024 .bf16) (arg10 : Memref sig .tc .vmem S8x128x1024 .f32) (arg11 : Memref sig .tc .vmem S8x8x1024 .f32)
    (x0 : Vec Ideal S128x4096 .bf16) (x1 : Vec Ideal S1x4096x128 .bf16) (x2 : Vec Ideal S16x1x128x256 .bf16) (x3 : Vec Ideal S1x3x512x512 .f32)
    (x4 : Vec Ideal S2x128 .f32) (x5 : Vec Ideal S128x512 .f32)

local notation "T" => loads c arg2 harg2 arg3 harg3 arg4 harg4 arg5 harg5 arg9 x0 x1 x2 x3
local notation "H" => headOf x0 x1 x2 x3 x4 x5

/-- The sub-head and the query of a lane. -/
def laneHead (l : Fin 1024) : Fin 2 := ⟨(l : ℕ) / 512, by omega⟩
def laneQuery (q : Fin 8) (l : Fin 1024) : Fin 4096 := ⟨512 * (q : ℕ) + (l : ℕ) % 512, by omega⟩

/-- A product of the widened queries with a key is the sub-head's score. -/
theorem score_wide (q : Fin 8) (k : Fin 4096) (l : Fin 1024) :
    ∑ r : Fin 128, x1 (ix3 (0 : Fin 1) k r) * wide x0 q r l = (H).score (laneHead l) (laneQuery q l) k := by
  unfold wide
  exact sum_half (laneHead l) (fun r => x1 (ix3 (0 : Fin 1) k r)) (fun r => x0 (ix2 r (laneQuery q l)))

theorem exp2_bot : Ideal.exp2 ⊥ = 0 := rfl

section Exps

variable (hH : (headOf x0 x1 x2 x3 x4 x5).Ok)
include hH

/-- The weight of a key of the query's own tile. -/
theorem wt_own (q : Fin 8) (x : Fin 512) (l : Fin 1024) :
    Ideal.exp2 ((H).score (laneHead l) (laneQuery q l) ⟨512 * (q : ℕ) + x, by omega⟩
      + x3 (ix4 (0 : Fin 1) (2 : Fin 3) x (⟨(l : ℕ) % 512, by omega⟩ : Fin 512)))
      = (H).wt (laneHead l) (laneQuery q l) ⟨512 * (q : ℕ) + x, by omega⟩ := by
  unfold Head.wt
  split
  · rename_i h
    have e1 : (512 * (q : ℕ) + x) / 512 = (512 * (q : ℕ) + (l : ℕ) % 512) / 512 := by omega
    have e2 : (512 * (q : ℕ) + x) % 512 = x := by omega
    have e3 : (512 * (q : ℕ) + (l : ℕ) % 512) % 512 = (l : ℕ) % 512 := by omega
    unfold Head.rel
    simp only [laneQuery, e1, e2, e3, if_true]
    rfl
  · rename_i h
    have := hH.own_unseen x ⟨(l : ℕ) % 512, by omega⟩ (by simp only [laneQuery] at h ⊢; omega)
    have e : x3 (ix4 (0 : Fin 1) (2 : Fin 3) x (⟨(l : ℕ) % 512, by omega⟩ : Fin 512)) = ⊥ := this
    rw [e, EReal.add_bot]; rfl

theorem ownExp_eq (q : Fin 8) (x : Fin 256) (l : Fin 1024) :
    ownExp (T).own ((T).kFirst q) ((T).qw q) x l = (H).wt (laneHead l) (laneQuery q l) ⟨512 * (q : ℕ) + x, by omega⟩ := by
  unfold ownExp score
  simp only [load_own, load_kFirst, load_qw]
  rw [score_wide x0 x1 x2 x3 x4 x5]
  exact wt_own x0 x1 x2 x3 x4 x5 hH q ⟨x, by omega⟩ l

theorem secondExp_eq (q : Fin 8) (x : Fin 256) (l : Fin 1024) :
    secondExp T q x l = (H).wt (laneHead l) (laneQuery q l) ⟨512 * (q : ℕ) + 256 + x, by omega⟩ := by
  have key := wt_own x0 x1 x2 x3 x4 x5 hH q ⟨256 + x, by omega⟩ l
  have e0 : 512 * (q : ℕ) + 256 + x = 512 * q + (256 + x) := by omega
  unfold secondExp
  split
  · rename_i h
    unfold lateExp score
    have e1 : 256 + ((l : ℕ) - 256) = l := by omega
    have e2 : (l : ℕ) % 512 = l := by omega
    simp only [load_own, load_kSecond, load_qwA, e1, Fin.eta]
    rw [score_wide x0 x1 x2 x3 x4 x5]
    simp only [e0] at key ⊢
    rw [← key]
    simp only [e2]
  · split
    · rename_i h
      unfold lateExp score
      have e1 : 768 + ((l : ℕ) - 768) = l := by omega
      have e2 : (l : ℕ) % 512 = 256 + ((l : ℕ) - 768) := by omega
      simp only [load_own, load_kSecond, load_qwB, e1, Fin.eta]
      rw [score_wide x0 x1 x2 x3 x4 x5]
      simp only [e0] at key ⊢
      rw [← key]
      simp only [e2]
    · rename_i h1 h2
      unfold Head.wt
      rw [if_neg]
      simp only [laneQuery]
      omega

/-- Every exponential of a tile is the weight of its key for its query. -/
theorem tileExp_eq (kj q : Fin 8) (h : kj ≤ q) (l : Fin 1024) (x : Fin 512) :
    tileExp T kj q l x = (H).wt (laneHead l) (laneQuery q l) ⟨512 * (kj : ℕ) + x, by omega⟩ := by
  have h' : (kj : ℕ) ≤ q := h
  unfold tileExp
  split
  · rename_i hq
    subst hq
    split
    · exact ownExp_eq c arg2 harg2 arg3 harg3 arg4 harg4 arg5 harg5 arg9 x0 x1 x2 x3 x4 x5 hH q _ l
    · rename_i hx
      refine (secondExp_eq c arg2 harg2 arg3 harg3 arg4 harg4 arg5 harg5 arg9 x0 x1 x2 x3 x4 x5 hH q _ l).trans ?_
      congr 1
      apply Fin.ext
      show 512 * (q : ℕ) + 256 + ((x : ℕ) - 256) = 512 * q + x
      omega
  · rename_i hq
    have hq' : (kj : ℕ) ≠ q := fun t => hq (Fin.ext t.symm)
    have hs : (512 * (kj : ℕ) + x) / 64 ≤ (512 * (q : ℕ) + (l : ℕ) % 512) / 64 := by omega
    have e1 : ¬ (512 * (kj : ℕ) + x) / 512 = (512 * (q : ℕ) + (l : ℕ) % 512) / 512 := by omega
    have e3 : (512 * (q : ℕ) + (l : ℕ) % 512) % 512 = (l : ℕ) % 512 := by omega
    have e2 : (512 * (kj : ℕ) + x) % 512 = x := by omega
    unfold score Head.wt
    simp only [load_kWhole, load_qw]
    rw [score_wide x0 x1 x2 x3 x4 x5]
    split
    · rename_i h1
      have e4 : (512 * (kj : ℕ) + x) / 512 + 1 = (512 * (q : ℕ) + (l : ℕ) % 512) / 512 := by omega
      unfold Head.rel
      simp only [laneQuery, hs, e1, e2, e3, e4, if_true, if_false, Fin.eta]
      congr 2
      unfold cornerBias
      by_cases hc : 384 ≤ (x : ℕ) ∧ (l : ℕ) % 512 < 128
      · have hc' : 384 ≤ (x : ℕ) ∧ (x : ℕ) < 512 ∧ (l : ℕ) % 512 < 128 := ⟨hc.1, x.isLt, hc.2⟩
        rw [dif_pos hc', load_corner]
        have e5 : 384 + ((x : ℕ) - 384) = x := by omega
        simp only [e5, Fin.eta]
        rfl
      · rw [dif_neg (fun t => hc ⟨t.1, t.2.2⟩)]
        exact (hH.before_else x ⟨(l : ℕ) % 512, by omega⟩ hc).symm
    · rename_i h1
      have e4 : ¬ (512 * (kj : ℕ) + x) / 512 + 1 = (512 * (q : ℕ) + (l : ℕ) % 512) / 512 := by omega
      unfold Head.rel
      simp only [laneQuery, hs, e1, e4, if_true, if_false, add_zero]

/-! ## The sums -/

/-- A key of a later tile has no weight. -/
theorem wt_later (kj q : Fin 8) (h : ¬ kj ≤ q) (l : Fin 1024) (x : Fin 512) :
    (H).wt (laneHead l) (laneQuery q l) ⟨(kj : ℕ) * 512 + x, by omega⟩ = 0 := by
  have h' : ¬ (kj : ℕ) ≤ q := h
  unfold Head.wt
  rw [if_neg]
  simp only [laneQuery]
  omega

/-- The value accumulator holds the weighted values. -/
theorem acc_eq (q : Fin 8) (d : Fin 128) (l : Fin 1024) :
    View.canon (Val := Elt Ideal) (e := .f32) (kernelRun0_A.sl.HS1_53 c arg2 harg2 arg3 harg3 arg4 harg4 arg5 harg5 arg9 arg10 x0 x1 x2 x3) (ix3 q d l)
      = (H).num (laneHead l) (laneQuery q l) d := by
  rw [totalAcc]
  unfold Head.num
  rw [sum_tiles 8 512 4096 rfl]
  refine Finset.sum_congr rfl fun kj _ => ?_
  split
  · rename_i h
    unfold accAdd share
    simp only [tileExp_eq c arg2 harg2 arg3 harg3 arg4 harg4 arg5 harg5 arg9 x0 x1 x2 x3 x4 x5 hH kj q h l, load_vFirst, load_vSecond]
    symm
    refine (Fin.sum_univ_add (a := 256) (b := 256) _).trans ?_
    congr 1
    · refine Finset.sum_congr rfl fun x _ => ?_
      have e1 : (kj : ℕ) * 512 + (x : ℕ) = 512 * kj + x := by omega
      have e2 : (512 * (kj : ℕ) + x) / 256 = 2 * kj := by omega
      have e3 : (512 * (kj : ℕ) + x) % 256 = x := by omega
      simp only [Fin.val_castAdd, e1, headOf, e2, e3]
    · refine Finset.sum_congr rfl fun x _ => ?_
      have e1 : (kj : ℕ) * 512 + (256 + (x : ℕ)) = 512 * kj + (256 + x) := by omega
      have e2 : (512 * (kj : ℕ) + (256 + x)) / 256 = 2 * kj + 1 := by omega
      have e3 : (512 * (kj : ℕ) + (256 + x)) % 256 = x := by omega
      simp only [Fin.val_natAdd, e1, headOf, e2, e3]
  · rename_i h
    symm
    refine Finset.sum_eq_zero fun x _ => ?_
    rw [wt_later x0 x1 x2 x3 x4 x5 hH kj q h l x, mul_zero]

include arg4 harg4 in
/-- The denominators' eight sublanes add up to the sum of the weights. -/
theorem den_eq (q : Fin 8) (l : Fin 1024) :
    ∑ u : Fin 8, View.canon (Val := Elt Ideal) (e := .f32) (kernelRun0_A.sl.HS2_53 c arg2 harg2 arg3 harg3 arg5 harg5 arg9 arg11 x0 x1 x3) (ix3 q u l)
      = (H).den (laneHead l) (laneQuery q l) := by
  simp only [totalDen c arg2 harg2 arg3 harg3 arg4 harg4 arg5 harg5 arg9 arg11 x0 x1 x2 x3]
  rw [Finset.sum_comm]
  unfold Head.den
  rw [sum_tiles 8 512 4096 rfl]
  refine Finset.sum_congr rfl fun kj _ => ?_
  by_cases h : kj ≤ q
  · simp only [if_pos h]
    unfold denAdd denShare
    rw [Finset.sum_comm, sum_tiles 64 8 512 rfl]
    simp only [tileExp_eq c arg2 harg2 arg3 harg3 arg4 harg4 arg5 harg5 arg9 x0 x1 x2 x3 x4 x5 hH kj q h l]
    refine Finset.sum_congr rfl fun i _ => Finset.sum_congr rfl fun u _ => ?_
    have e1 : (kj : ℕ) * 512 + ((i : ℕ) * 8 + u) = 512 * kj + (i * 8 + u) := by omega
    simp only [e1]
  · simp only [if_neg h, Finset.sum_const_zero]
    symm
    exact Finset.sum_eq_zero fun x _ => wt_later x0 x1 x2 x3 x4 x5 hH kj q h l x

end Exps

end Cert.Attn
-- ==== Proof.Out.lean ====
/- What the kernel body writes. -/
module

public import proofs.«01_k».proof.Proof.Point

/-!
The output block of a grid point holds, at position `p` and depth `d`, the specification's `Head.out`.
-/

@[expose] public section

set_option maxRecDepth 16384
set_option maxHeartbeats 2000000

noncomputable section

namespace Cert.Attn

open Idealize.ShloMosaic
open Cert.KernelIdeal Cert.KernelIdeal.Gen

/-- The difference of the two attentions, from the accumulators of a query tile. -/
def rowDiff (a : S1x128x1024.Idx → EReal) (b : S1x8x1024.Idx → EReal) (m : S1x1.Idx → EReal) (d : Fin 128) (y : Fin 512) : EReal :=
  Ideal.div (a (ix3 (0 : Fin 1) d (⟨y, by omega⟩ : Fin 1024))) (∑ u : Fin 8, b (ix3 (0 : Fin 1) u (⟨y, by omega⟩ : Fin 1024)))
    - m (ix2 (0 : Fin 1) (0 : Fin 1))
      * Ideal.div (a (ix3 (0 : Fin 1) d (⟨512 + y, by omega⟩ : Fin 1024))) (∑ u : Fin 8, b (ix3 (0 : Fin 1) u (⟨512 + y, by omega⟩ : Fin 1024)))

theorem finish_apply (a : Vec Ideal S1x128x1024 .f32) (b : Vec Ideal S1x8x1024 .f32) (m : Vec Ideal S1x1 .f32) (g : Vec Ideal S128x512 .f32) (y : Fin 512) (d : Fin 128) :
    k0_pay293 (F := Ideal) a b m g (ix3 (0 : Fin 1) y d)
      = rowDiff a b m d y * Ideal.rsqrt (Ideal.div (∑ e : Fin 128, rowDiff a b m e y * rowDiff a b m e y) (Ideal.ofBits .f32 0x43000000#32)
          + Ideal.ofBits .f32 0x358637BD#32) * g (ix2 d y) := by
  pointwise [k0_pay293, rowDiff]

/-! ## The output block -/

/-- The rows of query tile `q` in an output block. -/
abbrev outRect (q : Fin 8) : Rect S1x4096x128 := Rect.unit ![0, 512 * (q : ℕ), 0] S1x512x128.size (inbMid _ (by omega))

theorem outRect_emb (q : Fin 8) (y : Fin 512) (d : Fin 128) :
    (outRect q).emb (ix3 (0 : Fin 1) y d) = ix3 (0 : Fin 1) (⟨512 * (q : ℕ) + y, by omega⟩ : Fin 4096) d := by
  funext a
  apply Fin.ext
  fin_cases a
  · rfl
  · show 512 * (q : ℕ) + 1 * (y : ℕ) = 512 * q + y; omega
  · show 0 + 1 * (d : ℕ) = d; omega

/-- Row tiles written one after the other: a position reads its own tile's. -/
theorem canon_tiles (P : Fin 8 → S1x512x128.Idx → EReal) (qs : List (Fin 8)) (p : Fin 4096) (d : Fin 128)
    (h : (⟨(p : ℕ) / 512, by omega⟩ : Fin 8) ∈ qs) :
    View.canon (Val := Elt Ideal) (e := .bf16) (qs.map fun q => (⟨outRect q, P q⟩ : View.Piece (Elt Ideal) S1x4096x128 .bf16)) (ix3 (0 : Fin 1) p d)
      = P ⟨(p : ℕ) / 512, by omega⟩ (ix3 (0 : Fin 1) (⟨(p : ℕ) % 512, by omega⟩ : Fin 512) d) := by
  induction qs with
  | nil => simp at h
  | cons q qs ih =>
    rw [List.map_cons]
    by_cases hq : (⟨(p : ℕ) / 512, by omega⟩ : Fin 8) = q
    · subst hq
      have := View.canon_cons_emb (Val := Elt Ideal) (e := .bf16) (outRect ⟨(p : ℕ) / 512, by omega⟩) (P ⟨(p : ℕ) / 512, by omega⟩)
        (qs.map fun q => (⟨outRect q, P q⟩ : View.Piece (Elt Ideal) S1x4096x128 .bf16)) (ix3 (0 : Fin 1) (⟨(p : ℕ) % 512, by omega⟩ : Fin 512) d)
      rw [outRect_emb] at this
      have e1 : 512 * ((p : ℕ) / 512) + (p : ℕ) % 512 = p := Nat.div_add_mod _ _
      simpa only [e1] using this
    · refine (View.canon_cons_of_not_mem _ _ fun hm => hq ?_).trans (ih ((List.mem_cons.mp h).resolve_left hq))
      rw [Rect.mem_set_unit] at hm
      have h1 : 512 * (q : ℕ) ≤ (p : ℕ) ∧ (p : ℕ) < 512 * q + 512 := hm 1
      exact Fin.ext (by show (p : ℕ) / 512 = q; omega)

variable (c : Dev nD) (i : grid0.Coords) (arg2 : Memref sig .tc .vmem S128x4096 .bf16) (harg2 : arg2.IsWhole) (arg3 : Memref sig .tc .vmem S1x4096x128 .bf16) (harg3 : arg3.IsWhole)
    (arg4 : Memref sig .tc .vmem S16x1x128x256 .bf16) (harg4 : arg4.IsWhole) (arg5 : Memref sig .tc .vmem S1x3x512x512 .f32) (harg5 : arg5.IsWhole)
    (arg6 : Memref sig .tc .vmem S2x128 .f32) (harg6 : arg6.IsWhole) (arg7 : Memref sig .tc .vmem S128x512 .f32) (harg7 : arg7.IsWhole)
    (arg8 : Memref sig .tc .vmem S1x4096x128 .bf16) (harg8 : arg8.IsWhole)
    (arg9 : Memref sig .tc .vmem S8x128x1024 .bf16) (harg9 : arg9.IsWhole) (arg10 : Memref sig .tc .vmem S8x128x1024 .f32) (harg10 : arg10.IsWhole)
    (arg11 : Memref sig .tc .vmem S8x8x1024 .f32) (harg11 : arg11.IsWhole)
    (x0 : Vec Ideal S128x4096 .bf16) (x1 : Vec Ideal S1x4096x128 .bf16) (x2 : Vec Ideal S16x1x128x256 .bf16) (x3 : Vec Ideal S1x3x512x512 .f32)
    (x4 : Vec Ideal S2x128 .f32) (x5 : Vec Ideal S128x512 .f32)

theorem load_lam :
    View.readAt (Elt Ideal) arg6.view (Rect.unit (s := S2x128) ![0, 0] S1x1.size inb_S2x128_S1x1_0_0).toLoadRect (harg6.unread x4) (ix2 (0 : Fin 1) (0 : Fin 1))
      = x4 (ix2 (0 : Fin 2) (0 : Fin 128)) := by
  rw [View.readAt_eq_ld, harg6.read_unread]
  refine congrArg x4 ?_
  funext a; apply Fin.ext
  fin_cases a <;> rfl

theorem load_gain (d : Fin 128) (y : Fin 512) :
    View.readAt (Elt Ideal) arg7.view (Rect.unit (s := S128x512) ![0, 0] S128x512.size inb_S128x512_S128x512_0_0).toLoadRect (harg7.unread x5) (ix2 d y)
      = x5 (ix2 d y) := by
  rw [View.readAt_eq_ld, harg7.read_unread]
  refine congrArg x5 ?_
  funext a; apply Fin.ext
  fin_cases a
  · show 0 + 1 * (d : ℕ) = d; omega
  · show 0 + 1 * (y : ℕ) = y; omega

/-- The output block of a grid point is the specification's output of the head its blocks hold, where the gain's block
    holds one gain per depth. -/
theorem out_block (hH : (headOf x0 x1 x2 x3 x4 x5).Ok) (hg : ∀ (d : Fin 128) (y : Fin 512), x5 (ix2 d y) = x5 (ix2 d (0 : Fin 512)))
    (p : Fin 4096) (d : Fin 128) :
    View.canon (Val := Elt Ideal) (e := .bf16) (kernelRun0_A c i arg2 harg2 arg3 harg3 arg4 harg4 arg5 harg5 arg6 harg6 arg7 harg7 arg8 harg8 arg9 harg9 arg10 harg10 arg11 harg11 x0 x1 x2 x3 x4 x5).1 (ix3 (0 : Fin 1) p d)
      = (headOf x0 x1 x2 x3 x4 x5).out p d := by
  rw [out_list]
  refine (canon_tiles (fun q => (outPiece c arg2 harg2 arg3 harg3 arg4 harg4 arg5 harg5 arg6 harg6 arg7 harg7 arg9 arg10 arg11 x0 x1 x2 x3 x4 x5 q).2) [7, 6, 5, 4, 3, 2, 1, 0] p d
    ((by decide : ∀ q : Fin 8, q ∈ ([7, 6, 5, 4, 3, 2, 1, 0] : List (Fin 8))) _)).trans ?_
  refine (finish_apply _ _ _ _ _ _).trans ?_
  have key : ∀ e : Fin 128, rowDiff
      (arg10.view.readCov (kernelRun0_A.sl.HS1_53 c arg2 harg2 arg3 harg3 arg4 harg4 arg5 harg5 arg9 arg10 x0 x1 x2 x3) (rows (⟨(p : ℕ) / 512, by omega⟩ : Fin 8)).toLoadRect)
      (arg11.view.readCov (kernelRun0_A.sl.HS2_53 c arg2 harg2 arg3 harg3 arg5 harg5 arg9 arg11 x0 x1 x3) (dens (⟨(p : ℕ) / 512, by omega⟩ : Fin 8)).toLoadRect)
      (View.readAt (Elt Ideal) arg6.view (Rect.unit (s := S2x128) ![0, 0] S1x1.size inb_S2x128_S1x1_0_0).toLoadRect (harg6.unread x4))
      e ⟨(p : ℕ) % 512, by omega⟩ = (headOf x0 x1 x2 x3 x4 x5).diff p e := by
    intro e
    unfold rowDiff
    simp only [read_rows, read_dens]
    rw [den_eq c arg2 harg2 arg3 harg3 arg4 harg4 arg5 harg5 arg9 arg11 x0 x1 x2 x3 x4 x5 hH,
      den_eq c arg2 harg2 arg3 harg3 arg4 harg4 arg5 harg5 arg9 arg11 x0 x1 x2 x3 x4 x5 hH,
      acc_eq c arg2 harg2 arg3 harg3 arg4 harg4 arg5 harg5 arg9 arg10 x0 x1 x2 x3 x4 x5 hH,
      acc_eq c arg2 harg2 arg3 harg3 arg4 harg4 arg5 harg5 arg9 arg10 x0 x1 x2 x3 x4 x5 hH, load_lam]
    have h0 : laneHead ⟨(p : ℕ) % 512, by omega⟩ = 0 := Fin.ext (by show (p : ℕ) % 512 / 512 = 0; omega)
    have h1 : laneHead ⟨512 + (p : ℕ) % 512, by omega⟩ = 1 := Fin.ext (by show (512 + (p : ℕ) % 512) / 512 = 1; omega)
    have q0 : laneQuery ⟨(p : ℕ) / 512, by omega⟩ ⟨(p : ℕ) % 512, by omega⟩ = p :=
      Fin.ext (by show 512 * ((p : ℕ) / 512) + (p : ℕ) % 512 % 512 = p; omega)
    have q1 : laneQuery ⟨(p : ℕ) / 512, by omega⟩ ⟨512 + (p : ℕ) % 512, by omega⟩ = p :=
      Fin.ext (by show 512 * ((p : ℕ) / 512) + (512 + (p : ℕ) % 512) % 512 = p; omega)
    rw [h0, h1, q0, q1]
    rfl
  simp only [key]
  unfold Head.out
  exact congrArg _ ((load_gain arg7 harg7 x5 d _).trans (hg d _))

end Cert.Attn
-- ==== Proof.Array.lean ====
/- What the kernel's output array holds. -/
module

public import proofs.«01_k».proof.Proof.Out
public import proofs.«01_k».proof.Proof.Gen.KernelIdeal.Value

/-!
The grid's 32 points are the 8 batch entries by the 4 heads. The block of a point is one head of one batch entry, so the
output array holds `Head.out` of every head (`arrHead`) of the arguments.
-/

@[expose] public section

set_option maxRecDepth 16384
set_option maxHeartbeats 2000000

noncomputable section

namespace Cert.Attn

open Idealize.ShloMosaic Idealize.ShloMosaic.TcCoe Idealize.SL.Sem
open Cert.KernelIdeal Cert.KernelIdeal.Gen

/-- The gain the kernel applies: the argument times the constant 0.8 of the layer. -/
def gainOf (a5 : S128.Idx → EReal) (d : Fin 128) : EReal := a5 (ix1 d) * Ideal.ofBits .f32 0x3F4CCCCD#32

/-- Head `h` of batch entry `b` in the arguments. -/
def arrHead (a0 : S512x32768.Idx → EReal) (a1 : S8x4096x512.Idx → EReal) (a2 : S128x4x128x256.Idx → EReal) (a3 : S4x3x512x512.Idx → EReal)
    (a4 : S2x128.Idx → EReal) (a5 : S128.Idx → EReal) (b : Fin 8) (h : Fin 4) : Head where
  Q s r q := a0 (ix2 (⟨(h : ℕ) * 128 + ((s : ℕ) * 64 + r), by omega⟩ : Fin 512) (⟨(b : ℕ) * 4096 + q, by omega⟩ : Fin 32768))
  K s r k := a1 (ix3 b k (⟨(h : ℕ) * 128 + ((s : ℕ) * 64 + r), by omega⟩ : Fin 512))
  V k d := a2 (ix4 (⟨(b : ℕ) * 16 + (k : ℕ) / 256, by omega⟩ : Fin 128) h d (⟨(k : ℕ) % 256, by omega⟩ : Fin 256))
  own x y := a3 (ix4 h (2 : Fin 3) x y)
  before x y := a3 (ix4 h (1 : Fin 3) x y)
  lam := a4 (ix2 (0 : Fin 2) (0 : Fin 128))
  gain := gainOf a5

variable (m : (ℓ : Loc nD τ sig) → Buf (Elt Ideal) ℓ) (c : Dev nD)

/-- The gain as the region finds it: the argument times a constant, along the lanes. -/
theorem gain_host (d : Fin 128) (y : Fin 512) :
    V m c main_v3 (ix2 d y) = gainOf (m ((c : Thread nD τ).loc main_arg5)) d := by
  have h : V m c main_v3 = broadcastInDim S128x512 ![0, 1] bcast_S128x1_S128x512_0_1 (broadcastInDim S128x1 ![0] bcast_S128_S128x1_0
      (mulf (F := Ideal) (m ((c : Thread nD τ).loc main_arg5) : Vec Ideal S128 .f32) (broadcastInDim S128 ![] bcast_S_S128 (constant (F := Ideal) S_ .f32 0x3F4CCCCD#32)))) := by
    show StableHlo.after hostOps0 _ (Proc.devRef .tc main_v3) = _
    after_results
  rw [h]
  pointwise [gainOf]

theorem index0 : ∀ t : Fin grid0.N, win0_0.index t 0 = (t : ℕ) % 4 ∧ win0_0.index t 1 = (t : ℕ) / 4 := by decide +kernel
theorem index1 : ∀ t : Fin grid0.N, win0_1.index t 0 = (t : ℕ) / 4 ∧ win0_1.index t 1 = 0 ∧ win0_1.index t 2 = (t : ℕ) % 4 := by decide +kernel
theorem index2 : ∀ t : Fin grid0.N, win0_2.index t 0 = (t : ℕ) / 4 ∧ win0_2.index t 1 = (t : ℕ) % 4 ∧ win0_2.index t 2 = 0 ∧ win0_2.index t 3 = 0 := by decide +kernel
theorem index3 : ∀ t : Fin grid0.N, win0_3.index t 0 = (t : ℕ) % 4 ∧ win0_3.index t 1 = 0 ∧ win0_3.index t 2 = 0 ∧ win0_3.index t 3 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = (t : ℕ) / 4 ∧ win0_6.index t 1 = 0 ∧ win0_6.index t 2 = (t : ℕ) % 4 := by decide +kernel

section Point

variable (b : Fin 8) (h : Fin 4) (t : Fin grid0.N) (ht : (t : ℕ) = b * 4 + h)
include ht

theorem block0 (r : Fin 128) (q : Fin 4096) :
    iblk m c 0 t (ix2 r q) = m ((c : Thread nD τ).loc main_arg0) (ix2 (⟨(h : ℕ) * 128 + r, by omega⟩ : Fin 512) (⟨(b : ℕ) * 4096 + q, by omega⟩ : Fin 32768)) := by
  unfold iblk
  rw [View.read_apply]
  show V m c main_arg0 _ = _
  rw [V_main_arg0]
  refine congrArg (m ((c : Thread nD τ).loc main_arg0)) ?_
  funext a; apply Fin.ext
  fin_cases a
  · show win0_0.index t 0 * 128 + 1 * (r : ℕ) = h * 128 + r; rw [(index0 t).1]; omega
  · show win0_0.index t 1 * 4096 + 1 * (q : ℕ) = b * 4096 + q; rw [(index0 t).2]; omega

theorem block1 (k : Fin 4096) (r : Fin 128) :
    iblk m c 1 t (ix3 (0 : Fin 1) k r) = m ((c : Thread nD τ).loc main_arg1) (ix3 b k (⟨(h : ℕ) * 128 + r, by omega⟩ : Fin 512)) := by
  unfold iblk
  rw [View.read_apply]
  show V m c main_arg1 _ = _
  rw [V_main_arg1]
  refine congrArg (m ((c : Thread nD τ).loc main_arg1)) ?_
  funext a; apply Fin.ext
  fin_cases a
  · show win0_1.index t 0 * 1 + 1 * 0 = (b : ℕ); rw [(index1 t).1]; omega
  · show win0_1.index t 1 * 4096 + 1 * (k : ℕ) = k; rw [(index1 t).2.1]; omega
  · show win0_1.index t 2 * 128 + 1 * (r : ℕ) = h * 128 + r; rw [(index1 t).2.2]; omega

theorem block2 (g : Fin 16) (d : Fin 128) (x : Fin 256) :
    iblk m c 2 t (ix4 g (0 : Fin 1) d x) = m ((c : Thread nD τ).loc main_arg2) (ix4 (⟨(b : ℕ) * 16 + g, by omega⟩ : Fin 128) h d x) := by
  unfold iblk
  rw [View.read_apply]
  show V m c main_arg2 _ = _
  rw [V_main_arg2]
  refine congrArg (m ((c : Thread nD τ).loc main_arg2)) ?_
  funext a; apply Fin.ext
  fin_cases a
  · show win0_2.index t 0 * 16 + 1 * (g : ℕ) = b * 16 + g; rw [(index2 t).1]; omega
  · show win0_2.index t 1 * 1 + 1 * 0 = (h : ℕ); rw [(index2 t).2.1]; omega
  · show win0_2.index t 2 * 128 + 1 * (d : ℕ) = d; rw [(index2 t).2.2.1]; omega
  · show win0_2.index t 3 * 256 + 1 * (x : ℕ) = x; rw [(index2 t).2.2.2]; omega

theorem block3 (g : Fin 3) (x y : Fin 512) :
    iblk m c 3 t (ix4 (0 : Fin 1) g x y) = m ((c : Thread nD τ).loc main_arg3) (ix4 h g x y) := by
  unfold iblk
  rw [View.read_apply]
  show V m c main_arg3 _ = _
  rw [V_main_arg3]
  refine congrArg (m ((c : Thread nD τ).loc main_arg3)) ?_
  funext a; apply Fin.ext
  fin_cases a
  · show win0_3.index t 0 * 1 + 1 * 0 = (h : ℕ); rw [(index3 t).1]; omega
  · show win0_3.index t 1 * 3 + 1 * (g : ℕ) = g; rw [(index3 t).2.1]; omega
  · show win0_3.index t 2 * 512 + 1 * (x : ℕ) = x; rw [(index3 t).2.2.1]; omega
  · show win0_3.index t 3 * 512 + 1 * (y : ℕ) = y; rw [(index3 t).2.2.2]; omega

omit ht

theorem block4 (i : Fin 2) (j : Fin 128) : iblk m c 4 t (ix2 i j) = m ((c : Thread nD τ).loc main_arg4) (ix2 i j) := by
  unfold iblk
  rw [View.read_apply]
  show V m c main_arg4 _ = _
  rw [V_main_arg4]
  refine congrArg (m ((c : Thread nD τ).loc main_arg4)) ?_
  funext a; apply Fin.ext
  fin_cases a
  · show win0_4.index t 0 * 2 + 1 * (i : ℕ) = i; rw [(index4 t).1]; omega
  · show win0_4.index t 1 * 128 + 1 * (j : ℕ) = j; rw [(index4 t).2]; omega

theorem block5 (d : Fin 128) (y : Fin 512) :
    iblk m c 5 t (ix2 d y) = gainOf (m ((c : Thread nD τ).loc main_arg5)) d := by
  refine Eq.trans ?_ (gain_host m c d y)
  unfold iblk
  rw [View.read_apply]
  show V m c main_v3 _ = _
  refine congrArg (V m c main_v3) ?_
  funext a; apply Fin.ext
  fin_cases a
  · show win0_5.index t 0 * 128 + 1 * (d : ℕ) = d; rw [(index5 t).1]; omega
  · show win0_5.index t 1 * 512 + 1 * (y : ℕ) = y; rw [(index5 t).2]; omega

include ht

/-- The blocks of the point are the head of the arguments. -/
theorem head_blocks : headOf (iblk m c 0 t) (iblk m c 1 t) (iblk m c 2 t) (iblk m c 3 t) (iblk m c 4 t) (iblk m c 5 t)
    = arrHead (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b h := by
  unfold headOf arrHead
  congr 1
  · funext s r q; exact block0 m c b h t ht _ _
  · funext s r k; exact block1 m c b h t ht _ _
  · funext k d; exact block2 m c b h t ht _ _ _
  · funext x y; exact block3 m c b h t ht _ _ _
  · funext x y; exact block3 m c b h t ht _ _ _
  · exact block4 m c t _ _
  · funext d; exact block5 m c t _ _

end Point

variable (b : Fin 8) (h : Fin 4)

/-- The output array: at batch entry `b`, position `p` and depth `d` of head `h`, the specification's output. -/
theorem array_eq
    (hH : (arrHead (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b h).Ok)
    (p : Fin 4096) (d : Fin 128) :
    (dats m 0 c).arrAt 6 cfg0.N (ix3 b p (⟨(h : ℕ) * 128 + d, by omega⟩ : Fin 512))
      = (arrHead (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b h).out p d := by
  obtain ⟨t, ht⟩ : ∃ t : Fin grid0.N, (t : ℕ) = b * 4 + h := ⟨⟨b * 4 + h, by rw [show grid0.N = 32 from N_0]; omega⟩, rfl⟩
  have hb := congrFun (Value.blocks6 m c t (flush0_6 t)) (ix3 (0 : Fin 1) p d)
  rw [View.read_apply, Value.flushed6_A] at hb
  have he : ((cfg0.win 6).blk t).view.emb (ix3 (0 : Fin 1) p d) = ix3 b p (⟨(h : ℕ) * 128 + d, by omega⟩ : Fin 512) := by
    funext a; apply Fin.ext
    fin_cases a
    · show win0_6.index t 0 * 1 + 1 * 0 = (b : ℕ); rw [(index6 t).1]; omega
    · show win0_6.index t 1 * 4096 + 1 * (p : ℕ) = p; rw [(index6 t).2.1]; omega
    · show win0_6.index t 2 * 128 + 1 * (d : ℕ) = h * 128 + d; rw [(index6 t).2.2]; omega
  rw [← he]
  refine hb.trans ?_
  rw [← head_blocks m c b h t ht] at hH ⊢
  unfold out0_A_6
  rw [View.read_writes_junk_eq_canon]
  refine Eq.trans ?_ (out_block c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) hH
    (fun d y => (block5 m c t d y).trans (block5 m c t d 0).symm) p d)
  rfl

end Cert.Attn
-- ==== Proof.Softmax.lean ====
/- A softmax of logits times log 2 is a quotient of powers of two. -/
module

public import Idealize.ShloMosaic.Lib.Pointwise
public import proofs.«01_k».proof.Proof.Spec

/-!
`masked` is the logit of one key: a real number `z` times the logarithm of 2, or `⊥` where the key is not seen. The
exponentials of the masked logits, less their maximum, are the weights `2 ^ z` (0 where unseen) times one positive number,
so their quotients by their sum are the weights' quotients by the weights' sum. The last section puts the two softmaxes of
the layer together: the sum of the values by the difference of two softmaxes is `Head.diff`.
-/

@[expose] public section

noncomputable section

namespace Cert.Attn

open Idealize.ShloMosaic

/-! ## Real numbers among the extended ones -/

theorem Head.Real'.coe {x : EReal} (h : Head.Real' x) : ∃ r : ℝ, x = (r : EReal) := ⟨x.toReal, (EReal.coe_toReal h.1 h.2).symm⟩

theorem real_coe (r : ℝ) : Head.Real' (r : EReal) := ⟨EReal.coe_ne_top r, EReal.coe_ne_bot r⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The literal 2 and its logarithm. -/
theorem two_bits : Ideal.ofBits .f32 0x40000000#32 = ((2 : ℝ) : EReal) := by
  simp [Ideal.ofBits, Ideal.ieee, -EReal.coe_mul]
  norm_num

theorem log_two : Ideal.log (Ideal.ofBits .f32 0x40000000#32) = ((Real.log 2 : ℝ) : EReal) := by
  rw [two_bits]
  show (if (2 : ℝ) ≤ 0 then (⊥ : EReal) else ((Real.log 2 : ℝ) : EReal)) = _
  rw [if_neg (by norm_num)]

theorem bot_bits : Ideal.ofBits .f32 0xFF800000#32 = ⊥ := by
  simp [Ideal.ofBits, Ideal.ieee]

theorem top_bits : Ideal.ofBits .f32 0x7F800000#32 = ⊤ := by
  simp [Ideal.ofBits, Ideal.ieee]

/-! ## One softmax -/

variable {ι : Type} [Fintype ι] [DecidableEq ι] (seen : ι → Prop) [DecidablePred seen] (z : ι → ℝ)

/-- The logits with the unseen keys at `⊥`. -/
def masked (k : ι) : EReal := if seen k then ((z k * Real.log 2 : ℝ) : EReal) else ⊥

/-- The weights. -/
def weight (k : ι) : ℝ := if seen k then Real.rpow 2 (z k) else 0

theorem weight_nonneg (k : ι) : 0 ≤ weight seen z k := by
  unfold weight
  split
  · exact Real.rpow_nonneg (by norm_num) _
  · exact le_rfl

theorem weight_sum_pos (h : ∃ k, seen k) : 0 < ∑ k, weight seen z k := by
  obtain ⟨k, hk⟩ := h
  refine Finset.sum_pos' (fun k _ => weight_nonneg seen z k) ⟨k, Finset.mem_univ _, ?_⟩
  unfold weight
  rw [if_pos hk]
  exact Real.rpow_pos_of_pos (by norm_num) _

/-- The largest of the masked logits is a real number where a key is seen. -/
theorem masked_max (h : ∃ k, seen k) : Head.Real' (Finset.univ.fold max (⊥ : EReal) (masked seen z)) := by
  obtain ⟨k, hk⟩ := h
  constructor
  · refine ne_of_lt ((Finset.fold_max_lt _).2 ⟨bot_lt_top, fun k _ => ?_⟩)
    unfold masked
    split
    · exact EReal.coe_lt_top _
    · exact bot_lt_top
  · refine (ne_of_gt ((Finset.lt_fold_max _).2 (Or.inr ⟨k, Finset.mem_univ _, ?_⟩)))
    unfold masked
    rw [if_pos hk]
    exact EReal.bot_lt_coe _

/-- The exponential of a masked logit less a real number: the weight times one positive number. -/
theorem exp_masked (μ : ℝ) (k : ι) :
    Ideal.exp (masked seen z k - (μ : EReal)) = ((Real.exp (-μ) * weight seen z k : ℝ) : EReal) := by
  unfold masked weight
  split
  · rw [← EReal.coe_sub]
    show ((Real.exp (z k * Real.log 2 - μ) : ℝ) : EReal) = _
    congr 1
    rw [sub_eq_add_neg, Real.exp_add, mul_comm]
    congr 1
    show _ = (2 : ℝ) ^ z k
    rw [Real.rpow_def_of_pos (by norm_num), mul_comm]
  · rw [EReal.bot_sub, mul_zero]
    rfl

/-- One probability: the exponential of the masked logit less the maximum, over the sum of these. -/
theorem softmax_eq (h : ∃ k, seen k) (k : ι) :
    Ideal.div (Ideal.exp (masked seen z k - Finset.univ.fold max (⊥ : EReal) (masked seen z)))
        (∑ k', Ideal.exp (masked seen z k' - Finset.univ.fold max (⊥ : EReal) (masked seen z)))
      = ((weight seen z k / ∑ k', weight seen z k' : ℝ) : EReal) := by
  obtain ⟨μ, hμ⟩ := (masked_max seen z h).coe
  rw [hμ]
  simp only [exp_masked]
  rw [← coe_sum, ← Finset.mul_sum, div_coe _ _ (mul_ne_zero (Real.exp_pos _).ne' (weight_sum_pos seen z h).ne'),
    mul_div_mul_left _ _ (Real.exp_pos _).ne']

/-! ## The logits of a head -/

namespace Head

variable {H : Head} (hH : H.Ok)
include hH

theorem Ok.score_real (s : Fin 2) (q k : Fin 4096) : Real' (H.score s q k) := by
  unfold score
  choose Q hQ using fun r => (hH.Q s r q).coe
  choose K hK using fun r => (hH.K s r k).coe
  simp only [hQ, hK, ← EReal.coe_mul, ← coe_sum]
  exact real_coe _

theorem Ok.rel_real (q k : Fin 4096) (h : (k : ℕ) / 64 ≤ (q : ℕ) / 64) : Real' (H.rel q k) := by
  unfold rel
  split
  · exact hH.own_seen _ _ (show (k : ℕ) % 512 / 64 ≤ (q : ℕ) % 512 / 64 by omega)
  · split
    · by_cases hc : 384 ≤ (k : ℕ) % 512 ∧ (q : ℕ) % 512 < 128
      · exact hH.before_corner _ _ hc
      · rw [hH.before_else _ _ hc]; exact real_coe 0
    · exact real_coe 0

/-- The exponent of two of a seen key, as a real number. -/
theorem Ok.logit (s : Fin 2) (q k : Fin 4096) (h : (k : ℕ) / 64 ≤ (q : ℕ) / 64) :
    H.score s q k + H.rel q k = (((H.score s q k + H.rel q k).toReal : ℝ) : EReal) := by
  obtain ⟨a, ha⟩ := (hH.score_real s q k).coe
  obtain ⟨b, hb⟩ := (hH.rel_real q k h).coe
  rw [ha, hb, ← EReal.coe_add, EReal.toReal_coe]

omit hH in
/-- The keys a query sees. -/
abbrev Seen (q : Fin 4096) (k : Fin 4096) : Prop := (k : ℕ) / 64 ≤ (q : ℕ) / 64

omit hH in
/-- The exponents of two. -/
def expo (H : Head) (s : Fin 2) (q k : Fin 4096) : ℝ := (H.score s q k + H.rel q k).toReal

theorem Ok.wt_eq (s : Fin 2) (q k : Fin 4096) : H.wt s q k = ((weight (Seen q) (H.expo s q) k : ℝ) : EReal) := by
  unfold wt weight
  split
  · rename_i h
    rw [hH.logit s q k h]
    rfl
  · rfl

/-- The reference's masked logit. -/
theorem Ok.masked_eq (s : Fin 2) (q k : Fin 4096) :
    (if Seen q k then (H.score s q k + H.rel q k) * ((Real.log 2 : ℝ) : EReal) else ⊥) = masked (Seen q) (H.expo s q) k := by
  unfold masked
  split
  · rename_i h
    rw [hH.logit s q k h, ← EReal.coe_mul]
    rfl
  · rfl

/-- The values summed by the difference of two softmaxes are the difference of the two weighted means. -/
theorem Ok.diff_eq (q : Fin 4096) (d : Fin 128) :
    ∑ k : Fin 4096, H.V k d * (((weight (Seen q) (H.expo 0 q) k / ∑ k', weight (Seen q) (H.expo 0 q) k' : ℝ) : EReal)
        - H.lam * ((weight (Seen q) (H.expo 1 q) k / ∑ k', weight (Seen q) (H.expo 1 q) k' : ℝ) : EReal)) = H.diff q d := by
  have hs : ∃ k, Seen q k := ⟨q, le_rfl⟩
  have h0 := weight_sum_pos (Seen q) (H.expo 0 q) hs
  have h1 := weight_sum_pos (Seen q) (H.expo 1 q) hs
  unfold diff num den
  choose V hV using fun k => (hH.V k d).coe
  obtain ⟨l, hl⟩ := hH.lam.coe
  simp only [hH.wt_eq, hV, hl, ← EReal.coe_mul, ← EReal.coe_sub, ← coe_sum]
  rw [div_coe _ _ h0.ne', div_coe _ _ h1.ne', ← EReal.coe_mul, ← EReal.coe_sub]
  congr 1
  rw [Finset.sum_div, Finset.sum_div, Finset.mul_sum, ← Finset.sum_sub_distrib]
  refine Finset.sum_congr rfl fun k _ => ?_
  ring

end Head

end Cert.Attn
-- ==== Proof.Prepared.lean ====
/- The precondition gives every head inputs of the layer's form. -/
module

public import proofs.«01_k».proof.Defs
public import proofs.«01_k».proof.Proof.Array
public import proofs.«01_k».proof.Proof.Softmax

/-!
`prepared` compares elementwise. Each comparison, read at one index, says that the element is a real number, that it is
`⊥`, or that it is 0; together they make `Head.Ok` of each of the 32 heads.
-/

@[expose] public section

set_option maxRecDepth 16384
set_option maxHeartbeats 2000000

noncomputable section

namespace Cert.Attn

open Idealize.ShloMosaic Idealize.ShloMosaic.TcCoe Idealize.SL.Sem
open Cert.KernelIdeal Cert.KernelIdeal.Gen

/-- An absolute value below `⊤` is a real number's. -/
theorem real_of_abs_lt (x : EReal) (h : FloatOps.absf (F := Ideal) (φ := .f32) x < Ideal.ofBits .f32 0x7F800000#32) : Head.Real' x := by
  rw [top_bits] at h
  constructor
  · rintro rfl; exact absurd h (by decide)
  · rintro rfl; exact absurd h (by decide)

/-- A comparison word that is 1. -/
theorem of_word {p : Prop} [Decidable p] (h : BitVec.ofBool (decide p) = 1#1) : p := by
  by_cases hp : p
  · exact hp
  · rw [decide_eq_false hp] at h; exact absurd h (by decide)

/-- One of two comparisons, chosen by a word. -/
theorem of_choice {p q r : Prop} [Decidable p] [Decidable q] [Decidable r]
    (h : IntOp.ori (IntOp.andi (if p then 1#1 else 0#1) (BitVec.ofBool (decide q))) (IntOp.andi (~~~(if p then 1#1 else 0#1)) (BitVec.ofBool (decide r))) = 1#1) :
    (p → q) ∧ (¬ p → r) := by
  by_cases hp : p <;> by_cases hq : q <;> by_cases hr : r <;> simp [hp, hq, hr] at h ⊢ <;> exact absurd h (by decide)

/-- The chunk comparison of `prepared`. -/
theorem chunk_word (x y : Fin 512) :
    IntOp.cmpi .sle (IntOp.divsi .host (BitVec.ofNat 32 x) 64#32) (IntOp.divsi .host (BitVec.ofNat 32 y) 64#32)
      = if (x : ℕ) / 64 ≤ (y : ℕ) / 64 then 1#1 else 0#1 := by
  have hd : ∀ x : Fin 512, IntOp.divsi .host (BitVec.ofNat 32 x) 64#32 = BitVec.ofNat 32 ((x : ℕ) / 64) := by decide +kernel
  have hc : ∀ a b : Fin 8, IntOp.cmpi .sle (BitVec.ofNat 32 a) (BitVec.ofNat 32 b) = if (a : ℕ) ≤ (b : ℕ) then 1#1 else 0#1 := by decide +kernel
  rw [hd, hd]
  exact hc ⟨x / 64, by omega⟩ ⟨y / 64, by omega⟩

/-- The corner comparison of `prepared`. -/
theorem corner_word (x y : Fin 512) :
    IntOp.cmpi .sge (BitVec.ofNat 32 x) 384#32 &&& IntOp.cmpi .slt (BitVec.ofNat 32 y) 128#32
      = if 384 ≤ (x : ℕ) ∧ (y : ℕ) < 128 then 1#1 else 0#1 := by
  have h1 : ∀ x : Fin 512, IntOp.cmpi .sge (BitVec.ofNat 32 x) 384#32 = if 384 ≤ (x : ℕ) then 1#1 else 0#1 := by decide +kernel
  have h2 : ∀ x : Fin 512, IntOp.cmpi .slt (BitVec.ofNat 32 x) 128#32 = if (x : ℕ) < 128 then 1#1 else 0#1 := by decide +kernel
  rw [h1, h2]
  by_cases a : 384 ≤ (x : ℕ) <;> by_cases b : (y : ℕ) < 128 <;> simp [a, b]

/-- A head of arguments with the precondition. -/
theorem prepared_ok [Cert.Pre_prepared.Facts] (a0 : S512x32768.Idx → EReal) (a1 : S8x4096x512.Idx → EReal) (a2 : S128x4x128x256.Idx → EReal)
    (a3 : S4x3x512x512.Idx → EReal) (a4 : S2x128.Idx → EReal) (a5 : S128.Idx → EReal)
    (h0 : (Cert.Pre_prepared.fn (F := Ideal) a0 a1 a2 a3 a4 a5).1 = fun _ => 1#1)
    (h1 : (Cert.Pre_prepared.fn (F := Ideal) a0 a1 a2 a3 a4 a5).2.1 = fun _ => 1#1)
    (h2 : (Cert.Pre_prepared.fn (F := Ideal) a0 a1 a2 a3 a4 a5).2.2.1 = fun _ => 1#1)
    (h3 : (Cert.Pre_prepared.fn (F := Ideal) a0 a1 a2 a3 a4 a5).2.2.2.1 = fun _ => 1#1)
    (h4 : (Cert.Pre_prepared.fn (F := Ideal) a0 a1 a2 a3 a4 a5).2.2.2.2.1 = fun _ => 1#1)
    (h5 : (Cert.Pre_prepared.fn (F := Ideal) a0 a1 a2 a3 a4 a5).2.2.2.2.2 = fun _ => 1#1)
    (b : Fin 8) (h : Fin 4) : (arrHead a0 a1 a2 a3 a4 a5 b h).Ok := by
  have e0 : ∀ i j, Head.Real' (a0 (ix2 i j)) := fun i j => by
    refine real_of_abs_lt _ (of_word (Eq.trans ?_ (congrFun h0 (ix2 i j))))
    pointwise [Cert.Pre_prepared.fn, Cert.Pre_prepared.fn_part1, Cert.Pre_prepared.fn_part2]
  have e1 : ∀ i j k, Head.Real' (a1 (ix3 i j k)) := fun i j k => by
    refine real_of_abs_lt _ (of_word (Eq.trans ?_ (congrFun h1 (ix3 i j k))))
    pointwise [Cert.Pre_prepared.fn, Cert.Pre_prepared.fn_part1, Cert.Pre_prepared.fn_part2]
  have e2 : ∀ i j k l, Head.Real' (a2 (ix4 i j k l)) := fun i j k l => by
    refine real_of_abs_lt _ (of_word (Eq.trans ?_ (congrFun h2 (ix4 i j k l))))
    pointwise [Cert.Pre_prepared.fn, Cert.Pre_prepared.fn_part1, Cert.Pre_prepared.fn_part2]
  have e3 : ∀ i j, Head.Real' (a4 (ix2 i j)) := fun i j => by
    refine real_of_abs_lt _ (of_word (Eq.trans ?_ (congrFun h3 (ix2 i j))))
    pointwise [Cert.Pre_prepared.fn, Cert.Pre_prepared.fn_part1, Cert.Pre_prepared.fn_part2]
  have e4 : ∀ x y : Fin 512, _ := fun x y => of_choice (p := (x : ℕ) / 64 ≤ (y : ℕ) / 64)
      (q := FloatOps.absf (F := Ideal) (φ := .f32) (a3 (ix4 h 2 x y)) < Ideal.ofBits .f32 0x7F800000#32)
      (r := a3 (ix4 h 2 x y) = -Ideal.ofBits .f32 0x7F800000#32) (by
    refine Eq.trans ?_ (congrFun h4 (ix3 h x y))
    rw [← chunk_word]
    pointwise [Cert.Pre_prepared.fn, Cert.Pre_prepared.fn_part1, Cert.Pre_prepared.fn_part2])
  have e5 : ∀ x y : Fin 512, _ := fun x y => of_choice (p := 384 ≤ (x : ℕ) ∧ (y : ℕ) < 128)
      (q := FloatOps.absf (F := Ideal) (φ := .f32) (a3 (ix4 h 1 x y)) < Ideal.ofBits .f32 0x7F800000#32)
      (r := a3 (ix4 h 1 x y) = 0) (by
    refine Eq.trans ?_ (congrFun h5 (ix3 h x y))
    rw [← corner_word]
    pointwise [Cert.Pre_prepared.fn, Cert.Pre_prepared.fn_part1, Cert.Pre_prepared.fn_part2]
    rfl)
  exact
    { Q := fun s r q => e0 _ _
      K := fun s r q => e1 _ _ _
      V := fun k d => e2 _ _ _ _
      lam := e3 _ _
      own_seen := fun x y hxy => real_of_abs_lt _ ((e4 x y).1 hxy)
      own_unseen := fun x y hxy => by
        refine ((e4 x y).2 hxy).trans ?_
        rw [top_bits]; rfl
      before_corner := fun x y hxy => real_of_abs_lt _ ((e5 x y).1 hxy)
      before_else := fun x y hxy => (e5 x y).2 hxy }

end Cert.Attn
-- ==== Proof.RefLogits.lean ====
/- The reference's masked logits. -/
module

public import proofs.«01_k».proof.Proof.Array
public import proofs.«01_k».proof.Proof.Softmax
public import proofs.«01_k».proof.Proof.Gen.ReferenceIdeal.Read

/-!
The reference's scores, its relative bias and its masked logits at batch entry `b`, head `h`, sub-head `s`, query `q` and
key `k`, in the terms of `arrHead`.
-/

@[expose] public section

set_option maxRecDepth 16384
set_option maxHeartbeats 2000000

noncomputable section

namespace Cert.Attn

open Idealize.ShloMosaic
open Cert.ReferenceIdeal Cert.ReferenceIdeal.Gen Cert.ReferenceIdeal.Read

variable (x0 : S512x32768.Idx → EReal) (x1 : S8x4096x512.Idx → EReal) (x2 : S128x4x128x256.Idx → EReal)
    (x3 : S4x3x512x512.Idx → EReal) (x4 : S2x128.Idx → EReal) (x5 : S128.Idx → EReal) (b : Fin 8) (h : Fin 4)

/-- The scores. -/
theorem ref_score (s : Fin 2) (q k : Fin 4096) :
    val_main_v30 (F := Ideal) x0 x1 (ix5 b h s q k) = (arrHead x0 x1 x2 x3 x4 x5 b h).score s q k := by
  rw [val_main_v30_apply]
  unfold Head.score
  refine Finset.sum_congr rfl fun r _ => congrArg₂ (fun x y : EReal => x * y) ?_ ?_
  · rw [val_main_v1_apply, val_main_v0_apply]
    show x0 _ = x0 _
    refine congrArg x0 ?_
    funext a; apply Fin.ext
    fin_cases a
    · show ((((((h : ℕ) * 2 + s) * 64 + r) * 8 + b) * 4096 + q) / 32768 : ℕ) = h * 128 + (s * 64 + r); omega
    · show ((((((h : ℕ) * 2 + s) * 64 + r) * 8 + b) * 4096 + q) % 32768 : ℕ) = b * 4096 + q; omega
  · rw [val_main_v3_apply, val_main_v2_apply]
    show x1 _ = x1 _
    refine congrArg x1 ?_
    funext a; apply Fin.ext
    fin_cases a
    · show ((((((b : ℕ) * 4096 + k) * 4 + h) * 2 + s) * 64 + r) / 2097152 : ℕ) = b; omega
    · show ((((((b : ℕ) * 4096 + k) * 4 + h) * 2 + s) * 64 + r) / 512 % 4096 : ℕ) = k; omega
    · show ((((((b : ℕ) * 4096 + k) * 4 + h) * 2 + s) * 64 + r) % 512 : ℕ) = h * 128 + (s * 64 + r); omega

/-- The tile comparisons. -/
theorem same_tile (q k : Fin 8) : val_main_v13 (F := Ideal) (ix4 q (0 : Fin 1) k (0 : Fin 1)) = if k = q then 1#1 else 0#1 := by
  have : ∀ q k : Fin 8, IntOp.cmpi .eq (BitVec.ofNat 32 k) (BitVec.ofNat 32 q) = if k = q then 1#1 else 0#1 := by decide +kernel
  rw [← this]
  rw [val_main_v13_apply, val_main_v11_apply, val_main_v12_apply, val_main_v10_apply, val_main_v9_apply]
  rfl

theorem next_tile (q k : Fin 8) : val_main_v22 (F := Ideal) (ix4 q (0 : Fin 1) k (0 : Fin 1)) = if (k : ℕ) + 1 = q then 1#1 else 0#1 := by
  have : ∀ q k : Fin 8, IntOp.cmpi .eq (IntOp.addi (BitVec.ofNat 32 k) 1#32) (BitVec.ofNat 32 q) = if (k : ℕ) + 1 = q then 1#1 else 0#1 := by decide +kernel
  rw [← this]
  rw [val_main_v22_apply, val_main_v20_apply, val_main_v21_apply, val_main_v19_apply, val_main_v9_apply, val_main_v10_apply, val_main_v18_apply]
  rfl

theorem select_word {p : Prop} [Decidable p] (x y : EReal) : Scalar.select (if p then 1#1 else 0#1) x y = if p then x else y := by
  by_cases hp : p
  · rw [if_pos hp, if_pos hp]; rfl
  · rw [if_neg hp, if_neg hp]; rfl

/-- The relative bias by tiles: key tile `kt`, query tile `qt`, and the positions within them. -/
theorem ref_tiles (qt kt : Fin 8) (y x : Fin 512) :
    val_main_v28 (F := Ideal) x3 (ix5 h qt y kt x)
      = if kt = qt then x3 (ix4 h (2 : Fin 3) x y) else if (kt : ℕ) + 1 = qt then x3 (ix4 h (1 : Fin 3) x y) else 0 := by
  rw [val_main_v28_apply, val_main_call1_v0_apply, val_main_call1_v1_apply, val_main_v27_apply, val_main_call0_v1_apply, val_main_call0_v2_apply,
    val_main_call0_v3_apply]
  have e13 : val_main_v13 (F := Ideal) (idx_main_call1_v0 (ix5 h qt y kt x)) = if kt = qt then 1#1 else 0#1 := by
    rw [← same_tile]; congr 1; funext a; apply Fin.ext; fin_cases a <;> rfl
  have e22 : val_main_v22 (F := Ideal) (idx_main_call0_v1 (ix5 h qt y kt x)) = if (kt : ℕ) + 1 = qt then 1#1 else 0#1 := by
    rw [← next_tile]; congr 1; funext a; apply Fin.ext; fin_cases a <;> rfl
  rw [e13, e22]
  rw [select_word, select_word]
  have e17 : val_main_v17 (F := Ideal) x3 (idx_main_call1_v1 (ix5 h qt y kt x)) = x3 (ix4 h (2 : Fin 3) x y) := by
    rw [val_main_v17_apply, val_main_v16_apply, val_main_v15_apply, val_main_v14_apply]
    refine congrArg x3 ?_
    funext a; apply Fin.ext
    fin_cases a
    · show ((((h : ℕ) * 512 + x) * 512 + y) / 262144 : ℕ) = h; omega
    · rfl
    · show ((((h : ℕ) * 512 + x) * 512 + y) / 512 % 512 : ℕ) = x; omega
    · show ((((h : ℕ) * 512 + x) * 512 + y) % 512 : ℕ) = y; omega
  have e26 : val_main_v26 (F := Ideal) x3 (idx_main_call0_v2 (ix5 h qt y kt x)) = x3 (ix4 h (1 : Fin 3) x y) := by
    rw [val_main_v26_apply, val_main_v25_apply, val_main_v24_apply, val_main_v23_apply]
    refine congrArg x3 ?_
    funext a; apply Fin.ext
    fin_cases a
    · show ((((h : ℕ) * 512 + x) * 512 + y) / 262144 : ℕ) = h; omega
    · rfl
    · show ((((h : ℕ) * 512 + x) * 512 + y) / 512 % 512 : ℕ) = x; omega
    · show ((((h : ℕ) * 512 + x) * 512 + y) % 512 : ℕ) = y; omega
  have e0 : val_main_call0_v0 (F := Ideal) (idx_main_call0_v3 (ix5 h qt y kt x)) = (0 : EReal) := Ideal.ofBits_zero_f32
  rw [e17, e26, e0]

/-- The relative bias. -/
theorem ref_rel (q k : Fin 4096) : val_main_v29 (F := Ideal) x3 (ix3 h q k) = (arrHead x0 x1 x2 x3 x4 x5 b h).rel q k := by
  have hi : idx_main_v29 (ix3 h q k) = ix5 h (⟨(q : ℕ) / 512, by omega⟩ : Fin 8) (⟨(q : ℕ) % 512, by omega⟩ : Fin 512)
      (⟨(k : ℕ) / 512, by omega⟩ : Fin 8) (⟨(k : ℕ) % 512, by omega⟩ : Fin 512) := by
    funext a; apply Fin.ext
    fin_cases a
    · show ((((h : ℕ) * 4096 + q) * 4096 + k) / 16777216 : ℕ) = h; omega
    · show ((((h : ℕ) * 4096 + q) * 4096 + k) / 2097152 % 8 : ℕ) = q / 512; omega
    · show ((((h : ℕ) * 4096 + q) * 4096 + k) / 4096 % 512 : ℕ) = q % 512; omega
    · show ((((h : ℕ) * 4096 + q) * 4096 + k) / 512 % 8 : ℕ) = k / 512; omega
    · show ((((h : ℕ) * 4096 + q) * 4096 + k) % 512 : ℕ) = k % 512; omega
  rw [val_main_v29_apply, hi, ref_tiles]
  unfold Head.rel
  simp only [Fin.mk.injEq]
  rfl

/-- The chunk comparison. -/
theorem ref_seen (q k : Fin 4096) : val_main_v44 (F := Ideal) (ix2 q k) = if (k : ℕ) / 64 ≤ (q : ℕ) / 64 then 1#1 else 0#1 := by
  have hd : ∀ x : Fin 4096, IntOp.divsi .host (BitVec.ofNat 32 x) 64#32 = BitVec.ofNat 32 ((x : ℕ) / 64) := by decide +kernel
  have hc : ∀ a b : Fin 64, IntOp.cmpi .sle (BitVec.ofNat 32 a) (BitVec.ofNat 32 b) = if (a : ℕ) ≤ (b : ℕ) then 1#1 else 0#1 := by decide +kernel
  rw [← hc ⟨k / 64, by omega⟩ ⟨q / 64, by omega⟩]
  rw [← hd k, ← hd q]
  rw [val_main_v44_apply, val_main_v42_apply, val_main_v43_apply, val_main_v40_apply, val_main_v41_apply, val_main_v39_apply, val_main_v39_apply,
    val_main_v38_apply, val_main_v38_apply]
  rfl

/-- The masked logits. -/
theorem ref_masked (hH : (arrHead x0 x1 x2 x3 x4 x5 b h).Ok) (s : Fin 2) (q k : Fin 4096) :
    val_main_v45 (F := Ideal) x0 x1 x3 (ix5 b h s q k) = masked (Head.Seen q) ((arrHead x0 x1 x2 x3 x4 x5 b h).expo s q) k := by
  rw [← hH.masked_eq, val_main_v45_apply, val_main_call2_v1_apply]
  have e44 : val_main_v44 (F := Ideal) (idx_main_call2_v1 (ix5 b h s q k)) = if (k : ℕ) / 64 ≤ (q : ℕ) / 64 then 1#1 else 0#1 := by
    rw [← ref_seen]; congr 1; funext a; apply Fin.ext; fin_cases a <;> rfl
  rw [e44, select_word, val_main_v36_apply, val_main_v35_apply, val_main_v33_apply, ref_score x0 x1 x2 x3 x4 x5, val_main_v32_apply, val_main_v31_apply]
  have e29 : val_main_v29 (F := Ideal) x3 (idx_main_v31 (idx_main_v32 (ix5 b h s q k))) = (arrHead x0 x1 x2 x3 x4 x5 b h).rel q k := by
    rw [← ref_rel]; congr 1; funext a; apply Fin.ext; fin_cases a <;> rfl
  rw [e29, val_main_v34_apply, val_main_call2_v2_apply]
  have el : FloatOps.hostUnary (F := Ideal) (φ := .f32) .log (val_main_cst_0 (F := Ideal) (idx_main_v35 (ix5 b h s q k))) = ((Real.log 2 : ℝ) : EReal) := log_two
  have eb : val_main_call2_v0 (F := Ideal) (idx_main_call2_v2 (ix5 b h s q k)) = (⊥ : EReal) := bot_bits
  rw [el, eb]
  rfl

end Cert.Attn
-- ==== Proof.RefOut.lean ====
/- What the reference's output array holds. -/
module

public import proofs.«01_k».proof.Proof.RefLogits

/-!
From the masked logits to the output: the softmaxes, their difference, the values summed by it, and the normalisation.
`ref_out` is the reference's counterpart of the kernel's `array_eq`.
-/

@[expose] public section

set_option maxRecDepth 16384
set_option maxHeartbeats 2000000

noncomputable section

namespace Cert.Attn

open Idealize.ShloMosaic
open Cert.ReferenceIdeal Cert.ReferenceIdeal.Gen Cert.ReferenceIdeal.Read

variable (x0 : S512x32768.Idx → EReal) (x1 : S8x4096x512.Idx → EReal) (x2 : S128x4x128x256.Idx → EReal)
    (x3 : S4x3x512x512.Idx → EReal) (x4 : S2x128.Idx → EReal) (x5 : S128.Idx → EReal) (b : Fin 8) (h : Fin 4)

section Softmax

variable (hH : (arrHead x0 x1 x2 x3 x4 x5 b h).Ok)
include hH

/-- The largest logit of a query. -/
theorem ref_max (s : Fin 2) (q : Fin 4096) :
    val_main_v48 (F := Ideal) x0 x1 x3 (ix4 b h s q)
      = Finset.univ.fold max (⊥ : EReal) (masked (Head.Seen q) ((arrHead x0 x1 x2 x3 x4 x5 b h).expo s q)) := by
  rw [val_main_v48_apply, val_main_v47_apply]
  have e4 : val_main_cst_4 (F := Ideal) (idx_main_v47 (ix4 b h s q)) = (⊥ : EReal) := bot_bits
  have e46 : val_main_v46 (F := Ideal) x0 x1 x3 (ix4 b h s q)
      = Finset.univ.fold max (⊥ : EReal) (masked (Head.Seen q) ((arrHead x0 x1 x2 x3 x4 x5 b h).expo s q)) := by
    unfold val_main_v46
    rw [Host.reduce_eq_fold_single _ _ _ reducesTo_S8x4x2x4096x4096_S8x4x2x4096_d4 (by decide) h_S_]
    have e3 : val_main_cst_3 (F := Ideal) (Shape.Idx.first h_S_) = (⊥ : EReal) := bot_bits
    rw [e3]
    refine congrArg (Finset.univ.fold max (⊥ : EReal)) ?_
    funext k
    refine Eq.trans ?_ (ref_masked x0 x1 x2 x3 x4 x5 b h hH s q k)
    refine congrArg (val_main_v45 (F := Ideal) x0 x1 x3) ?_
    funext a; apply Fin.ext; fin_cases a <;> rfl
  rw [e4, e46]
  exact max_eq_right bot_le

/-- One exponential. -/
theorem ref_exp (s : Fin 2) (q k : Fin 4096) :
    val_main_v52 (F := Ideal) x0 x1 x3 (ix5 b h s q k)
      = Ideal.exp (masked (Head.Seen q) ((arrHead x0 x1 x2 x3 x4 x5 b h).expo s q) k
          - Finset.univ.fold max (⊥ : EReal) (masked (Head.Seen q) ((arrHead x0 x1 x2 x3 x4 x5 b h).expo s q))) := by
  rw [val_main_v52_apply, val_main_v51_apply, ref_masked x0 x1 x2 x3 x4 x5 b h hH, val_main_v50_apply, val_main_v49_apply]
  rw [show idx_main_v49 (idx_main_v50 (ix5 b h s q k)) = ix4 b h s q by funext a; apply Fin.ext; fin_cases a <;> rfl,
    ref_max x0 x1 x2 x3 x4 x5 b h hH]
  rfl

/-- One probability: the weight over the sum of the weights. -/
theorem ref_prob (s : Fin 2) (q k : Fin 4096) :
    val_main_v56 (F := Ideal) x0 x1 x3 (ix5 b h s q k)
      = ((weight (Head.Seen q) ((arrHead x0 x1 x2 x3 x4 x5 b h).expo s q) k
          / ∑ k', weight (Head.Seen q) ((arrHead x0 x1 x2 x3 x4 x5 b h).expo s q) k' : ℝ) : EReal) := by
  rw [← softmax_eq (Head.Seen q) _ ⟨q, le_rfl⟩, val_main_v56_apply, ref_exp x0 x1 x2 x3 x4 x5 b h hH, val_main_v55_apply, val_main_v54_apply, val_main_v53_apply]
  have e5 : val_main_cst_5 (F := Ideal) (Shape.Idx.first h_S_) = (0 : EReal) := Ideal.ofBits_zero_f32
  rw [e5, zero_add]
  refine congrArg (Ideal.div _) (Finset.sum_congr rfl fun k' _ => ?_)
  rw [← ref_exp x0 x1 x2 x3 x4 x5 b h hH]
  congr 1; funext a; apply Fin.ext; fin_cases a <;> rfl

/-- The difference of the two attentions of one query and key. -/
theorem ref_attn (q k : Fin 4096) :
    val_main_v65 (F := Ideal) x0 x1 x3 x4 (ix4 b h q k)
      = ((weight (Head.Seen q) ((arrHead x0 x1 x2 x3 x4 x5 b h).expo 0 q) k
          / ∑ k', weight (Head.Seen q) ((arrHead x0 x1 x2 x3 x4 x5 b h).expo 0 q) k' : ℝ) : EReal)
        - (arrHead x0 x1 x2 x3 x4 x5 b h).lam * ((weight (Head.Seen q) ((arrHead x0 x1 x2 x3 x4 x5 b h).expo 1 q) k
          / ∑ k', weight (Head.Seen q) ((arrHead x0 x1 x2 x3 x4 x5 b h).expo 1 q) k' : ℝ) : EReal) := by
  rw [val_main_v65_apply, val_main_v64_apply, val_main_v58_apply, val_main_v57_apply, val_main_v62_apply, val_main_v61_apply, val_main_v63_apply]
  have i0 : idx_main_v57 (idx_main_v58 (ix4 b h q k)) = ix5 b h (0 : Fin 2) q k := by
    funext a; apply Fin.ext
    fin_cases a
    · show (((((b : ℕ) * 4 + h) * 4096 + q) * 4096 + k) / 67108864 : ℕ) = b; omega
    · show (((((b : ℕ) * 4 + h) * 4096 + q) * 4096 + k) / 16777216 % 4 : ℕ) = h; omega
    · rfl
    · show (((((b : ℕ) * 4 + h) * 4096 + q) * 4096 + k) / 4096 % 4096 : ℕ) = q; omega
    · show (((((b : ℕ) * 4 + h) * 4096 + q) * 4096 + k) % 4096 : ℕ) = k; omega
  have i1 : idx_main_v61 (idx_main_v62 (ix4 b h q k)) = ix5 b h (1 : Fin 2) q k := by
    funext a; apply Fin.ext
    fin_cases a
    · show (((((b : ℕ) * 4 + h) * 4096 + q) * 4096 + k) / 67108864 : ℕ) = b; omega
    · show (((((b : ℕ) * 4 + h) * 4096 + q) * 4096 + k) / 16777216 % 4 : ℕ) = h; omega
    · rfl
    · show (((((b : ℕ) * 4 + h) * 4096 + q) * 4096 + k) / 4096 % 4096 : ℕ) = q; omega
    · show (((((b : ℕ) * 4 + h) * 4096 + q) * 4096 + k) % 4096 : ℕ) = k; omega
  have el : val_main_v60 (F := Ideal) x4 (idx_main_v63 (ix4 b h q k)) = (arrHead x0 x1 x2 x3 x4 x5 b h).lam := by
    unfold val_main_v60
    rw [shapeCast_apply (val_main_v59 (F := Ideal) x4) shapeCasts_S1x1_S_ _ (ix2 (0 : Fin 1) (0 : Fin 1)) rfl, val_main_v59_apply]
    refine congrArg x4 ?_
    funext a; apply Fin.ext; fin_cases a <;> rfl
  rw [i0, i1, ref_prob x0 x1 x2 x3 x4 x5 b h hH, ref_prob x0 x1 x2 x3 x4 x5 b h hH, el]
  rfl

/-- The values summed by it. -/
theorem ref_diff (q : Fin 4096) (d : Fin 128) :
    val_main_v67 (F := Ideal) x0 x1 x2 x3 x4 (ix4 b q h d) = (arrHead x0 x1 x2 x3 x4 x5 b h).diff q d := by
  rw [← hH.diff_eq, val_main_v67_apply, val_main_v66_apply]
  refine Finset.sum_congr rfl fun k _ => congrArg₂ (fun x y : EReal => x * y) ?_ ?_
  · rw [val_main_v7_apply, val_main_v6_apply, val_main_v5_apply, val_main_v4_apply]
    show x2 _ = x2 _
    refine congrArg x2 ?_
    have hb := b.isLt; have hk := k.isLt; have hh := h.isLt; have hd := d.isLt
    have e : idx_main_v6 (idx_main_v7 (lidx_main_v66 (idx_main_v67 (ix4 b q h d)) k))
        = ix5 b (⟨(k : ℕ) / 256, by omega⟩ : Fin 16) h d (⟨(k : ℕ) % 256, by omega⟩ : Fin 256) := by
      funext a; apply Fin.ext
      fin_cases a
      · show ((((b : ℕ) * 4096 + k) * 4 + h) * 128 + d) / 2097152 = (b : ℕ); omega
      · show ((((b : ℕ) * 4096 + k) * 4 + h) * 128 + d) / 131072 % 16 = (k : ℕ) / 256; omega
      · show ((((b : ℕ) * 4096 + k) * 4 + h) * 128 + d) / 128 % 4 = (h : ℕ); omega
      · show ((((b : ℕ) * 4096 + k) * 4 + h) * 128 + d) % 128 = (d : ℕ); omega
      · show ((((b : ℕ) * 4096 + k) * 4 + h) * 128 + d) / 512 % 256 = (k : ℕ) % 256; omega
    rw [e]
    funext a; apply Fin.ext
    fin_cases a
    · show (((((b : ℕ) * 16 + (k : ℕ) / 256) * 4 + h) * 128 + d) * 256 + (k : ℕ) % 256) / 131072 = (b : ℕ) * 16 + (k : ℕ) / 256; omega
    · show (((((b : ℕ) * 16 + (k : ℕ) / 256) * 4 + h) * 128 + d) * 256 + (k : ℕ) % 256) / 32768 % 4 = (h : ℕ); omega
    · show (((((b : ℕ) * 16 + (k : ℕ) / 256) * 4 + h) * 128 + d) * 256 + (k : ℕ) % 256) / 256 % 128 = (d : ℕ); omega
    · show (((((b : ℕ) * 16 + (k : ℕ) / 256) * 4 + h) * 128 + d) * 256 + (k : ℕ) % 256) % 256 = (k : ℕ) % 256; omega
  · rw [← ref_attn x0 x1 x2 x3 x4 x5 b h hH]
    congr 1; funext a; apply Fin.ext; fin_cases a <;> rfl

/-- The output array of the reference. -/
theorem ref_out (p : Fin 4096) (d : Fin 128) :
    val_main_v84 (F := Ideal) x0 x1 x2 x3 x4 x5 (ix3 b p (⟨(h : ℕ) * 128 + d, by omega⟩ : Fin 512))
      = (arrHead x0 x1 x2 x3 x4 x5 b h).out p d := by
  rw [val_main_v84_apply, val_main_v83_apply]
  have i83 : idx_main_v83 (ix3 b p (⟨(h : ℕ) * 128 + d, by omega⟩ : Fin 512)) = ix4 b p h d := by
    funext a; apply Fin.ext
    fin_cases a
    · show ((((b : ℕ) * 4096 + p) * 512 + (h * 128 + d)) / 2097152 : ℕ) = b; omega
    · show ((((b : ℕ) * 4096 + p) * 512 + (h * 128 + d)) / 512 % 4096 : ℕ) = p; omega
    · show ((((b : ℕ) * 4096 + p) * 512 + (h * 128 + d)) / 128 % 4 : ℕ) = h; omega
    · show ((((b : ℕ) * 4096 + p) * 512 + (h * 128 + d)) % 128 : ℕ) = d; omega
  rw [i83, val_main_v82_apply, val_main_v80_apply, val_main_v77_apply, ref_diff x0 x1 x2 x3 x4 x5 b h hH, val_main_v76_apply, val_main_v75_apply,
    val_main_v74_apply, val_main_v73_apply, val_main_v72_apply, val_main_v71_apply, val_main_v70_apply, val_main_v69_apply,
    val_main_v81_apply, val_main_v79_apply, val_main_v78_apply]
  have e6 : val_main_cst_6 (F := Ideal) (Shape.Idx.first h_S_) = (0 : EReal) := Ideal.ofBits_zero_f32
  have e68 : ∀ e : Fin 128, val_main_v68 (F := Ideal) x0 x1 x2 x3 x4 (idx_main_v69 (idx_main_v70 (idx_main_v76 (ix4 b p h d))) e)
      = (arrHead x0 x1 x2 x3 x4 x5 b h).diff p e * (arrHead x0 x1 x2 x3 x4 x5 b h).diff p e := fun e => by
    rw [show idx_main_v69 (idx_main_v70 (idx_main_v76 (ix4 b p h d))) e = ix4 b p h e by funext a; apply Fin.ext; fin_cases a <;> rfl,
      val_main_v68_apply, ref_diff x0 x1 x2 x3 x4 x5 b h hH]
    rfl
  rw [e6, zero_add]
  simp only [e68]
  unfold Head.out
  rw [show idx_main_v78 (idx_main_v79 (ix4 b p h d)) = ix1 d by funext a; apply Fin.ext; fin_cases a; rfl]
  exact mul_assoc _ _ _

end Softmax

end Cert.Attn
-- ==== Proof.Claims.lean ====
/- The claims, each proved. -/
module

public import proofs.«01_k».proof.Defs
public import proofs.«01_k».proof.Proof.Prepared
public import proofs.«01_k».proof.Proof.RefOut
public import proofs.«01_k».proof.Proof.Gen.Kernel.Frame
public import proofs.«01_k».proof.Proof.Gen.KernelIdeal.Frame
public import proofs.«01_k».proof.Proof.Gen.ReferenceIdeal.Run

/-!
The two output arrays are one function of the arguments, head by head; with the two runs this is the algebraic claim.
-/

@[expose] public section

set_option maxRecDepth 16384
set_option maxHeartbeats 2000000

noncomputable section

namespace Cert.Attn

open Idealize.ShloMosaic Idealize.ShloMosaic.TcCoe Idealize.SL.Sem

/-- The precondition's side conditions. -/
theorem preFacts : Cert.Pre_prepared.Facts where
  slices_S4x3x512x512_S4x1x512x512_0_2_0_0 := by decide
  shapeCasts_S4x1x512x512_S4x512x512 := by decide
  slices_S4x3x512x512_S4x1x512x512_0_1_0_0 := by decide
  bcast_S_S4x512x512 := by decide
  bitsLt_bf16_f32 := by decide
  bcast_S_S512x32768 := by decide
  bcast_S_S8x4096x512 := by decide
  bcast_S_S128x4x128x256 := by decide
  bcast_S_S2x128 := by decide

/-- An array of the output's shape is known by its heads. -/
theorem by_heads (f g : Cert.KernelIdeal.S8x4096x512.Idx → EReal)
    (hfg : ∀ (b : Fin 8) (p : Fin 4096) (h : Fin 4) (d : Fin 128),
      f (ix3 b p (⟨(h : ℕ) * 128 + d, by omega⟩ : Fin 512)) = g (ix3 b p (⟨(h : ℕ) * 128 + d, by omega⟩ : Fin 512))) : f = g := by
  funext i
  have hl : (i 2).val < 512 := (i 2).isLt
  have hi : i = ix3 (i 0) (i 1) (⟨((⟨(i 2).val / 128, by omega⟩ : Fin 4) : ℕ) * 128 + ((⟨(i 2).val % 128, by omega⟩ : Fin 128) : ℕ),
      by show (i 2).val / 128 * 128 + (i 2).val % 128 < 512; omega⟩ : Fin 512) := by
    funext a; apply Fin.ext
    fin_cases a
    · rfl
    · rfl
    · show (i 2).val = (i 2).val / 128 * 128 + (i 2).val % 128; omega
  rw [hi]
  exact hfg _ _ _ _

/-- The kernel's output and the reference's are equal. -/
theorem algebraic : Cert.algebraic_KernelIdeal_ReferenceIdeal_pre_prepared (hKernelIdeal := Cert.KernelIdeal.Gen.facts)
    (hReferenceIdeal := Cert.ReferenceIdeal.Gen.facts) (hPre_prepared := preFacts) := by
  intro m g m' g' hpre hargs
  refine ⟨fun c => (Cert.KernelIdeal.Gen.dats m 0 c).arrAt 6 Cert.KernelIdeal.cfg0.N, Cert.KernelIdeal.Value.run_blocks m g, ?_⟩
  refine (θ_run _ _ _).mono (fun r hr c => ⟨(hr c).1.trans ?_, (hr c).2⟩) (Cert.ReferenceIdeal.Value.run m' g')
  rw [Cert.ReferenceIdeal.Read.val_main_v84_eq]
  obtain ⟨h0, h1, h2, h3, h4, h5⟩ := hargs c
  rw [h0, h1, h2, h3, h4, h5]
  refine by_heads _ _ fun b p h d => ?_
  have hp := hpre c
  have hH := @prepared_ok preFacts _ _ _ _ _ _ hp.1 hp.2.1 hp.2.2.1 hp.2.2.2.1 hp.2.2.2.2.1 hp.2.2.2.2.2 b h
  exact (ref_out _ _ _ _ _ _ b h hH p d).trans (array_eq m c b h hH p d).symm

end Cert.Attn
-- ==== Proof.Norm.lean ====
/- One row of the layer's projections. -/
module

public import Idealize.ShloMosaic.Lib.Pointwise
public import Idealize.ShloMosaic.PureOps.Ideal
public import Idealize.ShloMosaic.Lib.Pipeline.Value

/-!
What the input projection and the output projection compute for one position, as sums over the position's 1024 features:
the RMS norm of the row, a column of its projection, and the gated merge of the two branches with the residual.
-/

@[expose] public section

noncomputable section

namespace Cert.Proj

open Idealize.ShloMosaic

/-- The row `x` over its root mean square, times the gain `g`. -/
def normRow (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The normed row times the column `w` of the projection. -/
def column (x g w : Fin 1024 → EReal) : EReal := ∑ k : Fin 1024, normRow x g k * w k

/-- A branch's output `o`, gated by the logits `z`, times the column `p` of the branch's projection. -/
def branch (o z p : Fin 512 → EReal) : EReal := ∑ r : Fin 512, o r * (z r * Ideal.logistic (z r)) * p r

/-- The merge of the two branches at channel `k`: `z` holds the gate logits of the attention branch, of the S5 branch, and
    the merge logits of either. -/
def merged (z : Fin 3072 → EReal) (mb : Fin 2048 → EReal) (oa os : Fin 512 → EReal) (pa ps : Fin 512 → Fin 1024 → EReal) (k : Fin 1024) : EReal :=
  Ideal.logistic (z ⟨1024 + k, by omega⟩ + mb ⟨k, by omega⟩) * branch oa (fun r => z ⟨r, by omega⟩) (fun r => pa r k)
    + Ideal.logistic (z ⟨1024 + (1024 + k), by omega⟩ + mb ⟨1024 + k, by omega⟩) * branch os (fun r => z ⟨512 + r, by omega⟩) (fun r => ps r k)

/-- The layer's output at one position and feature `j`. -/
def outRow (x g : Fin 1024 → EReal) (w : Fin 1024 → Fin 3072 → EReal) (mb : Fin 2048 → EReal) (oa os : Fin 512 → EReal)
    (pa ps : Fin 512 → Fin 1024 → EReal) (wo : Fin 1024 → Fin 1024 → EReal) (j : Fin 1024) : EReal :=
  x j + ∑ k : Fin 1024, merged (fun c => column x g fun i => w i c) mb oa os pa ps k * wo k j

/-- The gates' columns among the 5120 of the combined projection. -/
def gateCol (c : Fin 3072) : Fin 5120 := if (c : ℕ) < 512 then ⟨1536 + c, by omega⟩ else ⟨2048 + c, by omega⟩

/-- Position `n` of the 32768, as batch entry and place in it. -/
theorem rows_apply {α : Type} {w : ℕ} (v : (⟨3, ![8, 4096, w]⟩ : Shape).Idx → α) (h : Shape.ShapeCasts ⟨3, ![8, 4096, w]⟩ ⟨2, ![32768, w]⟩) (n : Fin 32768) (k : Fin w) :
    shapeCast ⟨2, ![32768, w]⟩ v h (ix2 n k) = v (ix3 (⟨(n : ℕ) / 4096, by omega⟩ : Fin 8) (⟨(n : ℕ) % 4096, by omega⟩ : Fin 4096) k) := by
  refine shapeCast_apply _ _ _ _ ?_
  rw [Shape.rowMajor_val_three, Shape.rowMajor_val_two]
  show ((n : ℕ) / 4096 * 4096 + (n : ℕ) % 4096) * w + k = n * w + k
  rw [Nat.div_add_mod']

end Cert.Proj
-- ==== Proof.OutBlock.lean ====
/- What one grid point of the output projection writes. -/
module

public import proofs.«01_k».proof.Proof.Norm
public import proofs.«01_k».proof.Proof.Gen.Kernel2Ideal.Frame
public import Idealize.ShloMosaic.Lib.Pipeline.ValueKit.Basic

/-!
A grid point holds 1024 positions and all the weights. Its output block is `outRow` of each position.
-/

@[expose] public section

set_option maxRecDepth 16384
set_option maxHeartbeats 4000000

noncomputable section

namespace Cert.Proj

open Idealize.ShloMosaic
open Cert.Kernel2Ideal Cert.Kernel2Ideal.Gen

/-- The gate logits. -/
theorem logits_apply (x : Vec Ideal S1024x1024 .f32) (g : Vec Ideal S1x1024 .f32) (w : Vec Ideal S1024x3072 .bf16) (p : Fin 1024) (c : Fin 3072) :
    k0_pay3 (F := Ideal) x g w (ix2 p c) = column (fun k => x (ix2 p k)) (fun k => g (ix2 (0 : Fin 1) k)) (fun k => w (ix2 k c)) := by
  pointwise [k0_pay3, k0_pay2, column, normRow]

/-- The gated S5 branch. -/
theorem gated_apply (x : Vec Ideal S1024x1024 .f32) (g : Vec Ideal S1x1024 .f32) (w : Vec Ideal S1024x3072 .bf16) (o : Vec Ideal S1024x512 .bf16)
    (p : Fin 1024) (r : Fin 512) :
    k0_pay4 (F := Ideal) x g w o (ix2 p r) = (o (ix2 p r) : EReal) * ((k0_pay3 (F := Ideal) x g w (ix2 p (⟨512 + r, by omega⟩ : Fin 3072)) : EReal)
      * Ideal.logistic (k0_pay3 (F := Ideal) x g w (ix2 p (⟨512 + r, by omega⟩ : Fin 3072)))) := by
  unfold k0_pay4
  generalize k0_pay3 (F := Ideal) x g w = z
  pointwise []

/-- The attention branch after its projection. -/
theorem branch_apply (x : Vec Ideal S1024x1024 .f32) (g : Vec Ideal S1x1024 .f32) (w : Vec Ideal S1024x3072 .bf16) (o : Vec Ideal S1024x512 .bf16)
    (pa : Vec Ideal S512x1024 .bf16) (p k : Fin 1024) :
    k0_pay5 (F := Ideal) x g w o pa (ix2 p k) = branch (fun r => o (ix2 p r)) (fun r => k0_pay3 (F := Ideal) x g w (ix2 p (⟨r, by omega⟩ : Fin 3072)))
      (fun r => pa (ix2 r k)) := by
  unfold k0_pay5
  generalize k0_pay3 (F := Ideal) x g w = z
  pointwise [branch]

/-- The merge, the output projection and the residual. -/
theorem merge_apply (x : Vec Ideal S1024x1024 .f32) (z : Vec Ideal S1024x3072 .f32) (os : Vec Ideal S1024x512 .bf16) (ba : Vec Ideal S1024x1024 .f32)
    (ps : Vec Ideal S512x1024 .bf16) (mb : Vec Ideal S1x2048 .f32) (wo : Vec Ideal S1024x1024 .bf16) (p j : Fin 1024) :
    k0_pay1 (F := Ideal) (k0_pay2 (F := Ideal) x) z os ba ps mb wo (ix2 p j)
      = (x (ix2 p j) : EReal) + ∑ k : Fin 1024,
          (Ideal.logistic ((z (ix2 p (⟨1024 + k, by omega⟩ : Fin 3072)) : EReal) + mb (ix2 (0 : Fin 1) (⟨k, by omega⟩ : Fin 2048))) * ba (ix2 p k)
            + Ideal.logistic ((z (ix2 p (⟨1024 + (1024 + k), by omega⟩ : Fin 3072)) : EReal) + mb (ix2 (0 : Fin 1) (⟨1024 + k, by omega⟩ : Fin 2048)))
              * ∑ r : Fin 512, (os (ix2 p r) : EReal) * ps (ix2 r k)) * wo (ix2 k j) := by
  pointwise [k0_pay1, k0_pay2]

/-- The output block of a grid point, from the blocks of its arguments. -/
theorem out_point (x : Vec Ideal S1024x1024 .f32) (g : Vec Ideal S1x1024 .f32) (w : Vec Ideal S1024x3072 .bf16) (mb : Vec Ideal S1x2048 .f32)
    (oa os : Vec Ideal S1024x512 .bf16) (pa ps : Vec Ideal S512x1024 .bf16) (wo : Vec Ideal S1024x1024 .bf16) (p j : Fin 1024) :
    out0_9 (F := Ideal) x g w mb oa os pa ps wo (ix2 p j)
      = outRow (fun k => x (ix2 p k)) (fun k => g (ix2 (0 : Fin 1) k)) (fun k c => w (ix2 k c)) (fun c => mb (ix2 (0 : Fin 1) c))
          (fun r => oa (ix2 p r)) (fun r => os (ix2 p r)) (fun r k => pa (ix2 r k)) (fun r k => ps (ix2 r k)) (fun k i => wo (ix2 k i)) j := by
  have e : out0_9 (F := Ideal) x g w mb oa os pa ps wo
      = k0_pay1 (F := Ideal) (k0_pay2 (F := Ideal) x) (k0_pay3 (F := Ideal) x g w) (k0_pay4 (F := Ideal) x g w os) (k0_pay5 (F := Ideal) x g w oa pa) ps mb wo := by
    unfold out0_9
    rw [View.ld_unit_lit _ _ (by decide), View.ld_unit_lit _ _ (by decide), View.ld_unit_lit _ _ (by decide), View.ld_unit_lit _ _ (by decide),
      View.ld_unit_lit _ _ (by decide), View.ld_unit_lit _ _ (by decide), View.ld_unit_lit _ _ (by decide), View.ld_unit_lit _ _ (by decide),
      View.ld_unit_lit _ _ (by decide), View.canon_cons_unit_lit _ _ _ (by decide)]
  rw [e]
  refine (merge_apply x _ _ _ ps mb wo p j).trans ?_
  unfold outRow merged
  refine congrArg (fun y : EReal => (x (ix2 p j) : EReal) + y) (Finset.sum_congr rfl fun k _ => congrArg (fun y : EReal => y * wo (ix2 k j)) ?_)
  rw [branch_apply]
  simp only [gated_apply, logits_apply]
  rfl

end Cert.Proj
-- ==== Proof.OutArray.lean ====
/- What the output projection's array holds. -/
module

public import proofs.«01_k».proof.Proof.OutBlock
public import proofs.«01_k».proof.Proof.Gen.Kernel2Ideal.Value

/-!
The grid's 32 points are the blocks of 1024 positions, counted through all batch entries. Row `n` of the output array is
`outRow` of position `n` of the arguments.
-/

@[expose] public section

set_option maxRecDepth 16384
set_option maxHeartbeats 4000000

noncomputable section

namespace Cert.Proj

open Idealize.ShloMosaic Idealize.ShloMosaic.TcCoe Idealize.SL.Sem
open Cert.Kernel2Ideal Cert.Kernel2Ideal.Gen

/-- The output at row `n` and feature `j`, from the arguments. -/
def outArr (a0 : S8x4096x1024.Idx → EReal) (a1 : S1024.Idx → EReal) (a2 : S1024x5120.Idx → EReal) (a3 : S2048.Idx → EReal)
    (a4 a5 : S8x4096x512.Idx → EReal) (a6 a7 : S512x1024.Idx → EReal) (a8 : S1024x1024.Idx → EReal) (n : Fin 32768) (j : Fin 1024) : EReal :=
  outRow (fun k => a0 (ix3 (⟨(n : ℕ) / 4096, by omega⟩ : Fin 8) (⟨(n : ℕ) % 4096, by omega⟩ : Fin 4096) k)) (fun k => a1 (ix1 k))
    (fun k c => a2 (ix2 k (gateCol c))) (fun c => a3 (ix1 c))
    (fun r => a4 (ix3 (⟨(n : ℕ) / 4096, by omega⟩ : Fin 8) (⟨(n : ℕ) % 4096, by omega⟩ : Fin 4096) r))
    (fun r => a5 (ix3 (⟨(n : ℕ) / 4096, by omega⟩ : Fin 8) (⟨(n : ℕ) % 4096, by omega⟩ : Fin 4096) r))
    (fun r k => a6 (ix2 r k)) (fun r k => a7 (ix2 r k)) (fun k i => a8 (ix2 k i)) j

variable (m : (ℓ : Loc nD τ sig) → Buf (Elt Ideal) ℓ) (c : Dev nD)

theorem host_x (n : Fin 32768) (k : Fin 1024) :
    V m c main_v0 (ix2 n k) = m ((c : Thread nD τ).loc main_arg0) (ix3 (⟨(n : ℕ) / 4096, by omega⟩ : Fin 8) (⟨(n : ℕ) % 4096, by omega⟩ : Fin 4096) k) := by
  have h : V m c main_v0 = shapeCast S32768x1024 (m ((c : Thread nD τ).loc main_arg0) : Vec Ideal S8x4096x1024 .f32) shapeCasts_S8x4096x1024_S32768x1024 := by
    show StableHlo.after hostOps0 _ (Proc.devRef .tc main_v0) = _
    after_results
    rfl
  rw [h]
  exact rows_apply _ _ n k

theorem host_gain (k : Fin 1024) : V m c main_v1 (ix2 (0 : Fin 1) k) = m ((c : Thread nD τ).loc main_arg1) (ix1 k) := by
  have h : V m c main_v1 = shapeCast S1x1024 (m ((c : Thread nD τ).loc main_arg1) : Vec Ideal S1024 .f32) shapeCasts_S1024_S1x1024 := by
    show StableHlo.after hostOps0 _ (Proc.devRef .tc main_v1) = _
    after_results
    rfl
  rw [h]
  pointwise []

theorem host_gates (k : Fin 1024) (j : Fin 3072) : V m c main_v5 (ix2 k j) = m ((c : Thread nD τ).loc main_arg2) (ix2 k (gateCol j)) := by
  have h : V m c main_v5 = truncf (F := Ideal) .bf16 (concatenate S1024x3072 1
      [⟨S1024x512, extractStridedSlice S1024x512 ![0, 1536] (m ((c : Thread nD τ).loc main_arg2) : Vec Ideal S1024x5120 .f32) slices_S1024x5120_S1024x512_0_1536⟩,
       ⟨S1024x2560, extractStridedSlice S1024x2560 ![0, 2560] (m ((c : Thread nD τ).loc main_arg2) : Vec Ideal S1024x5120 .f32) slices_S1024x5120_S1024x2560_0_2560⟩]
      concatenates_S1024x512_S1024x2560_S1024x3072_d1) bitsLt_bf16_f32 := by
    show StableHlo.after hostOps0 _ (Proc.devRef .tc main_v5) = _
    after_results
  rw [h]
  pointwise [gateCol]
  split
  · rfl
  · refine congrArg (fun i : Fin 5120 => m ((c : Thread nD τ).loc main_arg2) (ix2 k i)) (Fin.ext ?_)
    show 2560 + ((j : ℕ) - 512) = 2048 + j
    omega

theorem host_bias (j : Fin 2048) : V m c main_v6 (ix2 (0 : Fin 1) j) = m ((c : Thread nD τ).loc main_arg3) (ix1 j) := by
  have h : V m c main_v6 = shapeCast S1x2048 (m ((c : Thread nD τ).loc main_arg3) : Vec Ideal S2048 .f32) shapeCasts_S2048_S1x2048 := by
    show StableHlo.after hostOps0 _ (Proc.devRef .tc main_v6) = _
    after_results
    rfl
  rw [h]
  pointwise []

theorem host_oa (n : Fin 32768) (k : Fin 512) :
    V m c main_v7 (ix2 n k) = m ((c : Thread nD τ).loc main_arg4) (ix3 (⟨(n : ℕ) / 4096, by omega⟩ : Fin 8) (⟨(n : ℕ) % 4096, by omega⟩ : Fin 4096) k) := by
  have h : V m c main_v7 = shapeCast S32768x512 (m ((c : Thread nD τ).loc main_arg4) : Vec Ideal S8x4096x512 .bf16) shapeCasts_S8x4096x512_S32768x512 := by
    show StableHlo.after hostOps0 _ (Proc.devRef .tc main_v7) = _
    after_results
    rfl
  rw [h]
  exact rows_apply _ _ n k

theorem host_os (n : Fin 32768) (k : Fin 512) :
    V m c main_v8 (ix2 n k) = m ((c : Thread nD τ).loc main_arg5) (ix3 (⟨(n : ℕ) / 4096, by omega⟩ : Fin 8) (⟨(n : ℕ) % 4096, by omega⟩ : Fin 4096) k) := by
  have h : V m c main_v8 = shapeCast S32768x512 (m ((c : Thread nD τ).loc main_arg5) : Vec Ideal S8x4096x512 .bf16) shapeCasts_S8x4096x512_S32768x512 := by
    show StableHlo.after hostOps0 _ (Proc.devRef .tc main_v8) = _
    after_results
    rfl
  rw [h]
  exact rows_apply _ _ n k

theorem host_pa : V m c main_v9 = truncf (F := Ideal) .bf16 (m ((c : Thread nD τ).loc main_arg6) : Vec Ideal S512x1024 .f32) bitsLt_bf16_f32 := by
  show StableHlo.after hostOps0 _ (Proc.devRef .tc main_v9) = _
  after_results

theorem host_ps : V m c main_v10 = truncf (F := Ideal) .bf16 (m ((c : Thread nD τ).loc main_arg7) : Vec Ideal S512x1024 .f32) bitsLt_bf16_f32 := by
  show StableHlo.after hostOps0 _ (Proc.devRef .tc main_v10) = _
  after_results

theorem host_wo : V m c main_v11 = truncf (F := Ideal) .bf16 (m ((c : Thread nD τ).loc main_arg8) : Vec Ideal S1024x1024 .f32) bitsLt_bf16_f32 := by
  show StableHlo.after hostOps0 _ (Proc.devRef .tc main_v11) = _
  after_results

theorem out_index0 : ∀ t : Fin grid0.N, win0_0.index t 0 = (t : ℕ) ∧ win0_0.index t 1 = 0 := by decide +kernel
theorem out_index1 : ∀ t : Fin grid0.N, win0_1.index t 0 = 0 ∧ win0_1.index t 1 = 0 := by decide +kernel
theorem out_index2 : ∀ t : Fin grid0.N, win0_2.index t 0 = 0 ∧ win0_2.index t 1 = 0 := by decide +kernel
theorem out_index3 : ∀ t : Fin grid0.N, win0_3.index t 0 = 0 ∧ win0_3.index t 1 = 0 := by decide +kernel
theorem out_index4 : ∀ t : Fin grid0.N, win0_4.index t 0 = (t : ℕ) ∧ win0_4.index t 1 = 0 := by decide +kernel
theorem out_index5 : ∀ t : Fin grid0.N, win0_5.index t 0 = (t : ℕ) ∧ win0_5.index t 1 = 0 := by decide +kernel
theorem out_index6 : ∀ t : Fin grid0.N, win0_6.index t 0 = 0 ∧ win0_6.index t 1 = 0 := by decide +kernel
theorem out_index7 : ∀ t : Fin grid0.N, win0_7.index t 0 = 0 ∧ win0_7.index t 1 = 0 := by decide +kernel
theorem out_index8 : ∀ t : Fin grid0.N, win0_8.index t 0 = 0 ∧ win0_8.index t 1 = 0 := by decide +kernel
theorem out_index9 : ∀ t : Fin grid0.N, win0_9.index t 0 = (t : ℕ) ∧ win0_9.index t 1 = 0 := by decide +kernel

theorem out_block0 (t : Fin grid0.N) (n : Fin 32768) (p : Fin 1024) (hn : (n : ℕ) = t * 1024 + p) (k : Fin 1024) :
    iblk m c 0 t (ix2 p k) = V m c main_v0 (ix2 n k) := by
  unfold iblk
  rw [View.read_apply]
  show V m c main_v0 _ = _
  refine congrArg (V m c main_v0) ?_
  funext a; apply Fin.ext
  fin_cases a
  · show win0_0.index t 0 * 1024 + 1 * (p : ℕ) = n; rw [(out_index0 t).1]; omega
  · show win0_0.index t 1 * 1024 + 1 * (k : ℕ) = k; rw [(out_index0 t).2]; omega

theorem out_block1 (t : Fin grid0.N) (i : Fin 1) (k : Fin 1024) : iblk m c 1 t (ix2 i k) = V m c main_v1 (ix2 i k) := by
  unfold iblk
  rw [View.read_apply]
  show V m c main_v1 _ = _
  refine congrArg (V m c main_v1) ?_
  funext a; apply Fin.ext
  fin_cases a
  · show win0_1.index t 0 * 1 + 1 * (i : ℕ) = i; rw [(out_index1 t).1]; omega
  · show win0_1.index t 1 * 1024 + 1 * (k : ℕ) = k; rw [(out_index1 t).2]; omega

theorem out_block2 (t : Fin grid0.N) (i : Fin 1024) (k : Fin 3072) : iblk m c 2 t (ix2 i k) = V m c main_v5 (ix2 i k) := by
  unfold iblk
  rw [View.read_apply]
  show V m c main_v5 _ = _
  refine congrArg (V m c main_v5) ?_
  funext a; apply Fin.ext
  fin_cases a
  · show win0_2.index t 0 * 1024 + 1 * (i : ℕ) = i; rw [(out_index2 t).1]; omega
  · show win0_2.index t 1 * 3072 + 1 * (k : ℕ) = k; rw [(out_index2 t).2]; omega

theorem out_block3 (t : Fin grid0.N) (i : Fin 1) (k : Fin 2048) : iblk m c 3 t (ix2 i k) = V m c main_v6 (ix2 i k) := by
  unfold iblk
  rw [View.read_apply]
  show V m c main_v6 _ = _
  refine congrArg (V m c main_v6) ?_
  funext a; apply Fin.ext
  fin_cases a
  · show win0_3.index t 0 * 1 + 1 * (i : ℕ) = i; rw [(out_index3 t).1]; omega
  · show win0_3.index t 1 * 2048 + 1 * (k : ℕ) = k; rw [(out_index3 t).2]; omega

theorem out_block4 (t : Fin grid0.N) (n : Fin 32768) (p : Fin 1024) (hn : (n : ℕ) = t * 1024 + p) (k : Fin 512) :
    iblk m c 4 t (ix2 p k) = V m c main_v7 (ix2 n k) := by
  unfold iblk
  rw [View.read_apply]
  show V m c main_v7 _ = _
  refine congrArg (V m c main_v7) ?_
  funext a; apply Fin.ext
  fin_cases a
  · show win0_4.index t 0 * 1024 + 1 * (p : ℕ) = n; rw [(out_index4 t).1]; omega
  · show win0_4.index t 1 * 512 + 1 * (k : ℕ) = k; rw [(out_index4 t).2]; omega

theorem out_block5 (t : Fin grid0.N) (n : Fin 32768) (p : Fin 1024) (hn : (n : ℕ) = t * 1024 + p) (k : Fin 512) :
    iblk m c 5 t (ix2 p k) = V m c main_v8 (ix2 n k) := by
  unfold iblk
  rw [View.read_apply]
  show V m c main_v8 _ = _
  refine congrArg (V m c main_v8) ?_
  funext a; apply Fin.ext
  fin_cases a
  · show win0_5.index t 0 * 1024 + 1 * (p : ℕ) = n; rw [(out_index5 t).1]; omega
  · show win0_5.index t 1 * 512 + 1 * (k : ℕ) = k; rw [(out_index5 t).2]; omega

theorem out_block6 (t : Fin grid0.N) (i : Fin 512) (k : Fin 1024) : iblk m c 6 t (ix2 i k) = V m c main_v9 (ix2 i k) := by
  unfold iblk
  rw [View.read_apply]
  show V m c main_v9 _ = _
  refine congrArg (V m c main_v9) ?_
  funext a; apply Fin.ext
  fin_cases a
  · show win0_6.index t 0 * 512 + 1 * (i : ℕ) = i; rw [(out_index6 t).1]; omega
  · show win0_6.index t 1 * 1024 + 1 * (k : ℕ) = k; rw [(out_index6 t).2]; omega

theorem out_block7 (t : Fin grid0.N) (i : Fin 512) (k : Fin 1024) : iblk m c 7 t (ix2 i k) = V m c main_v10 (ix2 i k) := by
  unfold iblk
  rw [View.read_apply]
  show V m c main_v10 _ = _
  refine congrArg (V m c main_v10) ?_
  funext a; apply Fin.ext
  fin_cases a
  · show win0_7.index t 0 * 512 + 1 * (i : ℕ) = i; rw [(out_index7 t).1]; omega
  · show win0_7.index t 1 * 1024 + 1 * (k : ℕ) = k; rw [(out_index7 t).2]; omega

theorem out_block8 (t : Fin grid0.N) (i : Fin 1024) (k : Fin 1024) : iblk m c 8 t (ix2 i k) = V m c main_v11 (ix2 i k) := by
  unfold iblk
  rw [View.read_apply]
  show V m c main_v11 _ = _
  refine congrArg (V m c main_v11) ?_
  funext a; apply Fin.ext
  fin_cases a
  · show win0_8.index t 0 * 1024 + 1 * (i : ℕ) = i; rw [(out_index8 t).1]; omega
  · show win0_8.index t 1 * 1024 + 1 * (k : ℕ) = k; rw [(out_index8 t).2]; omega

/-- The output array. -/
theorem out_array (n : Fin 32768) (j : Fin 1024) :
    (dats m 0 c).arrAt 9 cfg0.N (ix2 n j)
      = outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) n j := by
  obtain ⟨t, ht⟩ : ∃ t : Fin grid0.N, (t : ℕ) = n / 1024 := ⟨⟨n / 1024, by rw [show grid0.N = 32 from N_0]; omega⟩, rfl⟩
  obtain ⟨p, hp⟩ : ∃ p : Fin 1024, (p : ℕ) = n % 1024 := ⟨⟨n % 1024, by omega⟩, rfl⟩
  have hn : (n : ℕ) = t * 1024 + p := by omega
  have hb := congrFun (Value.blocks9 m c t (flush0_9 t)) (ix2 p j)
  rw [View.read_apply, Value.flushed9] at hb
  have he : ((cfg0.win 9).blk t).view.emb (ix2 p j) = ix2 n j := by
    funext a; apply Fin.ext
    fin_cases a
    · show win0_9.index t 0 * 1024 + 1 * (p : ℕ) = n; rw [(out_index9 t).1]; omega
    · show win0_9.index t 1 * 1024 + 1 * (j : ℕ) = j; rw [(out_index9 t).2]; omega
  rw [← he]
  refine hb.trans ?_
  refine (out_point (iblk m c 0 t) (iblk m c 1 t) (iblk m c 2 t) (iblk m c 3 t) (iblk m c 4 t) (iblk m c 5 t) (iblk m c 6 t) (iblk m c 7 t) (iblk m c 8 t) p j).trans ?_
  unfold outArr
  congr 1
  · funext k; exact (out_block0 m c t n p hn k).trans (host_x m c n k)
  · funext k; exact (out_block1 m c t 0 k).trans (host_gain m c k)
  · funext k j; exact (out_block2 m c t k j).trans (host_gates m c k j)
  · funext j; exact (out_block3 m c t 0 j).trans (host_bias m c j)
  · funext r; exact (out_block4 m c t n p hn r).trans (host_oa m c n r)
  · funext r; exact (out_block5 m c t n p hn r).trans (host_os m c n r)
  · funext r k; exact (out_block6 m c t r k).trans (congrFun (host_pa m c) (ix2 r k))
  · funext r k; exact (out_block7 m c t r k).trans (congrFun (host_ps m c) (ix2 r k))
  · funext k i; exact (out_block8 m c t k i).trans (congrFun (host_wo m c) (ix2 k i))

end Cert.Proj
-- ==== Proof.OutRef.lean ====
/- The reference of the output projection. -/
module

public import proofs.«01_k».proof.Proof.OutArray
public import proofs.«01_k».proof.Proof.Gen.Reference2Ideal.Read

/-!
The reference's result at row `n` is `outArr`: the same sums, with the gates' columns taken out of the combined projection.
-/

@[expose] public section

set_option maxRecDepth 16384
set_option maxHeartbeats 4000000

noncomputable section

namespace Cert.Proj

open Idealize.ShloMosaic
open Cert.Reference2Ideal Cert.Reference2Ideal.Gen Cert.Reference2Ideal.Read

variable (x0 : S8x4096x1024.Idx → EReal) (x1 : S1024.Idx → EReal) (x2 : S1024x5120.Idx → EReal) (x3 : S2048.Idx → EReal)
    (x4 x5 : S8x4096x512.Idx → EReal) (x6 x7 : S512x1024.Idx → EReal) (x8 : S1024x1024.Idx → EReal) (b : Fin 8) (l : Fin 4096)

/-- The normed input. -/
theorem out_normed (k : Fin 1024) :
    val_main_v12 (F := Ideal) x0 x1 (ix3 b l k) = normRow (fun k => x0 (ix3 b l k)) (fun k => x1 (ix1 k)) k := by
  rw [val_main_v12_apply, val_main_v9_apply, val_main_v11_apply, val_main_v10_apply, val_main_v8_apply, val_main_v7_apply, val_main_v6_apply,
    val_main_v4_apply, val_main_v2_apply, val_main_v1_apply, val_main_v3_apply, val_main_v5_apply]
  have es : ∀ j : Fin 1024, val_main_v0 (F := Ideal) x0 (idx_main_v1 (idx_main_v2 (idx_main_v8 (ix3 b l k))) j) = x0 (ix3 b l j) * x0 (ix3 b l j) := by
    intro j
    rw [val_main_v0_apply]
    have : idx_main_v1 (idx_main_v2 (idx_main_v8 (ix3 b l k))) j = ix3 b l j := by
      funext a; apply Fin.ext; fin_cases a <;> rfl
    rw [this]
    rfl
  have e0 : val_main_cst (F := Ideal) (Shape.Idx.first h_S_) = (0 : EReal) := Ideal.ofBits_zero_f32
  have eg : idx_main_v10 (idx_main_v11 (ix3 b l k)) = ix1 k := by
    funext a; apply Fin.ext; fin_cases a; rfl
  simp only [es, eg]
  rw [e0, zero_add]
  rfl

/-- A column of the combined projection. -/
theorem out_column (j : Fin 5120) :
    val_main_v13 (F := Ideal) x0 x1 x2 (ix3 b l j) = column (fun k => x0 (ix3 b l k)) (fun k => x1 (ix1 k)) (fun k => x2 (ix2 k j)) := by
  rw [val_main_v13_apply]
  unfold column
  refine Finset.sum_congr rfl fun k _ => congrArg₂ (fun x y : EReal => x * y) ?_ (congrArg x2 ?_)
  · rw [← out_normed]
    congr 1; funext a; apply Fin.ext; fin_cases a <;> rfl
  · funext a; apply Fin.ext; fin_cases a <;> rfl

/-- The gate logits, in the order of the kernel's columns. -/
def gateLogits (c : Fin 3072) : EReal := column (fun k => x0 (ix3 b l k)) (fun k => x1 (ix1 k)) (fun k => x2 (ix2 k (gateCol c)))

theorem gate_lo (r : Fin 512) : val_main_v17 (F := Ideal) x0 x1 x2 (ix3 b l r) = gateLogits x0 x1 x2 b l ⟨r, by omega⟩ := by
  rw [val_main_v17_apply]
  refine Eq.trans ?_ (out_column x0 x1 x2 b l _)
  refine congrArg (val_main_v13 (F := Ideal) x0 x1 x2) ?_
  funext a; apply Fin.ext
  fin_cases a
  · rfl
  · rfl
  · show 1536 + (r : ℕ) = (gateCol ⟨r, by omega⟩ : ℕ)
    unfold gateCol
    rw [if_pos (show (r : ℕ) < 512 by omega)]

theorem gate_hi (r : Fin 512) : val_main_v19 (F := Ideal) x0 x1 x2 (ix3 b l r) = gateLogits x0 x1 x2 b l ⟨512 + r, by omega⟩ := by
  rw [val_main_v19_apply]
  refine Eq.trans ?_ (out_column x0 x1 x2 b l _)
  refine congrArg (val_main_v13 (F := Ideal) x0 x1 x2) ?_
  funext a; apply Fin.ext
  fin_cases a
  · rfl
  · rfl
  · show 2560 + (r : ℕ) = (gateCol ⟨512 + r, by omega⟩ : ℕ)
    unfold gateCol
    rw [if_neg (show ¬ 512 + (r : ℕ) < 512 by omega)]
    show 2560 + (r : ℕ) = 2048 + (512 + r)
    omega

theorem gate_merge (k : Fin 2048) : val_main_v20 (F := Ideal) x0 x1 x2 (ix3 b l k) = gateLogits x0 x1 x2 b l ⟨1024 + k, by omega⟩ := by
  rw [val_main_v20_apply]
  refine Eq.trans ?_ (out_column x0 x1 x2 b l _)
  refine congrArg (val_main_v13 (F := Ideal) x0 x1 x2) ?_
  funext a; apply Fin.ext
  fin_cases a
  · rfl
  · rfl
  · show 3072 + (k : ℕ) = (gateCol ⟨1024 + k, by omega⟩ : ℕ)
    unfold gateCol
    rw [if_neg (show ¬ 1024 + (k : ℕ) < 512 by omega)]
    show 3072 + (k : ℕ) = 2048 + (1024 + k)
    omega

/-- The gated attention branch. -/
theorem gated_a (r : Fin 512) : val_main_v23 (F := Ideal) x0 x1 x2 x4 (ix3 b l r)
    = x4 (ix3 b l r) * (gateLogits x0 x1 x2 b l ⟨r, by omega⟩ * Ideal.logistic (gateLogits x0 x1 x2 b l ⟨r, by omega⟩)) := by
  rw [val_main_v23_apply, val_main_v21_apply, val_main_v22_apply, val_main_call0_v5_apply, val_main_call0_v4_apply, val_main_call0_v3_apply,
    val_main_call0_v2_apply, val_main_call0_v1_apply, val_main_call0_v0_apply, gate_lo]
  unfold Ideal.logistic
  rw [← Ideal.ofBits_one_f32]
  rfl

/-- The gated S5 branch. -/
theorem gated_s (r : Fin 512) : val_main_v26 (F := Ideal) x0 x1 x2 x5 (ix3 b l r)
    = x5 (ix3 b l r) * (gateLogits x0 x1 x2 b l ⟨512 + r, by omega⟩ * Ideal.logistic (gateLogits x0 x1 x2 b l ⟨512 + r, by omega⟩)) := by
  rw [val_main_v26_apply, val_main_v24_apply, val_main_v25_apply, val_main_call1_v5_apply, val_main_call1_v4_apply, val_main_call1_v3_apply,
    val_main_call1_v2_apply, val_main_call1_v1_apply, val_main_call1_v0_apply, gate_hi]
  unfold Ideal.logistic
  rw [← Ideal.ofBits_one_f32]
  rfl

/-- The merge gates. -/
theorem merge_gate (k : Fin 2048) : val_main_v35 (F := Ideal) x0 x1 x2 x3 (ix3 b l k)
    = Ideal.logistic (gateLogits x0 x1 x2 b l ⟨1024 + k, by omega⟩ + x3 (ix1 k)) := by
  rw [val_main_v35_apply, val_main_v34_apply, val_main_v33_apply, val_main_v32_apply, val_main_v31_apply, val_main_v30_apply, val_main_v29_apply,
    val_main_v28_apply, val_main_v27_apply, gate_merge]
  have eb : idx_main_v27 (idx_main_v28 (ix3 b l k)) = ix1 k := by
    funext a; apply Fin.ext; fin_cases a; rfl
  rw [eb]
  unfold Ideal.logistic
  rw [← Ideal.ofBits_one_f32]
  rfl

/-- The merge of the branches. -/
theorem ref_merged (k : Fin 1024) : val_main_v42 (F := Ideal) x0 x1 x2 x3 x4 x5 x6 x7 (ix3 b l k)
    = merged (gateLogits x0 x1 x2 b l) (fun c => x3 (ix1 c)) (fun r => x4 (ix3 b l r)) (fun r => x5 (ix3 b l r)) (fun r k => x6 (ix2 r k)) (fun r k => x7 (ix2 r k)) k := by
  rw [val_main_v42_apply, val_main_v39_apply, val_main_v41_apply, val_main_v36_apply, val_main_v37_apply, val_main_v38_apply, val_main_v40_apply]
  have i36 : idx_main_v36 (ix3 b l k) = ix3 b l (⟨k, by omega⟩ : Fin 2048) := by funext a; apply Fin.ext; fin_cases a <;> rfl
  have i37 : idx_main_v37 (ix3 b l k) = ix3 b l (⟨1024 + k, by omega⟩ : Fin 2048) := by funext a; apply Fin.ext; fin_cases a <;> rfl
  have l38 : ∀ r : Fin 512, lidx_main_v38 (ix3 b l k) r = ix3 b l r := by intro r; funext a; apply Fin.ext; fin_cases a <;> rfl
  have r38 : ∀ r : Fin 512, ridx_main_v38 (ix3 b l k) r = ix2 r k := by intro r; funext a; apply Fin.ext; fin_cases a <;> rfl
  have l40 : ∀ r : Fin 512, lidx_main_v40 (ix3 b l k) r = ix3 b l r := by intro r; funext a; apply Fin.ext; fin_cases a <;> rfl
  have r40 : ∀ r : Fin 512, ridx_main_v40 (ix3 b l k) r = ix2 r k := by intro r; funext a; apply Fin.ext; fin_cases a <;> rfl
  simp only [i36, i37, l38, r38, l40, r40, merge_gate, gated_a, gated_s]
  rfl

/-- The reference's result. -/
theorem out_ref (n : Fin 32768) (j : Fin 1024) :
    val_main_v45 (F := Ideal) x0 x1 x2 x3 x4 x5 x6 x7 x8 (ix2 n j) = outArr x0 x1 x2 x3 x4 x5 x6 x7 x8 n j := by
  have hi : idx_main_v45 (ix2 n j) = ix3 (⟨(n : ℕ) / 4096, by omega⟩ : Fin 8) (⟨(n : ℕ) % 4096, by omega⟩ : Fin 4096) j := by
    funext a; apply Fin.ext
    fin_cases a
    · show ((n : ℕ) * 1024 + j) / 4194304 = n / 4096; omega
    · show ((n : ℕ) * 1024 + j) / 1024 % 4096 = n % 4096; omega
    · show ((n : ℕ) * 1024 + j) % 1024 = j; omega
  rw [val_main_v45_apply, hi, val_main_v44_apply, val_main_v43_apply]
  unfold outArr outRow
  refine congrArg₂ (fun x y : EReal => x + y) rfl (Finset.sum_congr rfl fun k _ => congrArg₂ (fun x y : EReal => x * y) ?_ (congrArg x8 ?_))
  · refine Eq.trans ?_ (ref_merged x0 x1 x2 x3 x4 x5 x6 x7 _ _ k)
    congr 1; funext a; apply Fin.ext; fin_cases a <;> rfl
  · funext a; apply Fin.ext; fin_cases a <;> rfl

end Cert.Proj
-- ==== Proof.OutClaims.lean ====
/- The claims of the output projection. -/
module

public import proofs.«01_k».proof.Defs
public import proofs.«01_k».proof.Proof.OutRef

/-!
The kernel's output array and the reference's result are both `outArr` of the arguments.
-/

@[expose] public section

set_option maxRecDepth 16384
set_option maxHeartbeats 2000000

noncomputable section

namespace Cert.Proj

open Idealize.ShloMosaic Idealize.ShloMosaic.TcCoe Idealize.SL.Sem

/-- The reference's arguments end as they were, and it has no semaphores. -/
theorem out_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- A matrix of the output's shape is known by its entries. -/
theorem by_entries (f g : Cert.Kernel2Ideal.S32768x1024.Idx → EReal) (hfg : ∀ (n : Fin 32768) (j : Fin 1024), f (ix2 n j) = g (ix2 n j)) : f = g := by
  funext i
  have hi : i = ix2 (i 0) (i 1) := by
    funext a; apply Fin.ext
    fin_cases a <;> rfl
  rw [hi]
  exact hfg _ _

/-- The kernel's output and the reference's are equal. -/
theorem out_algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 9 Cert.Kernel2Ideal.cfg0.N, Cert.Kernel2Ideal.Value.run_blocks m g, ?_⟩
  refine (θ_run _ _ _).mono (fun r hr c => ⟨(hr c).1.trans ?_, (hr c).2⟩) (Cert.Reference2Ideal.Value.run m' g')
  rw [Cert.Reference2Ideal.Read.val_main_v45_eq]
  obtain ⟨h0, h1, h2, h3, h4, h5, h6, h7, h8⟩ := hargs c
  rw [h0, h1, h2, h3, h4, h5, h6, h7, h8]
  exact by_entries _ _ fun n j => (out_ref _ _ _ _ _ _ _ _ _ n j).trans (out_array m c n j).symm

end Cert.Proj
-- ==== Proof.InNorm.lean ====
/- The norm of a query or key head. -/
module

public import proofs.«01_k».proof.Proof.Norm
public import proofs.«01_k».proof.Proof.Softmax

/-!
A head of 64 features over its root mean square, in the forms that the kernel and the reference give it: the mean as a
quotient by 64 or a product with 1/64, the sum of squares as a product with a matrix of zeros and ones, and the queries'
scale before or after the product with the gain.
-/

@[expose] public section

noncomputable section

namespace Cert.Proj

open Idealize.ShloMosaic

/-- Feature `d` of the head `z` over its root mean square. -/
def headNorm (z : Fin 64 → EReal) (d : Fin 64) : EReal :=
  z d * Ideal.rsqrt (Ideal.div (∑ e : Fin 64, z e * z e) (Ideal.ofBits .f32 0x42800000#32) + Ideal.ofBits .f32 0x358637BD#32)

theorem sixty_four : Ideal.ofBits .f32 0x42800000#32 = ((64 : ℝ) : EReal) := by
  simp [Ideal.ofBits, Ideal.ieee, -EReal.coe_mul]
  norm_num

theorem one_64th : Ideal.ofBits .f32 0x3C800000#32 = ((1 / 64 : ℝ) : EReal) := by
  simp [Ideal.ofBits, Ideal.ieee, -EReal.coe_mul]
  norm_num

theorem one_eighth : Ideal.ofBits .f32 0x3E000000#32 = ((1 / 8 : ℝ) : EReal) := by
  simp [Ideal.ofBits, Ideal.ieee, -EReal.coe_mul]
  norm_num

/-- The mean as a product. -/
theorem mean_64 (s : EReal) : s * Ideal.ofBits .f32 0x3C800000#32 = Ideal.div s (Ideal.ofBits .f32 0x42800000#32) := by
  rw [one_64th, sixty_four, Ideal.div_coe (by norm_num)]

/-- The queries' scale: 1/8, then a quotient by the logarithm of 2. -/
theorem query_scale (x g : EReal) :
    Ideal.div (x * g * Ideal.ofBits .f32 0x3E000000#32) (Ideal.log (Ideal.ofBits .f32 0x40000000#32)) = x * (g * (((8 * Real.log 2)⁻¹ : ℝ) : EReal)) := by
  have h : Real.log 2 ≠ 0 := (Real.log_pos (by norm_num)).ne'
  rw [one_eighth, Cert.Attn.log_two, Ideal.div_coe h, mul_assoc, mul_assoc, ← EReal.coe_mul]
  congr 3
  rw [mul_inv]
  ring

/-- A product with the columns of a matrix that has ones within groups of 64 and zeros elsewhere sums a group. -/
theorem group_sum (f s : Fin 256 → EReal) (c : Fin 256)
    (hs : ∀ j : Fin 256, s j = if (j : ℕ) / 64 = (c : ℕ) / 64 then 1 else 0) :
    ∑ j : Fin 256, f j * s j = ∑ e : Fin 64, f ⟨(c : ℕ) / 64 * 64 + e, by omega⟩ := by
  have h : ∀ j : Fin 256, f j * s j = if (j : ℕ) / 64 = (c : ℕ) / 64 then f j else 0 := by
    intro j
    rw [hs j]
    split <;> simp
  rw [Finset.sum_congr rfl fun j _ => h j, ← Finset.sum_filter]
  refine Finset.sum_bij' (fun j _ => (⟨(j : ℕ) % 64, by omega⟩ : Fin 64)) (fun e _ => (⟨(c : ℕ) / 64 * 64 + e, by omega⟩ : Fin 256)) ?_ ?_ ?_ ?_ ?_
  · intro j _; exact Finset.mem_univ _
  · intro e _
    rw [Finset.mem_filter]
    refine ⟨Finset.mem_univ _, ?_⟩
    show ((c : ℕ) / 64 * 64 + e) / 64 = c / 64
    omega
  · intro j hj
    have hj := (Finset.mem_filter.mp hj).2
    apply Fin.ext
    show (c : ℕ) / 64 * 64 + (j : ℕ) % 64 = j
    omega
  · intro e _
    apply Fin.ext
    show ((c : ℕ) / 64 * 64 + (e : ℕ)) % 64 = e
    omega
  · intro j hj
    have hj := (Finset.mem_filter.mp hj).2
    congr 1
    apply Fin.ext
    show (j : ℕ) = (c : ℕ) / 64 * 64 + (j : ℕ) % 64
    omega

/-- The columns of the keys and of the S5 input. -/
def kuCol (c : Fin 1024) : Fin 5120 := if (c : ℕ) < 512 then ⟨512 + c, by omega⟩ else ⟨1536 + c, by omega⟩

/-- The columns of the queries and of the values. -/
def qvCol (c : Fin 1024) : Fin 5120 := if (c : ℕ) < 512 then ⟨c, by omega⟩ else ⟨512 + c, by omega⟩

end Cert.Proj
-- ==== Proof.InBlock.lean ====
/- What one grid point of the input projection writes. -/
module

public import proofs.«01_k».proof.Proof.InNorm
public import proofs.«01_k».proof.Proof.Gen.Kernel3Ideal.Value
public import Idealize.ShloMosaic.Lib.Pipeline.ValueKit.Basic

/-!
A grid point holds 1024 positions and all the weights. It computes the keys and the S5 input with the positions along the
rows, the queries and the values with the positions along the columns.
-/

@[expose] public section

set_option maxRecDepth 16384
set_option maxHeartbeats 4000000

noncomputable section

namespace Cert.Proj

open Idealize.ShloMosaic
open Cert.Kernel3Ideal Cert.Kernel3Ideal.Gen

/-- The queries' scale, named. -/
theorem scale_named : Named.named (F := Ideal) Cert.Kernel3Ideal.κ "query_scale" (φ := .f32) 0x3E38AA3B#32 = (((8 * Real.log 2)⁻¹ : ℝ) : EReal) :=
  IdealRules.named_const.ideal_named_scalar _ _ _ _ rfl

/-- The keys and the S5 input, before the keys' norm. -/
theorem rows_proj (x : Vec Ideal S1024x1024 .f32) (g : Vec Ideal S1x1024 .f32) (w : Vec Ideal S1024x1024 .bf16) (p c : Fin 1024) :
    k0_pay4 (F := Ideal) x g w (ix2 p c) = column (fun k => x (ix2 p k)) (fun k => g (ix2 (0 : Fin 1) k)) (fun k => w (ix2 k c)) := by
  pointwise [k0_pay4, k0_pay3, column, normRow]

/-- The queries and the values, before the queries' norm. -/
theorem cols_proj (x : Vec Ideal S1024x1024 .f32) (g : Vec Ideal S1x1024 .f32) (w : Vec Ideal S1024x1024 .bf16) (r p : Fin 1024) :
    k0_pay5 (F := Ideal) x g w (ix2 r p) = column (fun k => x (ix2 p k)) (fun k => g (ix2 (0 : Fin 1) k)) (fun k => w (ix2 r k)) := by
  have h : k0_pay5 (F := Ideal) x g w (ix2 r p) = ∑ k : Fin 1024, (w (ix2 r k) : EReal) * normRow (fun k => x (ix2 p k)) (fun k => g (ix2 (0 : Fin 1) k)) k := by
    pointwise [k0_pay5, k0_pay3, normRow]
  rw [h]
  exact Finset.sum_congr rfl fun k _ => mul_comm _ _

/-- The keys' reciprocal root. -/
theorem key_root (x : Vec Ideal S1024x1024 .f32) (g : Vec Ideal S1x1024 .f32) (w : Vec Ideal S1024x1024 .bf16) (s : Vec Ideal S256x256 .bf16)
    (hs : ∀ i j : Fin 256, (s (ix2 i j) : EReal) = if (i : ℕ) / 64 = (j : ℕ) / 64 then 1 else 0) (p : Fin 1024) (c : Fin 512) :
    k0_pay7 (F := Ideal) x g w s s (ix2 p c)
      = Ideal.rsqrt (Ideal.div (∑ e : Fin 64, (k0_pay4 (F := Ideal) x g w (ix2 p (⟨(c : ℕ) / 64 * 64 + e, by omega⟩ : Fin 1024)) : EReal)
          * k0_pay4 (F := Ideal) x g w (ix2 p (⟨(c : ℕ) / 64 * 64 + e, by omega⟩ : Fin 1024))) (Ideal.ofBits .f32 0x42800000#32)
          + Ideal.ofBits .f32 0x358637BD#32) := by
  unfold k0_pay7 k0_pay6
  generalize k0_pay4 (F := Ideal) x g w = z
  rw [← mean_64]
  pointwise []
  refine congrArg (fun t : EReal => Ideal.rsqrt (t * Ideal.ofBits .f32 0x3C800000#32 + Ideal.ofBits .f32 0x358637BD#32)) ?_
  by_cases hc : (c : ℕ) < 256
  · rw [dif_pos hc]
    exact group_sum (fun j => (z (ix2 p (⟨j, by omega⟩ : Fin 1024)) : EReal) * z (ix2 p (⟨j, by omega⟩ : Fin 1024)))
      (fun j => s (ix2 j (⟨c, hc⟩ : Fin 256))) ⟨c, hc⟩ (fun j => hs j _)
  · rw [dif_neg hc]
    refine (group_sum (fun j => (z (ix2 p (⟨256 + j, by omega⟩ : Fin 1024)) : EReal) * z (ix2 p (⟨256 + j, by omega⟩ : Fin 1024)))
      (fun j => s (ix2 j (⟨(c : ℕ) - 256, by omega⟩ : Fin 256))) ⟨(c : ℕ) - 256, by omega⟩ (fun j => hs j _)).trans ?_
    refine Finset.sum_congr rfl fun e _ => ?_
    have hi : (⟨256 + (((c : ℕ) - 256) / 64 * 64 + e), by omega⟩ : Fin 1024) = ⟨(c : ℕ) / 64 * 64 + e, by omega⟩ := by
      apply Fin.ext
      show 256 + (((c : ℕ) - 256) / 64 * 64 + (e : ℕ)) = c / 64 * 64 + e
      omega
    exact congrArg (fun i : Fin 1024 => (z (ix2 p i) : EReal) * z (ix2 p i)) hi

/-- The keys. -/
theorem key_apply (z r : Vec Ideal S1024x512 .f32) (g : Vec Ideal S1x512 .f32) (p : Fin 1024) (c : Fin 512) :
    k0_pay8 (F := Ideal) z r g (ix2 p c) = (z (ix2 p c) : EReal) * r (ix2 p c) * g (ix2 (0 : Fin 1) c) := by
  pointwise [k0_pay8]

theorem key_cols (x : Vec Ideal S1024x1024 .f32) (g : Vec Ideal S1x1024 .f32) (w : Vec Ideal S1024x1024 .bf16) (p : Fin 1024) (c : Fin 512) :
    k0_pay6 (F := Ideal) x g w (ix2 p c) = k0_pay4 (F := Ideal) x g w (ix2 p (⟨c, by omega⟩ : Fin 1024)) := by
  unfold k0_pay6
  generalize k0_pay4 (F := Ideal) x g w = z
  pointwise []

/-- The rows of eight heads of 64. -/
theorem to_heads {α : Type} (v : S512x1024.Idx → α) (h : Shape.ShapeCasts S512x1024 S8x64x1024) (a : Fin 8) (d : Fin 64) (p : Fin 1024) :
    shapeCast S8x64x1024 v h (ix3 a d p) = v (ix2 (⟨(a : ℕ) * 64 + d, by omega⟩ : Fin 512) p) := by
  refine shapeCast_apply _ _ _ _ ?_
  rw [Shape.rowMajor_val_three, Shape.rowMajor_val_two]
  rfl

theorem of_heads {α : Type} (v : S8x64x1024.Idx → α) (h : Shape.ShapeCasts S8x64x1024 S512x1024) (r : Fin 512) (p : Fin 1024) :
    shapeCast S512x1024 v h (ix2 r p) = v (ix3 (⟨(r : ℕ) / 64, by omega⟩ : Fin 8) (⟨(r : ℕ) % 64, by omega⟩ : Fin 64) p) := by
  refine shapeCast_apply _ _ _ _ ?_
  rw [Shape.rowMajor_val_three, Shape.rowMajor_val_two]
  show ((r : ℕ) / 64 * 64 + (r : ℕ) % 64) * 1024 + p = r * 1024 + p
  rw [Nat.div_add_mod']

/-- The queries. -/
theorem query_apply (z : Vec Ideal S1024x1024 .f32) (g : Vec Ideal S512x1024 .f32) (r : Fin 512) (p : Fin 1024) :
    k0_pay10 (F := Ideal) z g (ix2 r p)
      = headNorm (fun e => z (ix2 (⟨(r : ℕ) / 64 * 64 + e, by omega⟩ : Fin 1024) p)) (⟨(r : ℕ) % 64, by omega⟩ : Fin 64)
          * ((g (ix2 r p) : EReal) * (((8 * Real.log 2)⁻¹ : ℝ) : EReal)) := by
  rw [← scale_named]
  unfold k0_pay10
  have h : ∀ a : Fin 8, ∀ d : Fin 64, (shapeCast S8x64x1024 (extractStridedSlice S512x1024 ![0, 0] z slices_S1024x1024_o0_0_S512x1024)
      shapeCasts_S512x1024_S8x64x1024 : Vec Ideal S8x64x1024 .f32) (ix3 a d p) = z (ix2 (⟨(a : ℕ) * 64 + d, by omega⟩ : Fin 1024) p) := by
    intro a d
    rw [to_heads]
    pointwise []
  generalize (shapeCast S8x64x1024 (extractStridedSlice S512x1024 ![0, 0] z slices_S1024x1024_o0_0_S512x1024)
      shapeCasts_S512x1024_S8x64x1024 : Vec Ideal S8x64x1024 .f32) = y at h ⊢
  have hd : ∀ e : Fin 64, (z (ix2 (⟨(r : ℕ) / 64 * 64 + e, by omega⟩ : Fin 1024) p) : EReal) = y (ix3 (⟨(r : ℕ) / 64, by omega⟩ : Fin 8) e p) :=
    fun e => (h ⟨(r : ℕ) / 64, by omega⟩ e).symm
  simp only [hd]
  unfold headNorm
  refine congrArg₂ (fun a b : EReal => a * b) ((of_heads _ _ r p).trans ?_) ?_
  · pointwise []
  · pointwise []

/-- The S5 input. -/
theorem ssm_apply (z : Vec Ideal S1024x1024 .f32) (p : Fin 1024) (c : Fin 512) :
    k0_pay9 (F := Ideal) z (ix2 p c) = z (ix2 p (⟨512 + c, by omega⟩ : Fin 1024)) := by
  pointwise [k0_pay9]

end Cert.Proj
-- ==== Proof.InPoint.lean ====
/- The four output blocks of a grid point of the input projection. -/
module

public import proofs.«01_k».proof.Proof.InBlock

/-!
The blocks of queries, keys, values and S5 input that a grid point writes, from the blocks of its arguments.
-/

@[expose] public section

set_option maxRecDepth 16384
set_option maxHeartbeats 4000000

noncomputable section

namespace Cert.Proj

open Idealize.ShloMosaic
open Cert.Kernel3Ideal Cert.Kernel3Ideal.Gen

variable (x : Vec Ideal S1024x1024 .f32) (g : Vec Ideal S1x1024 .f32) (wku wqvt : Vec Ideal S1024x1024 .bf16) (gqt : Vec Ideal S512x1024 .f32)
    (gk : Vec Ideal S1x512 .f32) (s : Vec Ideal S256x256 .bf16)

/-- The block of queries. -/
theorem query_point (r : Fin 512) (p : Fin 1024) :
    out0_7 (F := Ideal) x g wku wqvt gqt gk s (ix2 r p)
      = headNorm (fun e => column (fun k => x (ix2 p k)) (fun k => g (ix2 (0 : Fin 1) k)) (fun k => wqvt (ix2 (⟨(r : ℕ) / 64 * 64 + e, by omega⟩ : Fin 1024) k)))
          (⟨(r : ℕ) % 64, by omega⟩ : Fin 64) * ((gqt (ix2 r p) : EReal) * (((8 * Real.log 2)⁻¹ : ℝ) : EReal)) := by
  have e : out0_7 (F := Ideal) x g wku wqvt gqt gk s = k0_pay10 (F := Ideal) (k0_pay5 (F := Ideal) x g wqvt) gqt := by
    unfold_out out0_7
    rw [View.ld_unit_lit _ _ (by decide), View.ld_unit_lit _ _ (by decide), View.ld_unit_lit _ _ (by decide), View.ld_unit_lit _ _ (by decide),
      View.canon_cons_unit_lit _ _ _ (by decide)]
  rw [e, query_apply]
  simp only [cols_proj]

/-- The block of keys. -/
theorem key_point (hs : ∀ i j : Fin 256, (s (ix2 i j) : EReal) = if (i : ℕ) / 64 = (j : ℕ) / 64 then 1 else 0) (p : Fin 1024) (c : Fin 512) :
    out0_8 (F := Ideal) x g wku wqvt gqt gk s (ix2 p c)
      = headNorm (fun e => column (fun k => x (ix2 p k)) (fun k => g (ix2 (0 : Fin 1) k)) (fun k => wku (ix2 k (⟨(c : ℕ) / 64 * 64 + e, by omega⟩ : Fin 1024))))
          (⟨(c : ℕ) % 64, by omega⟩ : Fin 64) * (gk (ix2 (0 : Fin 1) c) : EReal) := by
  have e : out0_8 (F := Ideal) x g wku wqvt gqt gk s = k0_pay8 (F := Ideal) (k0_pay6 (F := Ideal) x g wku) (k0_pay7 (F := Ideal) x g wku s s) gk := by
    unfold out0_8
    rw [View.ld_unit_lit _ _ (by decide), View.ld_unit_lit _ _ (by decide), View.ld_unit_lit _ _ (by decide), View.ld_unit_lit _ _ (by decide),
      View.ld_unit_lit _ _ (by decide), View.canon_cons_unit_lit _ _ _ (by decide)]
  rw [e, key_apply, key_cols, key_root x g wku s hs]
  simp only [rows_proj]
  have hc : (⟨c, by omega⟩ : Fin 1024) = ⟨(c : ℕ) / 64 * 64 + (c : ℕ) % 64, by omega⟩ := Fin.ext (by show (c : ℕ) = (c : ℕ) / 64 * 64 + (c : ℕ) % 64; omega)
  rw [hc]
  rfl

/-- The block of values. -/
theorem value_point (j h : Fin 4) (r : Fin 128) (t : Fin 256) :
    out0_9 (F := Ideal) x g wku wqvt gqt gk s (ix4 j h r t)
      = column (fun k => x (ix2 (⟨(j : ℕ) * 256 + t, by omega⟩ : Fin 1024) k)) (fun k => g (ix2 (0 : Fin 1) k))
          (fun k => wqvt (ix2 (⟨512 + ((h : ℕ) * 128 + r), by omega⟩ : Fin 1024) k)) := by
  unfold_out out0_9
  rw [View.ld_unit_lit _ _ (by decide), View.ld_unit_lit _ _ (by decide), View.ld_unit_lit _ _ (by decide)]
  refine (Value.canon9_eq (F := Ideal) x g wqvt (ix4 j h r t)).trans ?_
  refine Eq.trans ?_ (cols_proj x g wqvt _ _)
  refine congrArg (k0_pay5 (F := Ideal) x g wqvt) ?_
  funext a; apply Fin.ext
  fin_cases a
  · show (h : ℕ) * 128 + r + 512 = 512 + (h * 128 + r); omega
  · rfl

/-- The block of the S5 input. -/
theorem ssm_point (p : Fin 1024) (c : Fin 512) :
    out0_10 (F := Ideal) x g wku wqvt gqt gk s (ix2 p c)
      = column (fun k => x (ix2 p k)) (fun k => g (ix2 (0 : Fin 1) k)) (fun k => wku (ix2 k (⟨512 + c, by omega⟩ : Fin 1024))) := by
  have e : out0_10 (F := Ideal) x g wku wqvt gqt gk s = k0_pay9 (F := Ideal) (k0_pay4 (F := Ideal) x g wku) := by
    unfold out0_10
    rw [View.ld_unit_lit _ _ (by decide), View.ld_unit_lit _ _ (by decide), View.ld_unit_lit _ _ (by decide), View.canon_cons_unit_lit _ _ _ (by decide)]
  rw [e, ssm_apply, rows_proj]

end Cert.Proj
-- ==== Proof.InHost.lean ====
/- The input projection's arrays, as functions of its arguments, and what the host prepares. -/
module

public import proofs.«01_k».proof.Proof.InPoint

/-!
The arrays of queries, keys, values and S5 input hold the columns of the combined projection of the normed input, the queries
and keys normed by head. The host takes the columns out of the weights and repeats the heads' gains.
-/

@[expose] public section

set_option maxRecDepth 16384
set_option maxHeartbeats 4000000

noncomputable section

namespace Cert.Proj

open Idealize.ShloMosaic Idealize.ShloMosaic.TcCoe Idealize.SL.Sem
open Cert.Kernel3Ideal Cert.Kernel3Ideal.Gen

/-- Column `j` of the combined projection at position `n`, from the arguments. -/
def inCol (a0 : S8x4096x1024.Idx → EReal) (a1 : S1024.Idx → EReal) (a2 : S1024x5120.Idx → EReal) (n : Fin 32768) (j : Fin 5120) : EReal :=
  column (fun k => a0 (ix3 (⟨(n : ℕ) / 4096, by omega⟩ : Fin 8) (⟨(n : ℕ) % 4096, by omega⟩ : Fin 4096) k)) (fun k => a1 (ix1 k)) (fun k => a2 (ix2 k j))

/-- The queries, times the scale, with depth along the rows. -/
def queryArr (a0 : S8x4096x1024.Idx → EReal) (a1 : S1024.Idx → EReal) (a2 : S1024x5120.Idx → EReal) (a3 : S64.Idx → EReal) (r : Fin 512) (n : Fin 32768) : EReal :=
  headNorm (fun e => inCol a0 a1 a2 n ⟨(r : ℕ) / 64 * 64 + e, by omega⟩) (⟨(r : ℕ) % 64, by omega⟩ : Fin 64)
    * (a3 (ix1 (⟨(r : ℕ) % 64, by omega⟩ : Fin 64)) * (((8 * Real.log 2)⁻¹ : ℝ) : EReal))

/-- The keys. -/
def keyArr (a0 : S8x4096x1024.Idx → EReal) (a1 : S1024.Idx → EReal) (a2 : S1024x5120.Idx → EReal) (a4 : S64.Idx → EReal) (n : Fin 32768) (c : Fin 512) : EReal :=
  headNorm (fun e => inCol a0 a1 a2 n ⟨512 + ((c : ℕ) / 64 * 64 + e), by omega⟩) (⟨(c : ℕ) % 64, by omega⟩ : Fin 64)
    * a4 (ix1 (⟨(c : ℕ) % 64, by omega⟩ : Fin 64))

/-- The values, in granules of 256 positions, transposed. -/
def valueArr (a0 : S8x4096x1024.Idx → EReal) (a1 : S1024.Idx → EReal) (a2 : S1024x5120.Idx → EReal) (j : Fin 128) (h : Fin 4) (r : Fin 128) (t : Fin 256) : EReal :=
  inCol a0 a1 a2 ⟨(j : ℕ) * 256 + t, by omega⟩ ⟨1024 + ((h : ℕ) * 128 + r), by omega⟩

/-- The S5 input. -/
def ssmArr (a0 : S8x4096x1024.Idx → EReal) (a1 : S1024.Idx → EReal) (a2 : S1024x5120.Idx → EReal) (n : Fin 32768) (c : Fin 512) : EReal :=
  inCol a0 a1 a2 n ⟨2048 + c, by omega⟩

variable (m : (ℓ : Loc nD τ sig) → Buf (Elt Ideal) ℓ) (c : Dev nD)

theorem in_x (n : Fin 32768) (k : Fin 1024) :
    V m c main_v0 (ix2 n k) = m ((c : Thread nD τ).loc main_arg0) (ix3 (⟨(n : ℕ) / 4096, by omega⟩ : Fin 8) (⟨(n : ℕ) % 4096, by omega⟩ : Fin 4096) k) := by
  have h : V m c main_v0 = shapeCast S32768x1024 (m ((c : Thread nD τ).loc main_arg0) : Vec Ideal S8x4096x1024 .f32) shapeCasts_S8x4096x1024_S32768x1024 := by
    show StableHlo.after hostOps0 _ (Proc.devRef .tc main_v0) = _
    after_results
    rfl
  rw [h]
  exact rows_apply _ _ n k

theorem in_gain (k : Fin 1024) : V m c main_v1 (ix2 (0 : Fin 1) k) = m ((c : Thread nD τ).loc main_arg1) (ix1 k) := by
  have h : V m c main_v1 = shapeCast S1x1024 (m ((c : Thread nD τ).loc main_arg1) : Vec Ideal S1024 .f32) shapeCasts_S1024_S1x1024 := by
    show StableHlo.after hostOps0 _ (Proc.devRef .tc main_v1) = _
    after_results
    rfl
  rw [h]
  pointwise []

/-- The weights of the keys and the S5 input. -/
theorem in_ku (k j : Fin 1024) : V m c main_v5 (ix2 k j) = m ((c : Thread nD τ).loc main_arg2) (ix2 k (kuCol j)) := by
  have h : V m c main_v5 = truncf (F := Ideal) .bf16 (concatenate S1024x1024 1
      [⟨S1024x512, extractStridedSlice S1024x512 ![0, 512] (m ((c : Thread nD τ).loc main_arg2) : Vec Ideal S1024x5120 .f32) slices_S1024x5120_S1024x512_0_512⟩,
       ⟨S1024x512, extractStridedSlice S1024x512 ![0, 2048] (m ((c : Thread nD τ).loc main_arg2) : Vec Ideal S1024x5120 .f32) slices_S1024x5120_S1024x512_0_2048⟩]
      concatenates_S1024x512_S1024x512_S1024x1024_d1) bitsLt_bf16_f32 := by
    show StableHlo.after hostOps0 _ (Proc.devRef .tc main_v5) = _
    after_results
  rw [h]
  pointwise [kuCol]
  split
  · rfl
  · refine congrArg (fun i : Fin 5120 => m ((c : Thread nD τ).loc main_arg2) (ix2 k i)) (Fin.ext ?_)
    show 2048 + ((j : ℕ) - 512) = 1536 + j
    omega

/-- The weights of the queries and the values, transposed. -/
theorem in_qv (r k : Fin 1024) : V m c main_v10 (ix2 r k) = m ((c : Thread nD τ).loc main_arg2) (ix2 k (qvCol r)) := by
  have h : V m c main_v10 = truncf (F := Ideal) .bf16 (transpose S1024x1024 [1, 0] (concatenate S1024x1024 1
      [⟨S1024x512, extractStridedSlice S1024x512 ![0, 0] (m ((c : Thread nD τ).loc main_arg2) : Vec Ideal S1024x5120 .f32) slices_S1024x5120_S1024x512_0_0⟩,
       ⟨S1024x512, extractStridedSlice S1024x512 ![0, 1024] (m ((c : Thread nD τ).loc main_arg2) : Vec Ideal S1024x5120 .f32) slices_S1024x5120_S1024x512_0_1024⟩]
      concatenates_S1024x512_S1024x512_S1024x1024_d1) transposes_S1024x1024_S1024x1024_1_0) bitsLt_bf16_f32 := by
    show StableHlo.after hostOps0 _ (Proc.devRef .tc main_v10) = _
    after_results
  rw [h]
  pointwise [qvCol]
  split
  · rfl
  · refine congrArg (fun i : Fin 5120 => m ((c : Thread nD τ).loc main_arg2) (ix2 k i)) (Fin.ext ?_)
    show 1024 + ((r : ℕ) - 512) = 512 + r
    omega

/-- A gain of 64 features, once per head. -/
theorem tile_apply {α : Type} (v : S64.Idx → α) (r : Fin 512) :
    shapeCast S512 (broadcastInDim S8x64 ![0, 1] bcast_S1x64_S8x64_0_1 (shapeCast S1x64 v shapeCasts_S64_S1x64)) shapeCasts_S8x64_S512 (ix1 r)
      = v (ix1 (⟨(r : ℕ) % 64, by omega⟩ : Fin 64)) := by
  refine (shapeCast_apply _ _ _ (ix2 (⟨(r : ℕ) / 64, by omega⟩ : Fin 8) (⟨(r : ℕ) % 64, by omega⟩ : Fin 64)) ?_).trans ?_
  · rw [Shape.rowMajor_val_two, Shape.rowMajor_val_one]
    show (r : ℕ) / 64 * 64 + (r : ℕ) % 64 = r
    rw [Nat.div_add_mod']
  · pointwise []

theorem in_gq (r : Fin 512) (p : Fin 1024) : V m c main_v15 (ix2 r p) = m ((c : Thread nD τ).loc main_arg3) (ix1 (⟨(r : ℕ) % 64, by omega⟩ : Fin 64)) := by
  have h : V m c main_v15 = broadcastInDim S512x1024 ![0, 1] bcast_S512x1_S512x1024_0_1 (broadcastInDim S512x1 ![0] bcast_S512_S512x1_0
      (shapeCast S512 (broadcastInDim S8x64 ![0, 1] bcast_S1x64_S8x64_0_1 (shapeCast S1x64 (m ((c : Thread nD τ).loc main_arg3) : Vec Ideal S64 .f32) shapeCasts_S64_S1x64))
        shapeCasts_S8x64_S512)) := by
    show StableHlo.after hostOps0 _ (Proc.devRef .tc main_v15) = _
    after_results
    rfl
  rw [h]
  refine Eq.trans ?_ (tile_apply (m ((c : Thread nD τ).loc main_arg3) : Vec Ideal S64 .f32) r)
  generalize shapeCast S512 (broadcastInDim S8x64 ![0, 1] bcast_S1x64_S8x64_0_1 (shapeCast S1x64 (m ((c : Thread nD τ).loc main_arg3) : Vec Ideal S64 .f32) shapeCasts_S64_S1x64))
        shapeCasts_S8x64_S512 = y
  pointwise []

theorem in_gk (j : Fin 512) : V m c main_v19 (ix2 (0 : Fin 1) j) = m ((c : Thread nD τ).loc main_arg4) (ix1 (⟨(j : ℕ) % 64, by omega⟩ : Fin 64)) := by
  have h : V m c main_v19 = shapeCast S1x512
      (shapeCast S512 (broadcastInDim S8x64 ![0, 1] bcast_S1x64_S8x64_0_1 (shapeCast S1x64 (m ((c : Thread nD τ).loc main_arg4) : Vec Ideal S64 .f32) shapeCasts_S64_S1x64))
        shapeCasts_S8x64_S512) shapeCasts_S512_S1x512 := by
    show StableHlo.after hostOps0 _ (Proc.devRef .tc main_v19) = _
    after_results
    rfl
  rw [h]
  refine Eq.trans ?_ (tile_apply (m ((c : Thread nD τ).loc main_arg4) : Vec Ideal S64 .f32) j)
  generalize shapeCast S512 (broadcastInDim S8x64 ![0, 1] bcast_S1x64_S8x64_0_1 (shapeCast S1x64 (m ((c : Thread nD τ).loc main_arg4) : Vec Ideal S64 .f32) shapeCasts_S64_S1x64))
        shapeCasts_S8x64_S512 = y
  pointwise []

end Cert.Proj
-- ==== Proof.InWindows.lean ====
/- What the grid points of the input projection read. -/
module

public import proofs.«01_k».proof.Proof.InHost

/-!
The grid's 32 points are the blocks of 1024 positions, counted through all batch entries. Each reads its own positions and
all of the weights.
-/

@[expose] public section

set_option maxRecDepth 16384
set_option maxHeartbeats 4000000

noncomputable section

namespace Cert.Proj

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

theorem in_index0 : ∀ t : Fin grid0.N, win0_0.index t 0 = (t : ℕ) ∧ win0_0.index t 1 = 0 := by decide +kernel
theorem in_index1 : ∀ t : Fin grid0.N, win0_1.index t 0 = 0 ∧ win0_1.index t 1 = 0 := by decide +kernel
theorem in_index2 : ∀ t : Fin grid0.N, win0_2.index t 0 = 0 ∧ win0_2.index t 1 = 0 := by decide +kernel
theorem in_index3 : ∀ t : Fin grid0.N, win0_3.index t 0 = 0 ∧ win0_3.index t 1 = 0 := by decide +kernel
theorem in_index4 : ∀ t : Fin grid0.N, win0_4.index t 0 = 0 ∧ win0_4.index t 1 = 0 := by decide +kernel
theorem in_index5 : ∀ t : Fin grid0.N, win0_5.index t 0 = 0 ∧ win0_5.index t 1 = 0 := by decide +kernel
theorem in_index6 : ∀ t : Fin grid0.N, win0_6.index t 0 = 0 ∧ win0_6.index t 1 = 0 := by decide +kernel
theorem in_index7 : ∀ t : Fin grid0.N, win0_7.index t 0 = 0 ∧ win0_7.index t 1 = (t : ℕ) := by decide +kernel
theorem in_index8 : ∀ t : Fin grid0.N, win0_8.index t 0 = (t : ℕ) ∧ win0_8.index t 1 = 0 := by decide +kernel
theorem in_index10 : ∀ t : Fin grid0.N, win0_10.index t 0 = (t : ℕ) ∧ win0_10.index t 1 = 0 := by decide +kernel
theorem in_index9 : ∀ t : Fin grid0.N, win0_9.index t 0 = (t : ℕ) ∧ win0_9.index t 1 = 0 ∧ win0_9.index t 2 = 0 ∧ win0_9.index t 3 = 0 := by decide +kernel

theorem in_block0 (t : Fin grid0.N) (n : Fin 32768) (p : Fin 1024) (hn : (n : ℕ) = t * 1024 + p) (k : Fin 1024) :
    iblk m c 0 t (ix2 p k) = V m c main_v0 (ix2 n k) := by
  unfold iblk
  rw [View.read_apply]
  show V m c main_v0 _ = _
  refine congrArg (V m c main_v0) ?_
  funext a; apply Fin.ext
  fin_cases a
  · show win0_0.index t 0 * 1024 + 1 * (p : ℕ) = n; rw [(in_index0 t).1]; omega
  · show win0_0.index t 1 * 1024 + 1 * (k : ℕ) = k; rw [(in_index0 t).2]; omega

theorem in_block1 (t : Fin grid0.N) (i : Fin 1) (k : Fin 1024) : iblk m c 1 t (ix2 i k) = V m c main_v1 (ix2 i k) := by
  unfold iblk
  rw [View.read_apply]
  show V m c main_v1 _ = _
  refine congrArg (V m c main_v1) ?_
  funext a; apply Fin.ext
  fin_cases a
  · show win0_1.index t 0 * 1 + 1 * (i : ℕ) = i; rw [(in_index1 t).1]; omega
  · show win0_1.index t 1 * 1024 + 1 * (k : ℕ) = k; rw [(in_index1 t).2]; omega

theorem in_block2 (t : Fin grid0.N) (i : Fin 1024) (k : Fin 1024) : iblk m c 2 t (ix2 i k) = V m c main_v5 (ix2 i k) := by
  unfold iblk
  rw [View.read_apply]
  show V m c main_v5 _ = _
  refine congrArg (V m c main_v5) ?_
  funext a; apply Fin.ext
  fin_cases a
  · show win0_2.index t 0 * 1024 + 1 * (i : ℕ) = i; rw [(in_index2 t).1]; omega
  · show win0_2.index t 1 * 1024 + 1 * (k : ℕ) = k; rw [(in_index2 t).2]; omega

theorem in_block3 (t : Fin grid0.N) (i : Fin 1024) (k : Fin 1024) : iblk m c 3 t (ix2 i k) = V m c main_v10 (ix2 i k) := by
  unfold iblk
  rw [View.read_apply]
  show V m c main_v10 _ = _
  refine congrArg (V m c main_v10) ?_
  funext a; apply Fin.ext
  fin_cases a
  · show win0_3.index t 0 * 1024 + 1 * (i : ℕ) = i; rw [(in_index3 t).1]; omega
  · show win0_3.index t 1 * 1024 + 1 * (k : ℕ) = k; rw [(in_index3 t).2]; omega

theorem in_block4 (t : Fin grid0.N) (i : Fin 512) (k : Fin 1024) : iblk m c 4 t (ix2 i k) = V m c main_v15 (ix2 i k) := by
  unfold iblk
  rw [View.read_apply]
  show V m c main_v15 _ = _
  refine congrArg (V m c main_v15) ?_
  funext a; apply Fin.ext
  fin_cases a
  · show win0_4.index t 0 * 512 + 1 * (i : ℕ) = i; rw [(in_index4 t).1]; omega
  · show win0_4.index t 1 * 1024 + 1 * (k : ℕ) = k; rw [(in_index4 t).2]; omega

theorem in_block5 (t : Fin grid0.N) (i : Fin 1) (k : Fin 512) : iblk m c 5 t (ix2 i k) = V m c main_v19 (ix2 i k) := by
  unfold iblk
  rw [View.read_apply]
  show V m c main_v19 _ = _
  refine congrArg (V m c main_v19) ?_
  funext a; apply Fin.ext
  fin_cases a
  · show win0_5.index t 0 * 1 + 1 * (i : ℕ) = i; rw [(in_index5 t).1]; omega
  · show win0_5.index t 1 * 512 + 1 * (k : ℕ) = k; rw [(in_index5 t).2]; omega

theorem in_block6 (t : Fin grid0.N) (i : Fin 256) (k : Fin 256) : iblk m c 6 t (ix2 i k) = V m c main_cst (ix2 i k) := by
  unfold iblk
  rw [View.read_apply]
  show V m c main_cst _ = _
  refine congrArg (V m c main_cst) ?_
  funext a; apply Fin.ext
  fin_cases a
  · show win0_6.index t 0 * 256 + 1 * (i : ℕ) = i; rw [(in_index6 t).1]; omega
  · show win0_6.index t 1 * 256 + 1 * (k : ℕ) = k; rw [(in_index6 t).2]; omega

end Cert.Proj
-- ==== Proof.InBits.lean ====
/- The entries of the matrix that sums the keys' heads. -/
module

public import proofs.«01_k».proof.Proof.InNorm
public import proofs.«01_k».proof.Kernel3Ideal
public import Idealize.ShloMosaic.Lib.Decide

/-!
The kernel sums the squares of a key head by a product with a 256 x 256 matrix of bits: one where row and column lie in the
same group of 64, zero elsewhere. The entries are decided 16 rows at a time.
-/

@[expose] public section

set_option maxRecDepth 16384
set_option maxHeartbeats 4000000

noncomputable section

namespace Cert.Proj

open Idealize.ShloMosaic

/-- The bits at index `i`, row by row. -/
def groupBit (i : ℕ) : BitVec 16 := Cert.Kernel3Ideal.lit0t i

/-- One within a group of 64, zero elsewhere. -/
def groupWant (i : ℕ) : BitVec 16 := if i / 256 / 64 = i % 256 / 64 then 0x3F80#16 else 0x0000#16

theorem group_bits_0 : ∀ k : Fin 4096, groupBit (0 * 4096 + k) = groupWant (0 * 4096 + k) := by decide +kernel
theorem group_bits_1 : ∀ k : Fin 4096, groupBit (1 * 4096 + k) = groupWant (1 * 4096 + k) := by decide +kernel
theorem group_bits_2 : ∀ k : Fin 4096, groupBit (2 * 4096 + k) = groupWant (2 * 4096 + k) := by decide +kernel
theorem group_bits_3 : ∀ k : Fin 4096, groupBit (3 * 4096 + k) = groupWant (3 * 4096 + k) := by decide +kernel
theorem group_bits_4 : ∀ k : Fin 4096, groupBit (4 * 4096 + k) = groupWant (4 * 4096 + k) := by decide +kernel
theorem group_bits_5 : ∀ k : Fin 4096, groupBit (5 * 4096 + k) = groupWant (5 * 4096 + k) := by decide +kernel
theorem group_bits_6 : ∀ k : Fin 4096, groupBit (6 * 4096 + k) = groupWant (6 * 4096 + k) := by decide +kernel
theorem group_bits_7 : ∀ k : Fin 4096, groupBit (7 * 4096 + k) = groupWant (7 * 4096 + k) := by decide +kernel
theorem group_bits_8 : ∀ k : Fin 4096, groupBit (8 * 4096 + k) = groupWant (8 * 4096 + k) := by decide +kernel
theorem group_bits_9 : ∀ k : Fin 4096, groupBit (9 * 4096 + k) = groupWant (9 * 4096 + k) := by decide +kernel
theorem group_bits_10 : ∀ k : Fin 4096, groupBit (10 * 4096 + k) = groupWant (10 * 4096 + k) := by decide +kernel
theorem group_bits_11 : ∀ k : Fin 4096, groupBit (11 * 4096 + k) = groupWant (11 * 4096 + k) := by decide +kernel
theorem group_bits_12 : ∀ k : Fin 4096, groupBit (12 * 4096 + k) = groupWant (12 * 4096 + k) := by decide +kernel
theorem group_bits_13 : ∀ k : Fin 4096, groupBit (13 * 4096 + k) = groupWant (13 * 4096 + k) := by decide +kernel
theorem group_bits_14 : ∀ k : Fin 4096, groupBit (14 * 4096 + k) = groupWant (14 * 4096 + k) := by decide +kernel
theorem group_bits_15 : ∀ k : Fin 4096, groupBit (15 * 4096 + k) = groupWant (15 * 4096 + k) := by decide +kernel

end Cert.Proj
-- ==== Proof.InGroup.lean ====
/- The matrix that sums the keys' heads. -/
module

public import proofs.«01_k».proof.Proof.InBits

/-!
The parts of the matrix put together.
-/

@[expose] public section

set_option maxRecDepth 16384
set_option maxHeartbeats 4000000

noncomputable section

namespace Cert.Proj

open Idealize.ShloMosaic

/-- All of the matrix, 16 rows at a time. -/
theorem group_bits (i : ℕ) (h : i < 65536) : groupBit i = groupWant i := by
  obtain ⟨q, hq⟩ : ∃ q : ℕ, i / 4096 = q := ⟨_, rfl⟩
  have hi : i = q * 4096 + i % 4096 := by omega
  obtain ⟨k, hk⟩ : ∃ k : Fin 4096, (k : ℕ) = i % 4096 := ⟨⟨i % 4096, by omega⟩, rfl⟩
  have hlt : q < 16 := by omega
  rw [hi, ← hk]
  clear hi hk hq h
  match q, hlt with
  | 0, _ => exact group_bits_0 k
  | 1, _ => exact group_bits_1 k
  | 2, _ => exact group_bits_2 k
  | 3, _ => exact group_bits_3 k
  | 4, _ => exact group_bits_4 k
  | 5, _ => exact group_bits_5 k
  | 6, _ => exact group_bits_6 k
  | 7, _ => exact group_bits_7 k
  | 8, _ => exact group_bits_8 k
  | 9, _ => exact group_bits_9 k
  | 10, _ => exact group_bits_10 k
  | 11, _ => exact group_bits_11 k
  | 12, _ => exact group_bits_12 k
  | 13, _ => exact group_bits_13 k
  | 14, _ => exact group_bits_14 k
  | 15, _ => exact group_bits_15 k
  | q + 16, h => exact absurd h (by omega)

theorem group_lit (k : Fin 65536) : Cert.Kernel3Ideal.lit0 k = if (k : ℕ) / 256 / 64 = (k : ℕ) % 256 / 64 then 0x3F80#16 else 0x0000#16 :=
  group_bits k k.isLt

end Cert.Proj
-- ==== Proof.InArray.lean ====
/- What the input projection's four arrays hold. -/
module

public import proofs.«01_k».proof.Proof.InWindows
public import proofs.«01_k».proof.Proof.InGroup

/-!
The grid's 32 points are the blocks of 1024 positions, counted through all batch entries. The arrays of queries, keys, values
and S5 input hold the columns of the combined projection of the normed input, the queries and keys normed by head.
-/

@[expose] public section

set_option maxRecDepth 16384
set_option maxHeartbeats 4000000

noncomputable section

namespace Cert.Proj

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The matrix of ones within groups of 64. -/
theorem in_group (i j : Fin 256) : V m c main_cst (ix2 i j) = if (i : ℕ) / 64 = (j : ℕ) / 64 then (1 : EReal) else (0 : EReal) := by
  have h : V m c main_cst = fun i => FloatOps.ofBits (F := Ideal) .bf16 (lit0 (S256x256.rowMajor i)) := by
    show StableHlo.after hostOps0 _ (Proc.devRef .tc main_cst) = _
    after_results
    rfl
  rw [h]
  have hk : ((S256x256.rowMajor (ix2 i j) : Fin 65536) : ℕ) = (i : ℕ) * 256 + j := Shape.rowMajor_val_two _
  refine (congrArg (FloatOps.ofBits (F := Ideal) .bf16) (group_lit (S256x256.rowMajor (ix2 i j)))).trans ?_
  rw [hk, show ((i : ℕ) * 256 + j) / 256 = i by omega, show ((i : ℕ) * 256 + j) % 256 = j by omega]
  split
  · exact Ideal.ofBits_one_bf16
  · exact Ideal.ofBits_zero_bf16

/-- Columns of the combined projection from the blocks of a grid point: the keys' and the S5 input's. -/
theorem ku_column (t : Fin grid0.N) (n : Fin 32768) (p : Fin 1024) (hn : (n : ℕ) = t * 1024 + p) (j : Fin 1024) :
    column (fun k => iblk m c 0 t (ix2 p k)) (fun k => iblk m c 1 t (ix2 (0 : Fin 1) k)) (fun k => iblk m c 2 t (ix2 k j))
      = inCol (m ((c : Thread nD τ).loc main_arg0)) (m ((c : Thread nD τ).loc main_arg1)) (m ((c : Thread nD τ).loc main_arg2)) n (kuCol j) := by
  unfold inCol
  congr 1
  · funext k; exact (in_block0 m c t n p hn k).trans (in_x m c n k)
  · funext k; exact (in_block1 m c t 0 k).trans (in_gain m c k)
  · funext k; exact (in_block2 m c t k j).trans (in_ku m c k j)

/-- The queries' and the values'. -/
theorem qv_column (t : Fin grid0.N) (n : Fin 32768) (p : Fin 1024) (hn : (n : ℕ) = t * 1024 + p) (j : Fin 1024) :
    column (fun k => iblk m c 0 t (ix2 p k)) (fun k => iblk m c 1 t (ix2 (0 : Fin 1) k)) (fun k => iblk m c 3 t (ix2 j k))
      = inCol (m ((c : Thread nD τ).loc main_arg0)) (m ((c : Thread nD τ).loc main_arg1)) (m ((c : Thread nD τ).loc main_arg2)) n (qvCol j) := by
  unfold inCol
  congr 1
  · funext k; exact (in_block0 m c t n p hn k).trans (in_x m c n k)
  · funext k; exact (in_block1 m c t 0 k).trans (in_gain m c k)
  · funext k; exact (in_block3 m c t j k).trans (in_qv m c j k)

theorem kuCol_lo (j : Fin 1024) (h : (j : ℕ) < 512) : kuCol j = ⟨512 + j, by omega⟩ := by
  unfold kuCol
  rw [if_pos h]

theorem kuCol_hi (j : Fin 512) : kuCol ⟨512 + j, by omega⟩ = ⟨2048 + j, by omega⟩ := by
  unfold kuCol
  rw [if_neg (show ¬ 512 + (j : ℕ) < 512 by omega)]
  apply Fin.ext
  show 1536 + (512 + (j : ℕ)) = 2048 + j
  omega

theorem qvCol_lo (j : Fin 1024) (h : (j : ℕ) < 512) : qvCol j = ⟨j, by omega⟩ := by
  unfold qvCol
  rw [if_pos h]

theorem qvCol_hi (j : Fin 512) : qvCol ⟨512 + j, by omega⟩ = ⟨1024 + j, by omega⟩ := by
  unfold qvCol
  rw [if_neg (show ¬ 512 + (j : ℕ) < 512 by omega)]
  apply Fin.ext
  show 512 + (512 + (j : ℕ)) = 1024 + j
  omega

/-- The array of queries. -/
theorem query_array (r : Fin 512) (n : Fin 32768) :
    (dats m 0 c).arrAt 7 cfg0.N (ix2 r n)
      = queryArr (m ((c : Thread nD τ).loc main_arg0)) (m ((c : Thread nD τ).loc main_arg1)) (m ((c : Thread nD τ).loc main_arg2))
          (m ((c : Thread nD τ).loc main_arg3)) r n := by
  obtain ⟨t, ht⟩ : ∃ t : Fin grid0.N, (t : ℕ) = n / 1024 := ⟨⟨n / 1024, by rw [show grid0.N = 32 from N_0]; omega⟩, rfl⟩
  obtain ⟨p, hp⟩ : ∃ p : Fin 1024, (p : ℕ) = n % 1024 := ⟨⟨n % 1024, by omega⟩, rfl⟩
  have hn : (n : ℕ) = t * 1024 + p := by omega
  have hb := congrFun (Value.blocks7 m c t (flush0_7 t)) (ix2 r p)
  rw [View.read_apply, Value.flushed7] at hb
  have he : ((cfg0.win 7).blk t).view.emb (ix2 r p) = ix2 r n := by
    funext a; apply Fin.ext
    fin_cases a
    · show win0_7.index t 0 * 512 + 1 * (r : ℕ) = r; rw [(in_index7 t).1]; omega
    · show win0_7.index t 1 * 1024 + 1 * (p : ℕ) = n; rw [(in_index7 t).2]; omega
  rw [← he]
  refine hb.trans ?_
  refine (query_point (iblk m c 0 t) (iblk m c 1 t) (iblk m c 2 t) (iblk m c 3 t) (iblk m c 4 t) (iblk m c 5 t) (iblk m c 6 t) r p).trans ?_
  unfold queryArr
  refine congrArg₂ (fun a b : EReal => a * (b * (((8 * Real.log 2)⁻¹ : ℝ) : EReal))) ?_ ((in_block4 m c t r p).trans (in_gq m c r p))
  refine congrArg (fun z => headNorm z _) (funext fun e => ?_)
  refine (qv_column m c t n p hn _).trans (congrArg (inCol _ _ _ n) (qvCol_lo _ ?_))
  show (r : ℕ) / 64 * 64 + e < 512
  omega

/-- The array of keys. -/
theorem key_array (n : Fin 32768) (j : Fin 512) :
    (dats m 0 c).arrAt 8 cfg0.N (ix2 n j)
      = keyArr (m ((c : Thread nD τ).loc main_arg0)) (m ((c : Thread nD τ).loc main_arg1)) (m ((c : Thread nD τ).loc main_arg2))
          (m ((c : Thread nD τ).loc main_arg4)) n j := by
  obtain ⟨t, ht⟩ : ∃ t : Fin grid0.N, (t : ℕ) = n / 1024 := ⟨⟨n / 1024, by rw [show grid0.N = 32 from N_0]; omega⟩, rfl⟩
  obtain ⟨p, hp⟩ : ∃ p : Fin 1024, (p : ℕ) = n % 1024 := ⟨⟨n % 1024, by omega⟩, rfl⟩
  have hn : (n : ℕ) = t * 1024 + p := by omega
  have hb := congrFun (Value.blocks8 m c t (flush0_8 t)) (ix2 p j)
  rw [View.read_apply, Value.flushed8] at hb
  have he : ((cfg0.win 8).blk t).view.emb (ix2 p j) = ix2 n j := by
    funext a; apply Fin.ext
    fin_cases a
    · show win0_8.index t 0 * 1024 + 1 * (p : ℕ) = n; rw [(in_index8 t).1]; omega
    · show win0_8.index t 1 * 512 + 1 * (j : ℕ) = j; rw [(in_index8 t).2]; omega
  rw [← he]
  refine hb.trans ?_
  refine (key_point (iblk m c 0 t) (iblk m c 1 t) (iblk m c 2 t) (iblk m c 3 t) (iblk m c 4 t) (iblk m c 5 t) (iblk m c 6 t)
    (fun a b => (in_block6 m c t a b).trans (in_group m c a b)) p j).trans ?_
  unfold keyArr
  refine congrArg₂ (fun a b : EReal => a * b) ?_ ((in_block5 m c t 0 j).trans (in_gk m c j))
  refine congrArg (fun z => headNorm z _) (funext fun e => ?_)
  refine (ku_column m c t n p hn _).trans (congrArg (inCol _ _ _ n) (kuCol_lo _ ?_))
  show (j : ℕ) / 64 * 64 + e < 512
  omega

/-- The array of values. -/
theorem value_array (j : Fin 128) (h : Fin 4) (r : Fin 128) (i : Fin 256) :
    (dats m 0 c).arrAt 9 cfg0.N (ix4 j h r i)
      = valueArr (m ((c : Thread nD τ).loc main_arg0)) (m ((c : Thread nD τ).loc main_arg1)) (m ((c : Thread nD τ).loc main_arg2)) j h r i := by
  obtain ⟨t, ht⟩ : ∃ t : Fin grid0.N, (t : ℕ) = j / 4 := ⟨⟨j / 4, by rw [show grid0.N = 32 from N_0]; omega⟩, rfl⟩
  obtain ⟨q, hq⟩ : ∃ q : Fin 4, (q : ℕ) = j % 4 := ⟨⟨j % 4, by omega⟩, rfl⟩
  have hb := congrFun (Value.blocks9 m c t (flush0_9 t)) (ix4 q h r i)
  rw [View.read_apply, Value.flushed9] at hb
  have he : ((cfg0.win 9).blk t).view.emb (ix4 q h r i) = ix4 j h r i := by
    funext a; apply Fin.ext
    fin_cases a
    · show win0_9.index t 0 * 4 + 1 * (q : ℕ) = j; rw [(in_index9 t).1]; omega
    · show win0_9.index t 1 * 4 + 1 * (h : ℕ) = h; rw [(in_index9 t).2.1]; omega
    · show win0_9.index t 2 * 128 + 1 * (r : ℕ) = r; rw [(in_index9 t).2.2.1]; omega
    · show win0_9.index t 3 * 256 + 1 * (i : ℕ) = i; rw [(in_index9 t).2.2.2]; omega
  rw [← he]
  refine hb.trans ?_
  refine (value_point (iblk m c 0 t) (iblk m c 1 t) (iblk m c 2 t) (iblk m c 3 t) (iblk m c 4 t) (iblk m c 5 t) (iblk m c 6 t) q h r i).trans ?_
  unfold valueArr
  refine (qv_column m c t ⟨(j : ℕ) * 256 + i, by omega⟩ ⟨(q : ℕ) * 256 + i, by omega⟩ ?_ _).trans (congrArg (inCol _ _ _ _) (qvCol_hi ⟨(h : ℕ) * 128 + r, by omega⟩))
  show (j : ℕ) * 256 + i = t * 1024 + (q * 256 + i)
  omega

/-- The array of the S5 input. -/
theorem ssm_array (n : Fin 32768) (j : Fin 512) :
    (dats m 0 c).arrAt 10 cfg0.N (ix2 n j)
      = ssmArr (m ((c : Thread nD τ).loc main_arg0)) (m ((c : Thread nD τ).loc main_arg1)) (m ((c : Thread nD τ).loc main_arg2)) n j := by
  obtain ⟨t, ht⟩ : ∃ t : Fin grid0.N, (t : ℕ) = n / 1024 := ⟨⟨n / 1024, by rw [show grid0.N = 32 from N_0]; omega⟩, rfl⟩
  obtain ⟨p, hp⟩ : ∃ p : Fin 1024, (p : ℕ) = n % 1024 := ⟨⟨n % 1024, by omega⟩, rfl⟩
  have hn : (n : ℕ) = t * 1024 + p := by omega
  have hb := congrFun (Value.blocks10 m c t (flush0_10 t)) (ix2 p j)
  rw [View.read_apply, Value.flushed10] at hb
  have he : ((cfg0.win 10).blk t).view.emb (ix2 p j) = ix2 n j := by
    funext a; apply Fin.ext
    fin_cases a
    · show win0_10.index t 0 * 1024 + 1 * (p : ℕ) = n; rw [(in_index10 t).1]; omega
    · show win0_10.index t 1 * 512 + 1 * (j : ℕ) = j; rw [(in_index10 t).2]; omega
  rw [← he]
  refine hb.trans ?_
  refine (ssm_point (iblk m c 0 t) (iblk m c 1 t) (iblk m c 2 t) (iblk m c 3 t) (iblk m c 4 t) (iblk m c 5 t) (iblk m c 6 t) p j).trans ?_
  unfold ssmArr
  exact (ku_column m c t n p hn _).trans (congrArg (inCol _ _ _ n) (kuCol_hi j))

end Cert.Proj
-- ==== Proof.InRef.lean ====
/- The reference of the input projection. -/
module

public import proofs.«01_k».proof.Proof.InHost
public import proofs.«01_k».proof.Proof.Gen.Reference3Ideal.Read

/-!
The reference's four results hold the same columns of the combined projection: the reshapes to heads and to granules only
rename the indices.
-/

@[expose] public section

set_option maxRecDepth 16384
set_option maxHeartbeats 4000000

noncomputable section

namespace Cert.Proj

open Idealize.ShloMosaic
open Cert.Reference3Ideal Cert.Reference3Ideal.Gen Cert.Reference3Ideal.Read

variable (x0 : S8x4096x1024.Idx → EReal) (x1 : S1024.Idx → EReal) (x2 : S1024x5120.Idx → EReal) (x3 x4 : S64.Idx → EReal)
    (b : Fin 8) (l : Fin 4096)

/-- The normed input. -/
theorem in_normed (k : Fin 1024) :
    val_main_v12 (F := Ideal) x0 x1 (ix3 b l k) = normRow (fun k => x0 (ix3 b l k)) (fun k => x1 (ix1 k)) k := by
  rw [val_main_v12_apply, val_main_v9_apply, val_main_v11_apply, val_main_v10_apply, val_main_v8_apply, val_main_v7_apply, val_main_v6_apply,
    val_main_v4_apply, val_main_v2_apply, val_main_v1_apply, val_main_v3_apply, val_main_v5_apply]
  have es : ∀ j : Fin 1024, val_main_v0 (F := Ideal) x0 (idx_main_v1 (idx_main_v2 (idx_main_v8 (ix3 b l k))) j) = x0 (ix3 b l j) * x0 (ix3 b l j) := by
    intro j
    rw [val_main_v0_apply]
    have : idx_main_v1 (idx_main_v2 (idx_main_v8 (ix3 b l k))) j = ix3 b l j := by
      funext a; apply Fin.ext; fin_cases a <;> rfl
    rw [this]
    rfl
  have e0 : val_main_cst (F := Ideal) (Shape.Idx.first h_S_) = (0 : EReal) := Ideal.ofBits_zero_f32
  have eg : idx_main_v10 (idx_main_v11 (ix3 b l k)) = ix1 k := by
    funext a; apply Fin.ext; fin_cases a; rfl
  simp only [es, eg]
  rw [e0, zero_add]
  rfl

/-- A column of the combined projection. -/
theorem in_column (j : Fin 5120) :
    val_main_v13 (F := Ideal) x0 x1 x2 (ix3 b l j) = column (fun k => x0 (ix3 b l k)) (fun k => x1 (ix1 k)) (fun k => x2 (ix2 k j)) := by
  rw [val_main_v13_apply]
  unfold column
  refine Finset.sum_congr rfl fun k _ => congrArg₂ (fun x y : EReal => x * y) ?_ (congrArg x2 ?_)
  · rw [← in_normed]
    congr 1; funext a; apply Fin.ext; fin_cases a <;> rfl
  · funext a; apply Fin.ext; fin_cases a <;> rfl

/-- Column `j` of the combined projection at one position. -/
def atCol (j : Fin 5120) : EReal := column (fun k => x0 (ix3 b l k)) (fun k => x1 (ix1 k)) (fun k => x2 (ix2 k j))

/-- Feature `d` of a query head, before the norm. -/
theorem query_col (h : Fin 4) (s : Fin 2) (d : Fin 64) :
    val_main_v21 (F := Ideal) x0 x1 x2 (ix5 b l h s d) = atCol x0 x1 x2 b l ⟨(((h : ℕ) * 2 + s) * 64 + d), by omega⟩ := by
  rw [val_main_v21_apply, val_main_v14_apply]
  refine Eq.trans (congrArg (val_main_v13 (F := Ideal) x0 x1 x2) ?_) (in_column x0 x1 x2 b l _)
  funext a; apply Fin.ext
  fin_cases a
  · show (((((b : ℕ) * 4096 + l) * 4 + h) * 2 + s) * 64 + d) / 2097152 = b; omega
  · show (((((b : ℕ) * 4096 + l) * 4 + h) * 2 + s) * 64 + d) / 512 % 4096 = l; omega
  · show (((((b : ℕ) * 4096 + l) * 4 + h) * 2 + s) * 64 + d) % 512 = ((h * 2 + s) * 64 + d); omega

/-- Feature `d` of a query head, after the norm. -/
theorem query_head (h : Fin 4) (s : Fin 2) (d : Fin 64) :
    val_main_v34 (F := Ideal) x0 x1 x2 x3 (ix5 b l h s d)
      = headNorm (fun e => atCol x0 x1 x2 b l ⟨(((h : ℕ) * 2 + s) * 64 + e), by omega⟩) d * x3 (ix1 d) := by
  rw [val_main_v34_apply, val_main_v31_apply, val_main_v33_apply, val_main_v32_apply, val_main_v30_apply, val_main_v29_apply, val_main_v28_apply,
    val_main_v26_apply, val_main_v24_apply, val_main_v23_apply, val_main_v25_apply, val_main_v27_apply]
  have es : ∀ e : Fin 64, val_main_v22 (F := Ideal) x0 x1 x2 (idx_main_v23 (idx_main_v24 (idx_main_v30 (ix5 b l h s d))) e)
      = atCol x0 x1 x2 b l ⟨(((h : ℕ) * 2 + s) * 64 + e), by omega⟩ * atCol x0 x1 x2 b l ⟨(((h : ℕ) * 2 + s) * 64 + e), by omega⟩ := by
    intro e
    rw [val_main_v22_apply]
    have hi : idx_main_v23 (idx_main_v24 (idx_main_v30 (ix5 b l h s d))) e = ix5 b l h s e := by
      funext a; apply Fin.ext; fin_cases a <;> rfl
    rw [hi, query_col]
    rfl
  have e0 : val_main_cst_2 (F := Ideal) (Shape.Idx.first h_S_) = (0 : EReal) := Ideal.ofBits_zero_f32
  have eg : idx_main_v32 (idx_main_v33 (ix5 b l h s d)) = ix1 d := by
    funext a; apply Fin.ext; fin_cases a; rfl
  simp only [es, eg]
  rw [e0, zero_add, query_col]
  rfl

/-- Feature `d` of a key head, before the norm. -/
theorem key_col (h : Fin 4) (s : Fin 2) (d : Fin 64) :
    val_main_v35 (F := Ideal) x0 x1 x2 (ix5 b l h s d) = atCol x0 x1 x2 b l ⟨512 + (((h : ℕ) * 2 + s) * 64 + d), by omega⟩ := by
  rw [val_main_v35_apply, val_main_v15_apply]
  refine Eq.trans (congrArg (val_main_v13 (F := Ideal) x0 x1 x2) ?_) (in_column x0 x1 x2 b l _)
  funext a; apply Fin.ext
  fin_cases a
  · show (((((b : ℕ) * 4096 + l) * 4 + h) * 2 + s) * 64 + d) / 2097152 = b; omega
  · show (((((b : ℕ) * 4096 + l) * 4 + h) * 2 + s) * 64 + d) / 512 % 4096 = l; omega
  · show 512 + (((((b : ℕ) * 4096 + l) * 4 + h) * 2 + s) * 64 + d) % 512 = 512 + ((h * 2 + s) * 64 + d); omega

/-- Feature `d` of a key head, after the norm. -/
theorem key_head (h : Fin 4) (s : Fin 2) (d : Fin 64) :
    val_main_v48 (F := Ideal) x0 x1 x2 x4 (ix5 b l h s d)
      = headNorm (fun e => atCol x0 x1 x2 b l ⟨512 + (((h : ℕ) * 2 + s) * 64 + e), by omega⟩) d * x4 (ix1 d) := by
  rw [val_main_v48_apply, val_main_v45_apply, val_main_v47_apply, val_main_v46_apply, val_main_v44_apply, val_main_v43_apply, val_main_v42_apply,
    val_main_v40_apply, val_main_v38_apply, val_main_v37_apply, val_main_v39_apply, val_main_v41_apply]
  have es : ∀ e : Fin 64, val_main_v36 (F := Ideal) x0 x1 x2 (idx_main_v37 (idx_main_v38 (idx_main_v44 (ix5 b l h s d))) e)
      = atCol x0 x1 x2 b l ⟨512 + (((h : ℕ) * 2 + s) * 64 + e), by omega⟩ * atCol x0 x1 x2 b l ⟨512 + (((h : ℕ) * 2 + s) * 64 + e), by omega⟩ := by
    intro e
    rw [val_main_v36_apply]
    have hi : idx_main_v37 (idx_main_v38 (idx_main_v44 (ix5 b l h s d))) e = ix5 b l h s e := by
      funext a; apply Fin.ext; fin_cases a <;> rfl
    rw [hi, key_col]
    rfl
  have e0 : val_main_cst_5 (F := Ideal) (Shape.Idx.first h_S_) = (0 : EReal) := Ideal.ofBits_zero_f32
  have eg : idx_main_v46 (idx_main_v47 (ix5 b l h s d)) = ix1 d := by
    funext a; apply Fin.ext; fin_cases a; rfl
  simp only [es, eg]
  rw [e0, zero_add, key_col]
  rfl

/-- The reference's queries. -/
theorem query_ref (r : Fin 512) (n : Fin 32768) :
    val_main_v58 (F := Ideal) x0 x1 x2 x3 (ix2 r n) = queryArr x0 x1 x2 x3 r n := by
  have hi : idx_main_v54 (idx_main_v55 (ix2 r n)) = ix5 (⟨(n : ℕ) / 4096, by omega⟩ : Fin 8) (⟨(n : ℕ) % 4096, by omega⟩ : Fin 4096)
      (⟨(r : ℕ) / 128, by omega⟩ : Fin 4) (⟨(r : ℕ) / 64 % 2, by omega⟩ : Fin 2) (⟨(r : ℕ) % 64, by omega⟩ : Fin 64) := by
    funext a; apply Fin.ext
    fin_cases a
    · show ((r : ℕ) * 32768 + n) / 4096 % 8 = n / 4096; omega
    · show ((r : ℕ) * 32768 + n) % 4096 = n % 4096; omega
    · show ((r : ℕ) * 32768 + n) / 4194304 = r / 128; omega
    · show ((r : ℕ) * 32768 + n) / 2097152 % 2 = r / 64 % 2; omega
    · show ((r : ℕ) * 32768 + n) / 32768 % 64 = r % 64; omega
  rw [val_main_v58_apply, val_main_v55_apply, val_main_v54_apply, hi, val_main_v53_apply, val_main_v50_apply, val_main_v52_apply, val_main_v51_apply,
    val_main_v49_apply, query_head]
  refine (query_scale _ _).trans ?_
  unfold queryArr
  refine congrArg (fun z : Fin 64 → EReal => headNorm z _ * _) (funext fun e => ?_)
  refine congrArg (atCol x0 x1 x2 _ _) (Fin.ext ?_)
  show ((r : ℕ) / 128 * 2 + (r : ℕ) / 64 % 2) * 64 + e = (r : ℕ) / 64 * 64 + e
  omega

/-- The reference's keys. -/
theorem key_ref (n : Fin 32768) (c : Fin 512) :
    val_main_v60 (F := Ideal) x0 x1 x2 x4 (ix2 n c) = keyArr x0 x1 x2 x4 n c := by
  have hi : idx_main_v59 (ix2 n c) = ix5 (⟨(n : ℕ) / 4096, by omega⟩ : Fin 8) (⟨(n : ℕ) % 4096, by omega⟩ : Fin 4096)
      (⟨(c : ℕ) / 128, by omega⟩ : Fin 4) (⟨(c : ℕ) / 64 % 2, by omega⟩ : Fin 2) (⟨(c : ℕ) % 64, by omega⟩ : Fin 64) := by
    funext a; apply Fin.ext
    fin_cases a
    · show ((n : ℕ) * 512 + c) / 2097152 = n / 4096; omega
    · show ((n : ℕ) * 512 + c) / 512 % 4096 = n % 4096; omega
    · show ((n : ℕ) * 512 + c) / 128 % 4 = c / 128; omega
    · show ((n : ℕ) * 512 + c) / 64 % 2 = c / 64 % 2; omega
    · show ((n : ℕ) * 512 + c) % 64 = c % 64; omega
  rw [val_main_v60_apply, val_main_v59_apply, hi, key_head]
  unfold keyArr
  refine congrArg (fun z : Fin 64 → EReal => headNorm z _ * _) (funext fun e => ?_)
  refine congrArg (atCol x0 x1 x2 _ _) (Fin.ext ?_)
  show 512 + (((c : ℕ) / 128 * 2 + (c : ℕ) / 64 % 2) * 64 + (e : ℕ)) = 512 + ((c : ℕ) / 64 * 64 + e)
  omega

/-- The reference's values. -/
theorem value_ref (j : Fin 128) (h : Fin 4) (r : Fin 128) (t : Fin 256) :
    val_main_v61 (F := Ideal) x0 x1 x2 (ix4 j h r t) = valueArr x0 x1 x2 j h r t := by
  have hi : idx_main_v16 (idx_main_v56 (idx_main_v57 (ix4 j h r t))) = ix3 (⟨((j : ℕ) * 256 + t) / 4096, by omega⟩ : Fin 8)
      (⟨((j : ℕ) * 256 + t) % 4096, by omega⟩ : Fin 4096) (⟨1024 + ((h : ℕ) * 128 + r), by omega⟩ : Fin 5120) := by
    funext a; apply Fin.ext
    fin_cases a
    · show ((((j : ℕ) * 256 + t) * 4 + h) * 128 + r) / 2097152 = (j * 256 + t) / 4096; omega
    · show ((((j : ℕ) * 256 + t) * 4 + h) * 128 + r) / 512 % 4096 = (j * 256 + t) % 4096; omega
    · show 1024 + ((((j : ℕ) * 256 + t) * 4 + h) * 128 + r) % 512 = 1024 + (h * 128 + r); omega
  rw [val_main_v61_apply, val_main_v57_apply, val_main_v56_apply, val_main_v16_apply, hi]
  exact in_column x0 x1 x2 _ _ _

/-- The reference's S5 input. -/
theorem ssm_ref (n : Fin 32768) (c : Fin 512) :
    val_main_v63 (F := Ideal) x0 x1 x2 (ix2 n c) = ssmArr x0 x1 x2 n c := by
  have hi : idx_main_v18 (idx_main_v62 (ix2 n c)) = ix3 (⟨(n : ℕ) / 4096, by omega⟩ : Fin 8)
      (⟨(n : ℕ) % 4096, by omega⟩ : Fin 4096) (⟨2048 + c, by omega⟩ : Fin 5120) := by
    funext a; apply Fin.ext
    fin_cases a
    · show ((n : ℕ) * 512 + c) / 2097152 = n / 4096; omega
    · show ((n : ℕ) * 512 + c) / 512 % 4096 = n % 4096; omega
    · show 2048 + ((n : ℕ) * 512 + c) % 512 = 2048 + c; omega
  rw [val_main_v63_apply, val_main_v62_apply, val_main_v18_apply, hi]
  exact in_column x0 x1 x2 _ _ _

end Cert.Proj
-- ==== Proof.InClaims.lean ====
/- The claims of the input projection. -/
module

public import proofs.«01_k».proof.Defs
public import proofs.«01_k».proof.Proof.InArray
public import proofs.«01_k».proof.Proof.InRef

/-!
Each of the kernel's four output arrays and the reference's result beside it are one function of the arguments: `queryArr`,
`keyArr`, `valueArr` and `ssmArr`.
-/

@[expose] public section

set_option maxRecDepth 16384
set_option maxHeartbeats 2000000

noncomputable section

namespace Cert.Proj

open Idealize.ShloMosaic Idealize.ShloMosaic.TcCoe Idealize.SL.Sem

/-- The reference's arguments end as they were, and it has no semaphores. -/
theorem in_frame : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- A matrix of the queries' shape is known by its entries. -/
theorem by_entries_q (f g : Cert.Kernel3Ideal.S512x32768.Idx → EReal) (hfg : ∀ (r : Fin 512) (n : Fin 32768), f (ix2 r n) = g (ix2 r n)) : f = g := by
  funext i
  have hi : i = ix2 (i 0) (i 1) := by
    funext a; apply Fin.ext
    fin_cases a <;> rfl
  rw [hi]
  exact hfg _ _

/-- A matrix of the keys' shape is known by its entries. -/
theorem by_entries_k (f g : Cert.Kernel3Ideal.S32768x512.Idx → EReal) (hfg : ∀ (n : Fin 32768) (j : Fin 512), f (ix2 n j) = g (ix2 n j)) : f = g := by
  funext i
  have hi : i = ix2 (i 0) (i 1) := by
    funext a; apply Fin.ext
    fin_cases a <;> rfl
  rw [hi]
  exact hfg _ _

/-- An array of the values' shape is known by its entries. -/
theorem by_entries_v (f g : Cert.Kernel3Ideal.S128x4x128x256.Idx → EReal)
    (hfg : ∀ (j : Fin 128) (h : Fin 4) (r : Fin 128) (t : Fin 256), f (ix4 j h r t) = g (ix4 j h r t)) : f = g := by
  funext i
  have hi : i = ix4 (i 0) (i 1) (i 2) (i 3) := by
    funext a; apply Fin.ext
    fin_cases a <;> rfl
  rw [hi]
  exact hfg _ _ _ _

/-- The kernel's four outputs and the reference's are equal. -/
theorem in_algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N, Cert.Kernel3Ideal.Value.run_blocks m g, ?_⟩
  refine (θ_run _ _ _).mono (fun r hr c => ⟨(hr c).1.trans ?_, (hr c).2.1.trans ((Cert.Reference3Ideal.Read.val_main_v60_eq _ _ _ _).trans ?_),
    (hr c).2.2.1.trans ((Cert.Reference3Ideal.Read.val_main_v61_eq _ _ _).trans ?_),
    (hr c).2.2.2.1.trans ((Cert.Reference3Ideal.Read.val_main_v63_eq _ _ _).trans ?_), (hr c).2.2.2.2⟩) (Cert.Reference3Ideal.Value.run m' g')
  · rw [Cert.Reference3Ideal.Read.val_main_v58_eq]
    obtain ⟨h0, h1, h2, h3, h4⟩ := hargs c
    rw [h0, h1, h2, h3]
    exact by_entries_q _ _ fun r n => (query_ref _ _ _ _ r n).trans (query_array m c r n).symm
  · obtain ⟨h0, h1, h2, h3, h4⟩ := hargs c
    rw [h0, h1, h2, h4]
    exact by_entries_k _ _ fun n j => (key_ref _ _ _ _ n j).trans (key_array m c n j).symm
  · obtain ⟨h0, h1, h2, h3, h4⟩ := hargs c
    rw [h0, h1, h2]
    exact by_entries_v _ _ fun j h r t => (value_ref _ _ _ j h r t).trans (value_array m c j h r t).symm
  · obtain ⟨h0, h1, h2, h3, h4⟩ := hargs c
    rw [h0, h1, h2]
    exact by_entries_k _ _ fun n j => (ssm_ref _ _ _ n j).trans (ssm_array m c n j).symm

end Cert.Proj
-- ==== Proof.lean ====
/- The certificate. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Claims
public import proofs.«01_k».proof.Proof.OutClaims
public import proofs.«01_k».proof.Proof.InClaims

@[expose] public section

namespace Cert.Proof

open Idealize.ShloMosaic Idealize.SL.Sem

/-- The reference's frame: its arguments end as they were, and it has no semaphores. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Attn.preFacts,
  fun m ρ _ => Cert.Kernel.Gen.frame m ρ,
  fun m ρ _ => Cert.KernelIdeal.Gen.frame m ρ,
  fun m ρ _ => Cert.KernelIdeal.Gen.frame m ρ,
  frame_r, fun m ρ _ => frame_r m ρ trivial,
  fun m ρ _ => Cert.Kernel2.Gen.frame m ρ,
  fun m ρ _ => Cert.Kernel2Ideal.Gen.frame m ρ,
  Cert.Proj.out_frame,
  fun m ρ _ => Cert.Kernel3.Gen.frame m ρ,
  fun m ρ _ => Cert.Kernel3Ideal.Gen.frame m ρ,
  Cert.Proj.in_frame,
  trivial, Cert.Attn.algebraic,
  trivial, Cert.Proj.out_algebraic,
  IdealRules.named_const.statement Cert.Kernel3Ideal.κ "query_scale" .f32 0x3E38AA3B#32 (((8 * (Real.log 2))⁻¹ : ℝ) : EReal) rfl,
  Cert.Proj.in_algebraic⟩

end Cert.Proof
end
